-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S5000x4 : Shape := ⟨2, ![5000, 4]⟩
abbrev S5000 : Shape := ⟨1, ![5000]⟩
abbrev S_ : Shape := ⟨0, ![]⟩
abbrev S5120x4 : Shape := ⟨2, ![5120, 4]⟩
abbrev S5120 : Shape := ⟨1, ![5120]⟩
abbrev S5120x1 : Shape := ⟨2, ![5120, 1]⟩
abbrev S5120x5 : Shape := ⟨2, ![5120, 5]⟩
abbrev S1x5120 : Shape := ⟨2, ![1, 5120]⟩
abbrev S160x5120 : Shape := ⟨2, ![160, 5120]⟩
abbrev S320x5120 : Shape := ⟨2, ![320, 5120]⟩
abbrev S160x1 : Shape := ⟨2, ![160, 1]⟩
abbrev S16x256 : Shape := ⟨2, ![16, 256]⟩
abbrev S1024x64 : Shape := ⟨2, ![1024, 64]⟩
abbrev S1x1024 : Shape := ⟨2, ![1, 1024]⟩
abbrev S32x5 : Shape := ⟨2, ![32, 5]⟩
abbrev S32x1 : Shape := ⟨2, ![32, 1]⟩
abbrev S32x1024 : Shape := ⟨2, ![32, 1024]⟩
abbrev S128x1024 : Shape := ⟨2, ![128, 1024]⟩
abbrev S128x64 : Shape := ⟨2, ![128, 64]⟩
abbrev S64x128 : Shape := ⟨2, ![64, 128]⟩
abbrev S32x128 : Shape := ⟨2, ![32, 128]⟩
abbrev S256x1024 : Shape := ⟨2, ![256, 1024]⟩
abbrev S16x1024 : Shape := ⟨2, ![16, 1024]⟩
abbrev S8x1024 : Shape := ⟨2, ![8, 1024]⟩
abbrev S32x5120 : Shape := ⟨2, ![32, 5120]⟩
abbrev S16x5120 : Shape := ⟨2, ![16, 5120]⟩
abbrev S8x5120 : Shape := ⟨2, ![8, 5120]⟩
abbrev S4x5120 : Shape := ⟨2, ![4, 5120]⟩
abbrev S2x5120 : Shape := ⟨2, ![2, 5120]⟩
abbrev S320x8 : Shape := ⟨2, ![320, 8]⟩
abbrev S320x1 : Shape := ⟨2, ![320, 1]⟩
abbrev S1x160x1 : Shape := ⟨3, ![1, 160, 1]⟩
abbrev S1 : Shape := ⟨1, ![1]⟩
abbrev S1x1x1 : Shape := ⟨3, ![1, 1, 1]⟩
abbrev S1x5000 : Shape := ⟨2, ![1, 5000]⟩

abbrev nBuf : Space → Nat
  | .hbm => 30
  | .vmem => 10
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S_, .i32⟩
  | .hbm, ⟨3, _⟩ => ⟨S_, .f32⟩
  | .hbm, ⟨4, _⟩ => ⟨S5120x4, .f32⟩
  | .hbm, ⟨5, _⟩ => ⟨S_, .f32⟩
  | .hbm, ⟨6, _⟩ => ⟨S_, .f32⟩
  | .hbm, ⟨7, _⟩ => ⟨S5120, .f32⟩
  | .hbm, ⟨8, _⟩ => ⟨S5120x1, .f32⟩
  | .hbm, ⟨9, _⟩ => ⟨S5120, .f32⟩
  | .hbm, ⟨10, _⟩ => ⟨S5120x1, .f32⟩
  | .hbm, ⟨11, _⟩ => ⟨S5120, .f32⟩
  | .hbm, ⟨12, _⟩ => ⟨S5120x1, .f32⟩
  | .hbm, ⟨13, _⟩ => ⟨S5120, .f32⟩
  | .hbm, ⟨14, _⟩ => ⟨S5120x1, .f32⟩
  | .hbm, ⟨15, _⟩ => ⟨S5120, .f32⟩
  | .hbm, ⟨16, _⟩ => ⟨S5120x1, .f32⟩
  | .hbm, ⟨17, _⟩ => ⟨S5120x1, .f32⟩
  | .hbm, ⟨18, _⟩ => ⟨S5120x1, .f32⟩
  | .hbm, ⟨19, _⟩ => ⟨S5120x1, .f32⟩
  | .hbm, ⟨20, _⟩ => ⟨S5120x1, .f32⟩
  | .hbm, ⟨21, _⟩ => ⟨S5120x5, .f32⟩
  | .hbm, ⟨22, _⟩ => ⟨S1x5120, .f32⟩
  | .hbm, ⟨23, _⟩ => ⟨S1x5120, .f32⟩
  | .hbm, ⟨24, _⟩ => ⟨S1x5120, .f32⟩
  | .hbm, ⟨25, _⟩ => ⟨S1x5120, .f32⟩
  | .hbm, ⟨26, _⟩ => ⟨S1x5120, .f32⟩
  | .hbm, ⟨27, _⟩ => ⟨S1x5120, .i32⟩
  | .hbm, ⟨28, _⟩ => ⟨S1x5000, .i32⟩
  | .hbm, ⟨29, _⟩ => ⟨S5000, .i32⟩
  | .local _ .vmem, ⟨0, _⟩ => ⟨S5120x5, .f32⟩
  | .local _ .vmem, ⟨1, _⟩ => ⟨S1x5120, .f32⟩
  | .local _ .vmem, ⟨2, _⟩ => ⟨S1x5120, .f32⟩
  | .local _ .vmem, ⟨3, _⟩ => ⟨S1x5120, .f32⟩
  | .local _ .vmem, ⟨4, _⟩ => ⟨S1x5120, .f32⟩
  | .local _ .vmem, ⟨5, _⟩ => ⟨S1x5120, .f32⟩
  | .local _ .vmem, ⟨6, _⟩ => ⟨S1x5120, .i32⟩
  | .local _ .vmem, ⟨7, _⟩ => ⟨S160x5120, .i32⟩
  | .local _ .vmem, ⟨8, _⟩ => ⟨S320x5120, .bf16⟩
  | .local _ .vmem, ⟨9, _⟩ => ⟨S160x1, .i32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c5_i32_14 : BitVec 32 := 5#32
  let v66 : BitVec 32 := Scalar.addi c0_i32 c5_i32_14
  let c1_i32_15 : BitVec 32 := 1#32
  ⟨c0_i32, v66, c1_i32_15⟩
def k0_off1 (k0_t1 : Fin k0_t1_loop.trips) : Fin 2 → Nat :=
  let c0_29 : Index := 0#32
  let c0_i32 : BitVec 32 := 0#32
  let c1_i32_15 : BitVec 32 := 1#32
  let arg10 : BitVec 32 := Scf.iv c0_i32 c1_i32_15 k0_t1
  let c1024_i32 : BitVec 32 := 1024#32
  let v80 : BitVec 32 := Scalar.muli arg10 c1024_i32
  let v81 : Index := Scalar.indexCast v80
  ![0, v81.toNat]
@[reducible] def k0_t2_loop (k0_t1 : Fin k0_t1_loop.trips) : Scf.Loop 32 :=
  let c0_i32_35 : BitVec 32 := 0#32
  let c4_i32_34 : BitVec 32 := 4#32
  let c0_i32 : BitVec 32 := 0#32
  let c1_i32_15 : BitVec 32 := 1#32
  let arg10 : BitVec 32 := Scf.iv c0_i32 c1_i32_15 k0_t1
  let v102 : BitVec 32 := Scalar.muli c4_i32_34 arg10
  let v103 : BitVec 32 := Scalar.subi v102 c0_i32_35
  let c1_i32_37 : BitVec 32 := 1#32
  let v105 : BitVec 32 := Scalar.divsi v103 c1_i32_37
  let v106 : BitVec 32 := Scalar.muli v105 c1_i32_37
  let v107 : BitVec 32 := Scalar.addi c0_i32_35 v106
  let c1_i32_38 : BitVec 32 := 1#32
  ⟨c0_i32_35, v107, c1_i32_38⟩
def k0_off2 (k0_t1 : Fin k0_t1_loop.trips) (k0_t2 : Fin (k0_t2_loop k0_t1).trips) (c0_i32_49 : BitVec 32) : Fin 2 → Nat :=
  let c2_i32 : BitVec 32 := 2#32
  let c0_i32_35 : BitVec 32 := 0#32
  let c1_i32_38 : BitVec 32 := 1#32
  let arg11 : BitVec 32 := Scf.iv c0_i32_35 c1_i32_38 k0_t2
  let v120 : BitVec 32 := Scalar.muli c2_i32 arg11
  let c128_i32 : BitVec 32 := 128#32
  let v123 : BitVec 32 := Scalar.muli v120 c128_i32
  let v124 : BitVec 32 := Scalar.addi v123 c0_i32_49
  let v125 : Index := Scalar.indexCast v124
  let c0_50 : Index := 0#32
  ![v125.toNat, 0]
def k0_off3 (k0_t1 : Fin k0_t1_loop.trips) (k0_t2 : Fin (k0_t2_loop k0_t1).trips) : Fin 2 → Nat :=
  let c0_i32 : BitVec 32 := 0#32
  let c1_i32_15 : BitVec 32 := 1#32
  let arg10 : BitVec 32 := Scf.iv c0_i32 c1_i32_15 k0_t1
  let c32_i32_67 : BitVec 32 := 32#32
  let v372 : BitVec 32 := Scalar.muli arg10 c32_i32_67
  let v374 : Index := Scalar.indexCast v372
  let c2_i32 : BitVec 32 := 2#32
  let c0_i32_35 : BitVec 32 := 0#32
  let c1_i32_38 : BitVec 32 := 1#32
  let arg11 : BitVec 32 := Scf.iv c0_i32_35 c1_i32_38 k0_t2
  let v120 : BitVec 32 := Scalar.muli c2_i32 arg11
  let c128_i32_68 : BitVec 32 := 128#32
  let v373 : BitVec 32 := Scalar.muli v120 c128_i32_68
  let v375 : Index := Scalar.indexCast v373
  ![v374.toNat, v375.toNat]
def k0_off4 (k0_t1 : Fin k0_t1_loop.trips) (k0_t2 : Fin (k0_t2_loop k0_t1).trips) (c0_i32_70 : BitVec 32) : Fin 2 → Nat :=
  let c2_i32_47 : BitVec 32 := 2#32
  let c0_i32_35 : BitVec 32 := 0#32
  let c1_i32_38 : BitVec 32 := 1#32
  let arg11 : BitVec 32 := Scf.iv c0_i32_35 c1_i32_38 k0_t2
  let v121 : BitVec 32 := Scalar.muli c2_i32_47 arg11
  let c1_i32_48 : BitVec 32 := 1#32
  let v122 : BitVec 32 := Scalar.addi v121 c1_i32_48
  let c128_i32_69 : BitVec 32 := 128#32
  let v379 : BitVec 32 := Scalar.muli v122 c128_i32_69
  let v380 : BitVec 32 := Scalar.addi v379 c0_i32_70
  let v381 : Index := Scalar.indexCast v380
  let c0_71 : Index := 0#32
  ![v381.toNat, 0]
def k0_off5 (k0_t1 : Fin k0_t1_loop.trips) (k0_t2 : Fin (k0_t2_loop k0_t1).trips) : Fin 2 → Nat :=
  let c0_i32 : BitVec 32 := 0#32
  let c1_i32_15 : BitVec 32 := 1#32
  let arg10 : BitVec 32 := Scf.iv c0_i32 c1_i32_15 k0_t1
  let c32_i32_91 : BitVec 32 := 32#32
  let v628 : BitVec 32 := Scalar.muli arg10 c32_i32_91
  let v630 : Index := Scalar.indexCast v628
  let c2_i32_47 : BitVec 32 := 2#32
  let c0_i32_35 : BitVec 32 := 0#32
  let c1_i32_38 : BitVec 32 := 1#32
  let arg11 : BitVec 32 := Scf.iv c0_i32_35 c1_i32_38 k0_t2
  let v121 : BitVec 32 := Scalar.muli c2_i32_47 arg11
  let c1_i32_48 : BitVec 32 := 1#32
  let v122 : BitVec 32 := Scalar.addi v121 c1_i32_48
  let c128_i32_92 : BitVec 32 := 128#32
  let v629 : BitVec 32 := Scalar.muli v122 c128_i32_92
  let v631 : Index := Scalar.indexCast v629
  ![v630.toNat, v631.toNat]
def k0_off6 (k0_t1 : Fin k0_t1_loop.trips) (k0_t2 : Fin (k0_t2_loop k0_t1).trips) : Fin 2 → Nat :=
  let c0_i32_35 : BitVec 32 := 0#32
  let c1_i32_38 : BitVec 32 := 1#32
  let arg11 : BitVec 32 := Scf.iv c0_i32_35 c1_i32_38 k0_t2
  let c8_i32_95 : BitVec 32 := 8#32
  let v643 : BitVec 32 := Scalar.muli arg11 c8_i32_95
  let v644 : Index := Scalar.indexCast v643
  let c0_i32 : BitVec 32 := 0#32
  let c1_i32_15 : BitVec 32 := 1#32
  let arg10 : BitVec 32 := Scf.iv c0_i32 c1_i32_15 k0_t1
  let c1024_i32 : BitVec 32 := 1024#32
  let v80 : BitVec 32 := Scalar.muli arg10 c1024_i32
  let v645 : Index := Scalar.indexCast v80
  ![v644.toNat, v645.toNat]
@[reducible] def k0_t3_loop (k0_t1 : Fin k0_t1_loop.trips) : Scf.Loop 32 :=
  let c0_i32_35 : BitVec 32 := 0#32
  let c4_i32_34 : BitVec 32 := 4#32
  let c0_i32 : BitVec 32 := 0#32
  let c1_i32_15 : BitVec 32 := 1#32
  let arg10 : BitVec 32 := Scf.iv c0_i32 c1_i32_15 k0_t1
  let v102 : BitVec 32 := Scalar.muli c4_i32_34 arg10
  let v103 : BitVec 32 := Scalar.subi v102 c0_i32_35
  let c1_i32_37 : BitVec 32 := 1#32
  let v105 : BitVec 32 := Scalar.divsi v103 c1_i32_37
  let v106 : BitVec 32 := Scalar.muli v105 c1_i32_37
  let v107 : BitVec 32 := Scalar.addi c0_i32_35 v106
  let v104 : BitVec 32 := Scalar.addi c0_i32_35 v103
  let c1_i32_39 : BitVec 32 := 1#32
  ⟨v107, v104, c1_i32_39⟩
def k0_off7 (k0_t1 : Fin k0_t1_loop.trips) (k0_t3 : Fin (k0_t3_loop k0_t1).trips) (c0_i32_49 : BitVec 32) : Fin 2 → Nat :=
  let c2_i32 : BitVec 32 := 2#32
  let c0_i32_35 : BitVec 32 := 0#32
  let c4_i32_34 : BitVec 32 := 4#32
  let c0_i32 : BitVec 32 := 0#32
  let c1_i32_15 : BitVec 32 := 1#32
  let arg10 : BitVec 32 := Scf.iv c0_i32 c1_i32_15 k0_t1
  let v102 : BitVec 32 := Scalar.muli c4_i32_34 arg10
  let v103 : BitVec 32 := Scalar.subi v102 c0_i32_35
  let c1_i32_37 : BitVec 32 := 1#32
  let v105 : BitVec 32 := Scalar.divsi v103 c1_i32_37
  let v106 : BitVec 32 := Scalar.muli v105 c1_i32_37
  let v107 : BitVec 32 := Scalar.addi c0_i32_35 v106
  let c1_i32_39 : BitVec 32 := 1#32
  let arg11 : BitVec 32 := Scf.iv v107 c1_i32_39 k0_t3
  let v120 : BitVec 32 := Scalar.muli c2_i32 arg11
  let c128_i32 : BitVec 32 := 128#32
  let v123 : BitVec 32 := Scalar.muli v120 c128_i32
  let v124 : BitVec 32 := Scalar.addi v123 c0_i32_49
  let v125 : Index := Scalar.indexCast v124
  let c0_50 : Index := 0#32
  ![v125.toNat, 0]
def k0_off8 (k0_t1 : Fin k0_t1_loop.trips) (k0_t3 : Fin (k0_t3_loop k0_t1).trips) : Fin 2 → Nat :=
  let c0_i32 : BitVec 32 := 0#32
  let c1_i32_15 : BitVec 32 := 1#32
  let arg10 : BitVec 32 := Scf.iv c0_i32 c1_i32_15 k0_t1
  let c32_i32_67 : BitVec 32 := 32#32
  let v372 : BitVec 32 := Scalar.muli arg10 c32_i32_67
  let v374 : Index := Scalar.indexCast v372
  let c2_i32 : BitVec 32 := 2#32
  let c0_i32_35 : BitVec 32 := 0#32
  let c4_i32_34 : BitVec 32 := 4#32
  let v102 : BitVec 32 := Scalar.muli c4_i32_34 arg10
  let v103 : BitVec 32 := Scalar.subi v102 c0_i32_35
  let c1_i32_37 : BitVec 32 := 1#32
  let v105 : BitVec 32 := Scalar.divsi v103 c1_i32_37
  let v106 : BitVec 32 := Scalar.muli v105 c1_i32_37
  let v107 : BitVec 32 := Scalar.addi c0_i32_35 v106
  let c1_i32_39 : BitVec 32 := 1#32
  let arg11 : BitVec 32 := Scf.iv v107 c1_i32_39 k0_t3
  let v120 : BitVec 32 := Scalar.muli c2_i32 arg11
  let c128_i32_68 : BitVec 32 := 128#32
  let v373 : BitVec 32 := Scalar.muli v120 c128_i32_68
  let v375 : Index := Scalar.indexCast v373
  ![v374.toNat, v375.toNat]
def k0_off9 (k0_t1 : Fin k0_t1_loop.trips) (k0_t3 : Fin (k0_t3_loop k0_t1).trips) (c0_i32_70 : BitVec 32) : Fin 2 → Nat :=
  let c2_i32_47 : BitVec 32 := 2#32
  let c0_i32_35 : BitVec 32 := 0#32
  let c4_i32_34 : BitVec 32 := 4#32
  let c0_i32 : BitVec 32 := 0#32
  let c1_i32_15 : BitVec 32 := 1#32
  let arg10 : BitVec 32 := Scf.iv c0_i32 c1_i32_15 k0_t1
  let v102 : BitVec 32 := Scalar.muli c4_i32_34 arg10
  let v103 : BitVec 32 := Scalar.subi v102 c0_i32_35
  let c1_i32_37 : BitVec 32 := 1#32
  let v105 : BitVec 32 := Scalar.divsi v103 c1_i32_37
  let v106 : BitVec 32 := Scalar.muli v105 c1_i32_37
  let v107 : BitVec 32 := Scalar.addi c0_i32_35 v106
  let c1_i32_39 : BitVec 32 := 1#32
  let arg11 : BitVec 32 := Scf.iv v107 c1_i32_39 k0_t3
  let v121 : BitVec 32 := Scalar.muli c2_i32_47 arg11
  let c1_i32_48 : BitVec 32 := 1#32
  let v122 : BitVec 32 := Scalar.addi v121 c1_i32_48
  let c128_i32_69 : BitVec 32 := 128#32
  let v379 : BitVec 32 := Scalar.muli v122 c128_i32_69
  let v380 : BitVec 32 := Scalar.addi v379 c0_i32_70
  let v381 : Index := Scalar.indexCast v380
  let c0_71 : Index := 0#32
  ![v381.toNat, 0]
def k0_off10 (k0_t1 : Fin k0_t1_loop.trips) (k0_t3 : Fin (k0_t3_loop k0_t1).trips) : Fin 2 → Nat :=
  let c0_i32 : BitVec 32 := 0#32
  let c1_i32_15 : BitVec 32 := 1#32
  let arg10 : BitVec 32 := Scf.iv c0_i32 c1_i32_15 k0_t1
  let c32_i32_91 : BitVec 32 := 32#32
  let v628 : BitVec 32 := Scalar.muli arg10 c32_i32_91
  let v630 : Index := Scalar.indexCast v628
  let c2_i32_47 : BitVec 32 := 2#32
  let c0_i32_35 : BitVec 32 := 0#32
  let c4_i32_34 : BitVec 32 := 4#32
  let v102 : BitVec 32 := Scalar.muli c4_i32_34 arg10
  let v103 : BitVec 32 := Scalar.subi v102 c0_i32_35
  let c1_i32_37 : BitVec 32 := 1#32
  let v105 : BitVec 32 := Scalar.divsi v103 c1_i32_37
  let v106 : BitVec 32 := Scalar.muli v105 c1_i32_37
  let v107 : BitVec 32 := Scalar.addi c0_i32_35 v106
  let c1_i32_39 : BitVec 32 := 1#32
  let arg11 : BitVec 32 := Scf.iv v107 c1_i32_39 k0_t3
  let v121 : BitVec 32 := Scalar.muli c2_i32_47 arg11
  let c1_i32_48 : BitVec 32 := 1#32
  let v122 : BitVec 32 := Scalar.addi v121 c1_i32_48
  let c128_i32_92 : BitVec 32 := 128#32
  let v629 : BitVec 32 := Scalar.muli v122 c128_i32_92
  let v631 : Index := Scalar.indexCast v629
  ![v630.toNat, v631.toNat]
def k0_off11 (k0_t1 : Fin k0_t1_loop.trips) (k0_t3 : Fin (k0_t3_loop k0_t1).trips) : Fin 2 → Nat :=
  let c0_i32_35 : BitVec 32 := 0#32
  let c4_i32_34 : BitVec 32 := 4#32
  let c0_i32 : BitVec 32 := 0#32
  let c1_i32_15 : BitVec 32 := 1#32
  let arg10 : BitVec 32 := Scf.iv c0_i32 c1_i32_15 k0_t1
  let v102 : BitVec 32 := Scalar.muli c4_i32_34 arg10
  let v103 : BitVec 32 := Scalar.subi v102 c0_i32_35
  let c1_i32_37 : BitVec 32 := 1#32
  let v105 : BitVec 32 := Scalar.divsi v103 c1_i32_37
  let v106 : BitVec 32 := Scalar.muli v105 c1_i32_37
  let v107 : BitVec 32 := Scalar.addi c0_i32_35 v106
  let c1_i32_39 : BitVec 32 := 1#32
  let arg11 : BitVec 32 := Scf.iv v107 c1_i32_39 k0_t3
  let c8_i32_95 : BitVec 32 := 8#32
  let v643 : BitVec 32 := Scalar.muli arg11 c8_i32_95
  let v644 : Index := Scalar.indexCast v643
  let c1024_i32 : BitVec 32 := 1024#32
  let v80 : BitVec 32 := Scalar.muli arg10 c1024_i32
  let v645 : Index := Scalar.indexCast v80
  ![v644.toNat, v645.toNat]
@[reducible] def k0_t4_loop (k0_t1 : Fin k0_t1_loop.trips) : Scf.Loop 32 :=
  let c4_i32_40 : BitVec 32 := 4#32
  let c0_i32 : BitVec 32 := 0#32
  let c1_i32_15 : BitVec 32 := 1#32
  let arg10 : BitVec 32 := Scf.iv c0_i32 c1_i32_15 k0_t1
  let v110 : BitVec 32 := Scalar.muli c4_i32_40 arg10
  let c4_i32_41 : BitVec 32 := 4#32
  let v111 : BitVec 32 := Scalar.muli c4_i32_41 arg10
  let c4_i32_42 : BitVec 32 := 4#32
  let v112 : BitVec 32 := Scalar.addi v111 c4_i32_42
  let v113 : BitVec 32 := Scalar.subi v112 v110
  let c1_i32_44 : BitVec 32 := 1#32
  let v115 : BitVec 32 := Scalar.divsi v113 c1_i32_44
  let v116 : BitVec 32 := Scalar.muli v115 c1_i32_44
  let v117 : BitVec 32 := Scalar.addi v110 v116
  let c1_i32_45 : BitVec 32 := 1#32
  ⟨v110, v117, c1_i32_45⟩
def k0_off12 (k0_t1 : Fin k0_t1_loop.trips) (k0_t4 : Fin (k0_t4_loop k0_t1).trips) (c0_i32_49 : BitVec 32) : Fin 2 → Nat :=
  let c2_i32 : BitVec 32 := 2#32
  let c4_i32_40 : BitVec 32 := 4#32
  let c0_i32 : BitVec 32 := 0#32
  let c1_i32_15 : BitVec 32 := 1#32
  let arg10 : BitVec 32 := Scf.iv c0_i32 c1_i32_15 k0_t1
  let v110 : BitVec 32 := Scalar.muli c4_i32_40 arg10
  let c1_i32_45 : BitVec 32 := 1#32
  let arg11 : BitVec 32 := Scf.iv v110 c1_i32_45 k0_t4
  let v120 : BitVec 32 := Scalar.muli c2_i32 arg11
  let c128_i32 : BitVec 32 := 128#32
  let v123 : BitVec 32 := Scalar.muli v120 c128_i32
  let v124 : BitVec 32 := Scalar.addi v123 c0_i32_49
  let v125 : Index := Scalar.indexCast v124
  let c0_50 : Index := 0#32
  ![v125.toNat, 0]
def k0_off13 (k0_t1 : Fin k0_t1_loop.trips) (k0_t4 : Fin (k0_t4_loop k0_t1).trips) (c0_i32_63 : BitVec 32) : Fin 2 → Nat :=
  let c2_i32_47 : BitVec 32 := 2#32
  let c4_i32_40 : BitVec 32 := 4#32
  let c0_i32 : BitVec 32 := 0#32
  let c1_i32_15 : BitVec 32 := 1#32
  let arg10 : BitVec 32 := Scf.iv c0_i32 c1_i32_15 k0_t1
  let v110 : BitVec 32 := Scalar.muli c4_i32_40 arg10
  let c1_i32_45 : BitVec 32 := 1#32
  let arg11 : BitVec 32 := Scf.iv v110 c1_i32_45 k0_t4
  let v121 : BitVec 32 := Scalar.muli c2_i32_47 arg11
  let c1_i32_48 : BitVec 32 := 1#32
  let v122 : BitVec 32 := Scalar.addi v121 c1_i32_48
  let c128_i32_62 : BitVec 32 := 128#32
  let v343 : BitVec 32 := Scalar.muli v122 c128_i32_62
  let v344 : BitVec 32 := Scalar.addi v343 c0_i32_63
  let v345 : Index := Scalar.indexCast v344
  let c0_64 : Index := 0#32
  ![v345.toNat, 0]
def k0_off14 (k0_t1 : Fin k0_t1_loop.trips) (k0_t4 : Fin (k0_t4_loop k0_t1).trips) : Fin 2 → Nat :=
  let c4_i32_40 : BitVec 32 := 4#32
  let c0_i32 : BitVec 32 := 0#32
  let c1_i32_15 : BitVec 32 := 1#32
  let arg10 : BitVec 32 := Scf.iv c0_i32 c1_i32_15 k0_t1
  let v110 : BitVec 32 := Scalar.muli c4_i32_40 arg10
  let c1_i32_45 : BitVec 32 := 1#32
  let arg11 : BitVec 32 := Scf.iv v110 c1_i32_45 k0_t4
  let c8_i32_79 : BitVec 32 := 8#32
  let v571 : BitVec 32 := Scalar.muli arg11 c8_i32_79
  let v572 : Index := Scalar.indexCast v571
  let c1024_i32 : BitVec 32 := 1024#32
  let v80 : BitVec 32 := Scalar.muli arg10 c1024_i32
  let v573 : Index := Scalar.indexCast v80
  ![v572.toNat, v573.toNat]
@[reducible] def k0_t5_loop (k0_t1 : Fin k0_t1_loop.trips) : Scf.Loop 32 :=
  let c4_i32_40 : BitVec 32 := 4#32
  let c0_i32 : BitVec 32 := 0#32
  let c1_i32_15 : BitVec 32 := 1#32
  let arg10 : BitVec 32 := Scf.iv c0_i32 c1_i32_15 k0_t1
  let v110 : BitVec 32 := Scalar.muli c4_i32_40 arg10
  let c4_i32_41 : BitVec 32 := 4#32
  let v111 : BitVec 32 := Scalar.muli c4_i32_41 arg10
  let c4_i32_42 : BitVec 32 := 4#32
  let v112 : BitVec 32 := Scalar.addi v111 c4_i32_42
  let v113 : BitVec 32 := Scalar.subi v112 v110
  let c1_i32_44 : BitVec 32 := 1#32
  let v115 : BitVec 32 := Scalar.divsi v113 c1_i32_44
  let v116 : BitVec 32 := Scalar.muli v115 c1_i32_44
  let v117 : BitVec 32 := Scalar.addi v110 v116
  let v114 : BitVec 32 := Scalar.addi v110 v113
  let c1_i32_46 : BitVec 32 := 1#32
  ⟨v117, v114, c1_i32_46⟩
def k0_off15 (k0_t1 : Fin k0_t1_loop.trips) (k0_t5 : Fin (k0_t5_loop k0_t1).trips) (c0_i32_49 : BitVec 32) : Fin 2 → Nat :=
  let c2_i32 : BitVec 32 := 2#32
  let c4_i32_40 : BitVec 32 := 4#32
  let c0_i32 : BitVec 32 := 0#32
  let c1_i32_15 : BitVec 32 := 1#32
  let arg10 : BitVec 32 := Scf.iv c0_i32 c1_i32_15 k0_t1
  let v110 : BitVec 32 := Scalar.muli c4_i32_40 arg10
  let c4_i32_41 : BitVec 32 := 4#32
  let v111 : BitVec 32 := Scalar.muli c4_i32_41 arg10
  let c4_i32_42 : BitVec 32 := 4#32
  let v112 : BitVec 32 := Scalar.addi v111 c4_i32_42
  let v113 : BitVec 32 := Scalar.subi v112 v110
  let c1_i32_44 : BitVec 32 := 1#32
  let v115 : BitVec 32 := Scalar.divsi v113 c1_i32_44
  let v116 : BitVec 32 := Scalar.muli v115 c1_i32_44
  let v117 : BitVec 32 := Scalar.addi v110 v116
  let c1_i32_46 : BitVec 32 := 1#32
  let arg11 : BitVec 32 := Scf.iv v117 c1_i32_46 k0_t5
  let v120 : BitVec 32 := Scalar.muli c2_i32 arg11
  let c128_i32 : BitVec 32 := 128#32
  let v123 : BitVec 32 := Scalar.muli v120 c128_i32
  let v124 : BitVec 32 := Scalar.addi v123 c0_i32_49
  let v125 : Index := Scalar.indexCast v124
  let c0_50 : Index := 0#32
  ![v125.toNat, 0]
def k0_off16 (k0_t1 : Fin k0_t1_loop.trips) (k0_t5 : Fin (k0_t5_loop k0_t1).trips) (c0_i32_63 : BitVec 32) : Fin 2 → Nat :=
  let c2_i32_47 : BitVec 32 := 2#32
  let c4_i32_40 : BitVec 32 := 4#32
  let c0_i32 : BitVec 32 := 0#32
  let c1_i32_15 : BitVec 32 := 1#32
  let arg10 : BitVec 32 := Scf.iv c0_i32 c1_i32_15 k0_t1
  let v110 : BitVec 32 := Scalar.muli c4_i32_40 arg10
  let c4_i32_41 : BitVec 32 := 4#32
  let v111 : BitVec 32 := Scalar.muli c4_i32_41 arg10
  let c4_i32_42 : BitVec 32 := 4#32
  let v112 : BitVec 32 := Scalar.addi v111 c4_i32_42
  let v113 : BitVec 32 := Scalar.subi v112 v110
  let c1_i32_44 : BitVec 32 := 1#32
  let v115 : BitVec 32 := Scalar.divsi v113 c1_i32_44
  let v116 : BitVec 32 := Scalar.muli v115 c1_i32_44
  let v117 : BitVec 32 := Scalar.addi v110 v116
  let c1_i32_46 : BitVec 32 := 1#32
  let arg11 : BitVec 32 := Scf.iv v117 c1_i32_46 k0_t5
  let v121 : BitVec 32 := Scalar.muli c2_i32_47 arg11
  let c1_i32_48 : BitVec 32 := 1#32
  let v122 : BitVec 32 := Scalar.addi v121 c1_i32_48
  let c128_i32_62 : BitVec 32 := 128#32
  let v343 : BitVec 32 := Scalar.muli v122 c128_i32_62
  let v344 : BitVec 32 := Scalar.addi v343 c0_i32_63
  let v345 : Index := Scalar.indexCast v344
  let c0_64 : Index := 0#32
  ![v345.toNat, 0]
def k0_off17 (k0_t1 : Fin k0_t1_loop.trips) (k0_t5 : Fin (k0_t5_loop k0_t1).trips) : Fin 2 → Nat :=
  let c4_i32_40 : BitVec 32 := 4#32
  let c0_i32 : BitVec 32 := 0#32
  let c1_i32_15 : BitVec 32 := 1#32
  let arg10 : BitVec 32 := Scf.iv c0_i32 c1_i32_15 k0_t1
  let v110 : BitVec 32 := Scalar.muli c4_i32_40 arg10
  let c4_i32_41 : BitVec 32 := 4#32
  let v111 : BitVec 32 := Scalar.muli c4_i32_41 arg10
  let c4_i32_42 : BitVec 32 := 4#32
  let v112 : BitVec 32 := Scalar.addi v111 c4_i32_42
  let v113 : BitVec 32 := Scalar.subi v112 v110
  let c1_i32_44 : BitVec 32 := 1#32
  let v115 : BitVec 32 := Scalar.divsi v113 c1_i32_44
  let v116 : BitVec 32 := Scalar.muli v115 c1_i32_44
  let v117 : BitVec 32 := Scalar.addi v110 v116
  let c1_i32_46 : BitVec 32 := 1#32
  let arg11 : BitVec 32 := Scf.iv v117 c1_i32_46 k0_t5
  let c8_i32_79 : BitVec 32 := 8#32
  let v571 : BitVec 32 := Scalar.muli arg11 c8_i32_79
  let v572 : Index := Scalar.indexCast v571
  let c1024_i32 : BitVec 32 := 1024#32
  let v80 : BitVec 32 := Scalar.muli arg10 c1024_i32
  let v573 : Index := Scalar.indexCast v80
  ![v572.toNat, v573.toNat]
@[reducible] def k0_t6_loop : Scf.Loop 32 :=
  let c0_i32_30 : BitVec 32 := 0#32
  let c5_i32_31 : BitVec 32 := 5#32
  let v81 : BitVec 32 := Scalar.addi c0_i32_30 c5_i32_31
  let c1_i32_32 : BitVec 32 := 1#32
  ⟨c0_i32_30, v81, c1_i32_32⟩
def k0_off18 (k0_t6 : Fin k0_t6_loop.trips) : Fin 2 → Nat :=
  let c0_i32_30 : BitVec 32 := 0#32
  let c1_i32_32 : BitVec 32 := 1#32
  let arg11 : BitVec 32 := Scf.iv c0_i32_30 c1_i32_32 k0_t6
  let c32_i32_60 : BitVec 32 := 32#32
  let v142 : BitVec 32 := Scalar.muli arg11 c32_i32_60
  let v143 : Index := Scalar.indexCast v142
  let c0_61 : Index := 0#32
  ![v143.toNat, 0]
def k0_off19 (k0_t6 : Fin k0_t6_loop.trips) : Fin 2 → Nat :=
  let c0_i32_30 : BitVec 32 := 0#32
  let c1_i32_32 : BitVec 32 := 1#32
  let arg11 : BitVec 32 := Scf.iv c0_i32_30 c1_i32_32 k0_t6
  let c32_i32_62 : BitVec 32 := 32#32
  let v145 : BitVec 32 := Scalar.muli arg11 c32_i32_62
  let v146 : Index := Scalar.indexCast v145
  let c0_63 : Index := 0#32
  ![v146.toNat, 0]
@[reducible] def k0_t7_loop : Scf.Loop 32 :=
  let c0_i32_45 : BitVec 32 := 0#32
  let c5_i32_46 : BitVec 32 := 5#32
  let v112 : BitVec 32 := Scalar.addi c0_i32_45 c5_i32_46
  let c1_i32_47 : BitVec 32 := 1#32
  ⟨c0_i32_45, v112, c1_i32_47⟩
def k0_off20 (k0_t7 : Fin k0_t7_loop.trips) : Fin 2 → Nat :=
  let c0_i32_45 : BitVec 32 := 0#32
  let c1_i32_47 : BitVec 32 := 1#32
  let arg11 : BitVec 32 := Scf.iv c0_i32_45 c1_i32_47 k0_t7
  let c32_i32_60 : BitVec 32 := 32#32
  let v142 : BitVec 32 := Scalar.muli arg11 c32_i32_60
  let v143 : Index := Scalar.indexCast v142
  let c0_61 : Index := 0#32
  ![v143.toNat, 0]
def k0_off21 (k0_t7 : Fin k0_t7_loop.trips) : Fin 2 → Nat :=
  let c0_i32_45 : BitVec 32 := 0#32
  let c1_i32_47 : BitVec 32 := 1#32
  let arg11 : BitVec 32 := Scf.iv c0_i32_45 c1_i32_47 k0_t7
  let c32_i32_62 : BitVec 32 := 32#32
  let v145 : BitVec 32 := Scalar.muli arg11 c32_i32_62
  let v146 : Index := Scalar.indexCast v145
  let c0_63 : Index := 0#32
  ![v146.toNat, 0]
@[reducible] def k0_t8_loop : Scf.Loop 32 :=
  let c0_i32_22 : BitVec 32 := 0#32
  let c5_i32_23 : BitVec 32 := 5#32
  let v74 : BitVec 32 := Scalar.addi c0_i32_22 c5_i32_23
  let c1_i32_24 : BitVec 32 := 1#32
  ⟨c0_i32_22, v74, c1_i32_24⟩
def k0_off22 (k0_t8 : Fin k0_t8_loop.trips) : Fin 2 → Nat :=
  let c0_i32_22 : BitVec 32 := 0#32
  let c1_i32_24 : BitVec 32 := 1#32
  let arg10 : BitVec 32 := Scf.iv c0_i32_22 c1_i32_24 k0_t8
  let c32_i32_29 : BitVec 32 := 32#32
  let v80 : BitVec 32 := Scalar.muli arg10 c32_i32_29
  let v81 : Index := Scalar.indexCast v80
  let c0_30 : Index := 0#32
  ![v81.toNat, 0]
def k0_off23 (k0_t8 : Fin k0_t8_loop.trips) : Fin 2 → Nat :=
  let c0_i32_22 : BitVec 32 := 0#32
  let c1_i32_24 : BitVec 32 := 1#32
  let arg10 : BitVec 32 := Scf.iv c0_i32_22 c1_i32_24 k0_t8
  let c32_i32_31 : BitVec 32 := 32#32
  let v83 : BitVec 32 := Scalar.muli arg10 c32_i32_31
  let v84 : Index := Scalar.indexCast v83
  let c0_32 : Index := 0#32
  ![v84.toNat, 0]
abbrev stage0_0 : Fin 1 → Memref sig .tc .vmem S5120x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1 : Shape := ⟨1, ![1]⟩

abbrev nBuf : Space → Nat
  | .hbm => 130
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S5000x4, .f32⟩
  | 15 => ⟨S5000x1, .f32⟩
  | 16 => ⟨S5000, .f32⟩
  | 17 => ⟨S5000x1, .f32⟩
  | 18 => ⟨S5000, .f32⟩
  | 19 => ⟨S5000x1, .f32⟩
  | 20 => ⟨S5000, .f32⟩
  | 21 => ⟨S5000x1, .f32⟩
  | 22 => ⟨S5000, .f32⟩
  | 23 => ⟨S5000, .f32⟩
  | 24 => ⟨S5000, .f32⟩
  | 25 => ⟨S5000, .f32⟩
  | 26 => ⟨S_, .i1⟩
  | 27 => ⟨S5000, .i1⟩
  | 28 => ⟨S_, .i1⟩
  | 29 => ⟨S5000, .i1⟩
  | 30 => ⟨S5000, .f32⟩
  | 31 => ⟨S5000, .f32⟩
  | 32 => ⟨S5000, .f32⟩
  | 33 => ⟨S5000, .f32⟩
  | 34 => ⟨S5000, .f32⟩
  | 35 => ⟨S5000, .i1⟩
  | 36 => ⟨S5000, .i1⟩
  | 37 => ⟨S5000, .i1⟩
  | 38 => ⟨S_, .i1⟩
  | 39 => ⟨S_, .i1⟩
  | 40 => ⟨S5000, .i1⟩
  | 41 => ⟨S5000, .i32⟩
  | 42 => ⟨S_, .i1⟩
  | 43 => ⟨S_, .i32⟩
  | 44 => ⟨S_, .i1⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S1, .f32⟩
  | 52 => ⟨S_, .f32⟩
  | 53 => ⟨S5000, .f32⟩
  | 54 => ⟨S5000, .f32⟩
  | 55 => ⟨S_, .i32⟩
  | 56 => ⟨S_, .i1⟩
  | 57 => ⟨S_, .i32⟩
  | 58 => ⟨S_, .i32⟩
  | 59 => ⟨S_, .i32⟩
  | 60 => ⟨S1, .f32⟩
  | 61 => ⟨S_, .f32⟩
  | 62 => ⟨S5000, .f32⟩
  | 63 => ⟨S5000, .f32⟩
  | 64 => ⟨S_, .i32⟩
  | 65 => ⟨S_, .i1⟩
  | 66 => ⟨S_, .i32⟩
  | 67 => ⟨S_, .i32⟩
  | 68 => ⟨S_, .i32⟩
  | 69 => ⟨S1, .f32⟩
  | 70 => ⟨S_, .f32⟩
  | 71 => ⟨S5000, .f32⟩
  | 72 => ⟨S5000, .f32⟩
  | 73 => ⟨S_, .i32⟩
  | 74 => ⟨S_, .i1⟩
  | 75 => ⟨S_, .i32⟩
  | 76 => ⟨S_, .i32⟩
  | 77 => ⟨S_, .i32⟩
  | 78 => ⟨S1, .f32⟩
  | 79 => ⟨S_, .f32⟩
  | 80 => ⟨S5000, .f32⟩
  | 81 => ⟨S5000, .f32⟩
  | 82 => ⟨S5000, .f32⟩
  | 83 => ⟨S5000, .f32⟩
  | 84 => ⟨S5000, .f32⟩
  | 85 => ⟨S5000, .f32⟩
  | 86 => ⟨S5000, .f32⟩
  | 87 => ⟨S_, .i32⟩
  | 88 => ⟨S_, .i1⟩
  | 89 => ⟨S_, .i32⟩
  | 90 => ⟨S_, .i32⟩
  | 91 => ⟨S_, .i32⟩
  | 92 => ⟨S1, .f32⟩
  | 93 => ⟨S_, .f32⟩
  | 94 => ⟨S5000, .f32⟩
  | 95 => ⟨S5000, .f32⟩
  | 96 => ⟨S5000, .f32⟩
  | 97 => ⟨S5000, .f32⟩
  | 98 => ⟨S_, .f32⟩
  | 99 => ⟨S5000, .f32⟩
  | 100 => ⟨S5000, .i1⟩
  | 101 => ⟨S5000, .i1⟩
  | 102 => ⟨S_, .i32⟩
  | 103 => ⟨S_, .i1⟩
  | 104 => ⟨S_, .i32⟩
  | 105 => ⟨S_, .i32⟩
  | 106 => ⟨S_, .i32⟩
  | 107 => ⟨S1, .i32⟩
  | 108 => ⟨S_, .i1⟩
  | 109 => ⟨S5000, .i1⟩
  | 110 => ⟨S_, .i32⟩
  | 111 => ⟨S_, .i1⟩
  | 112 => ⟨S_, .i32⟩
  | 113 => ⟨S_, .i32⟩
  | 114 => ⟨S_, .i32⟩
  | 115 => ⟨S1, .i32⟩
  | 116 => ⟨S_, .i1⟩
  | 117 => ⟨S5000, .i1⟩
  | 118 => ⟨S_, .i1⟩
  | 119 => ⟨S5000, .i1⟩
  | 120 => ⟨S_, .i32⟩
  | 121 => ⟨S5000, .i32⟩
  | 122 => ⟨S5000, .i1⟩
  | 123 => ⟨S_, .i32⟩
  | 124 => ⟨S5000, .i32⟩
  | 125 => ⟨S5000, .i32⟩
  | 126 => ⟨S5000, .i32⟩
  | 127 => ⟨S5000x1, .i32⟩
  | _ => ⟨S5000x4, .f32⟩

abbrev hbmTy0_1 (i : Nat) : BufTy := match i % 128 with
  | 0 => ⟨S5000, .i1⟩
  | 1 => ⟨S5000, .i32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev main_v22_6 : Ref sig .tc := ⟨.hbm, 36, rfl⟩
abbrev main_while0c_v32 : Ref sig .tc := ⟨.hbm, 37, rfl⟩
abbrev main_while0c_c_12 : Ref sig .tc := ⟨.hbm, 38, rfl⟩
abbrev main_while0c_v33 : Ref sig .tc := ⟨.hbm, 39, rfl⟩
abbrev main_while0b_v32 : Ref sig .tc := ⟨.hbm, 40, rfl⟩
abbrev main_while0b_call1_v0 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_v1_0 : Ref sig .tc := ⟨.hbm, 44, rfl⟩
abbrev main_while0b_v33 : Ref sig .tc := ⟨.hbm, 45, rfl⟩
abbrev main_while0b_c_12 : Ref sig .tc := ⟨.hbm, 46, rfl⟩
abbrev main_while0b_v34 : Ref sig .tc := ⟨.hbm, 47, rfl⟩
abbrev main_while0b_c_13 : Ref sig .tc := ⟨.hbm, 48, rfl⟩
abbrev main_while0b_v35 : Ref sig .tc := ⟨.hbm, 49, rfl⟩
abbrev main_while0b_v36 : Ref sig .tc := ⟨.hbm, 50, rfl⟩
abbrev main_while0b_v37 : Ref sig .tc := ⟨.hbm, 51, rfl⟩
abbrev main_while0b_v38 : Ref sig .tc := ⟨.hbm, 52, rfl⟩
abbrev main_while0b_v39 : Ref sig .tc := ⟨.hbm, 53, rfl⟩
abbrev main_while0b_v40 : Ref sig .tc := ⟨.hbm, 54, rfl⟩
abbrev main_while0b_c_14 : Ref sig .tc := ⟨.hbm, 55, rfl⟩
abbrev main_while0b_v41 : Ref sig .tc := ⟨.hbm, 56, rfl⟩
abbrev main_while0b_c_15 : Ref sig .tc := ⟨.hbm, 57, rfl⟩
abbrev main_while0b_v42 : Ref sig .tc := ⟨.hbm, 58, rfl⟩
abbrev main_while0b_v43 : Ref sig .tc := ⟨.hbm, 59, rfl⟩
abbrev main_while0b_v44 : Ref sig .tc := ⟨.hbm, 60, rfl⟩
abbrev main_while0b_v45 : Ref sig .tc := ⟨.hbm, 61, rfl⟩
abbrev main_while0b_v46 : Ref sig .tc := ⟨.hbm, 62, rfl⟩
abbrev main_while0b_v47 : Ref sig .tc := ⟨.hbm, 63, rfl⟩
abbrev main_while0b_c_16 : Ref sig .tc := ⟨.hbm, 64, rfl⟩
abbrev main_while0b_v48 : Ref sig .tc := ⟨.hbm, 65, rfl⟩
abbrev main_while0b_c_17 : Ref sig .tc := ⟨.hbm, 66, rfl⟩
abbrev main_while0b_v49 : Ref sig .tc := ⟨.hbm, 67, rfl⟩
abbrev main_while0b_v50 : Ref sig .tc := ⟨.hbm, 68, rfl⟩
abbrev main_while0b_v51 : Ref sig .tc := ⟨.hbm, 69, rfl⟩
abbrev main_while0b_v52 : Ref sig .tc := ⟨.hbm, 70, rfl⟩
abbrev main_while0b_v53 : Ref sig .tc := ⟨.hbm, 71, rfl⟩
abbrev main_while0b_v54 : Ref sig .tc := ⟨.hbm, 72, rfl⟩
abbrev main_while0b_c_18 : Ref sig .tc := ⟨.hbm, 73, rfl⟩
abbrev main_while0b_v55 : Ref sig .tc := ⟨.hbm, 74, rfl⟩
abbrev main_while0b_c_19 : Ref sig .tc := ⟨.hbm, 75, rfl⟩
abbrev main_while0b_v56 : Ref sig .tc := ⟨.hbm, 76, rfl⟩
abbrev main_while0b_v57 : Ref sig .tc := ⟨.hbm, 77, rfl⟩
abbrev main_while0b_v58 : Ref sig .tc := ⟨.hbm, 78, rfl⟩
abbrev main_while0b_v59 : Ref sig .tc := ⟨.hbm, 79, rfl⟩
abbrev main_while0b_v60 : Ref sig .tc := ⟨.hbm, 80, rfl⟩
abbrev main_while0b_v61 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_v66 : Ref sig .tc := ⟨.hbm, 86, rfl⟩
abbrev main_while0b_c_20 : Ref sig .tc := ⟨.hbm, 87, rfl⟩
abbrev main_while0b_v67 : Ref sig .tc := ⟨.hbm, 88, rfl⟩
abbrev main_while0b_c_21 : Ref sig .tc := ⟨.hbm, 89, rfl⟩
abbrev main_while0b_v68 : Ref sig .tc := ⟨.hbm, 90, rfl⟩
abbrev main_while0b_v69 : Ref sig .tc := ⟨.hbm, 91, rfl⟩
abbrev main_while0b_v70 : Ref sig .tc := ⟨.hbm, 92, rfl⟩
abbrev main_while0b_v71 : Ref sig .tc := ⟨.hbm, 93, rfl⟩
abbrev main_while0b_v72 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_cst : Ref sig .tc := ⟨.hbm, 98, rfl⟩
abbrev main_while0b_v76 : Ref sig .tc := ⟨.hbm, 99, rfl⟩
abbrev main_while0b_v77 : Ref sig .tc := ⟨.hbm, 100, rfl⟩
abbrev main_while0b_v78 : Ref sig .tc := ⟨.hbm, 101, rfl⟩
abbrev main_while0b_c_22 : Ref sig .tc := ⟨.hbm, 102, rfl⟩
abbrev main_while0b_v79 : Ref sig .tc := ⟨.hbm, 103, rfl⟩
abbrev main_while0b_c_23 : Ref sig .tc := ⟨.hbm, 104, rfl⟩
abbrev main_while0b_v80 : Ref sig .tc := ⟨.hbm, 105, rfl⟩
abbrev main_while0b_v81 : Ref sig .tc := ⟨.hbm, 106, rfl⟩
abbrev main_while0b_v82 : Ref sig .tc := ⟨.hbm, 107, rfl⟩
abbrev main_while0b_c_24 : Ref sig .tc := ⟨.hbm, 108, rfl⟩
abbrev main_while0b_v83 : Ref sig .tc := ⟨.hbm, 109, rfl⟩
abbrev main_while0b_c_25 : Ref sig .tc := ⟨.hbm, 110, rfl⟩
abbrev main_while0b_v84 : Ref sig .tc := ⟨.hbm, 111, rfl⟩
abbrev main_while0b_c_26 : Ref sig .tc := ⟨.hbm, 112, rfl⟩
abbrev main_while0b_v85 : Ref sig .tc := ⟨.hbm, 113, rfl⟩
abbrev main_while0b_v86 : Ref sig .tc := ⟨.hbm, 114, rfl⟩
abbrev main_while0b_v87 : Ref sig .tc := ⟨.hbm, 115, rfl⟩
abbrev main_while0b_c_27 : Ref sig .tc := ⟨.hbm, 116, rfl⟩
abbrev main_while0b_v88 : Ref sig .tc := ⟨.hbm, 117, rfl⟩
abbrev main_c_3 : Ref sig .tc := ⟨.hbm, 118, rfl⟩
abbrev main_v23 : Ref sig .tc := ⟨.hbm, 119, rfl⟩
abbrev main_c_4 : Ref sig .tc := ⟨.hbm, 120, rfl⟩
abbrev main_v24 : Ref sig .tc := ⟨.hbm, 121, rfl⟩
abbrev main_v25 : Ref sig .tc := ⟨.hbm, 122, rfl⟩
abbrev main_c_5 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩

abbrev nD : Nat := 1
abbrev τ : Topo := Topo.v7x

variable {F : FTy → Type} [FloatOps F]
-- ==== Proof.Tile.lean ====
/-
  What one trip of the two inner loops of the table build stores, written with the blocks' own functions.

  A trip takes up to eight blocks of 32 boxes against a tile of 1024 boxes. `fwdM` marks the pairs (row box, column
  box) in which the row box suppresses the column box, `bwdM` those in which the column box suppresses the row box.
  `fwdWords` packs eight blocks of marks along the rows into words, `bwdWords` packs four along the columns.
-/
module

public import proofs.«01_k».proof.Proof.Gen.KernelIdeal.Skeleton
public import proofs.«01_k».proof.Proof.Gen.KernelIdeal.Loops
public import proofs.«01_k».proof.Proof.Gen.KernelIdeal.Launch

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The overlap ratio of every row box of a block with every column box of a tile. -/
def iouB (x1 y1 x2 y2 : Vec F S1x1024 .f32) (bj : Vec F S32x5 .f32) : FVec F S32x1024 .f32 :=
  k0_pay6 (k0_pay175 x1) (k0_pay176 y1) (k0_pay177 x2) (k0_pay178 y2) (k0_pay180 x1 y1 x2 y2) bj

/-- Whether the row box comes before the column box: a larger score, or the same score and a smaller index. -/
def befB (s : Vec F S1x1024 .f32) (iidx : IVec S1x1024 32) (row0 : BitVec 32) (bj : Vec F S32x5 .f32) : IVec S32x1024 1 :=
  have sj : FVec F S32x1024 .f32 := broadcastTo S32x1024 (extractStridedSlice S32x1 ![0, 4] (k0_pay5 bj) slices_S32x5_o0_4_S32x1) broadcasts_S32x1_S32x1024
  have si : FVec F S32x1024 .f32 := broadcastTo S32x1024 (k0_pay179 s) broadcasts_S1x1024_S32x1024
  have j : IVec S32x1024 32 := broadcastTo S32x1024 (addi (iota .tc S32x1 32 [0] iota_S32x1_d0_w32) (broadcast S32x1 row0)) broadcasts_S32x1_S32x1024
  have i : IVec S32x1024 32 := broadcastTo S32x1024 iidx broadcasts_S1x1024_S32x1024
  ori (cmpf .ogt sj si) (andi (cmpf .oeq sj si) (cmpi .slt j i))

/-- The marks "the row box suppresses the column box" of one block, as zeros and ones. -/
def fwdM (x1 y1 x2 y2 s : Vec F S1x1024 .f32) (iidx : IVec S1x1024 32) (row0 : BitVec 32) (bj : Vec F S32x5 .f32) : FVec F S32x1024 .bf16 :=
  k0_pay9 (iouB x1 y1 x2 y2 bj) (befB s iidx row0 bj) (Scalar.ofBits .f32 0x3F000000#32)

/-- The marks "the column box suppresses the row box" of one block, as zeros and ones. -/
def bwdM (x1 y1 x2 y2 s : Vec F S1x1024 .f32) (iidx : IVec S1x1024 32) (row0 : BitVec 32) (bj : Vec F S32x5 .f32) : FVec F S32x1024 .bf16 :=
  k0_pay10 (iouB x1 y1 x2 y2 bj) (befB s iidx row0 bj) (Scalar.ofBits .f32 0x3F000000#32)

/-- Eight blocks of marks packed along the rows: word `r` of a column holds the marks of rows `32 r … 32 r + 31`. -/
def fwdWords (v45 : FVec F S16x256 .bf16) (m0 m1 m2 m3 m4 m5 m6 m7 : FVec F S32x1024 .bf16) : IVec S8x1024 32 :=
  have m : FVec F S256x1024 .bf16 := concatenate S256x1024 0 [⟨S32x1024, m0⟩, ⟨S32x1024, m1⟩, ⟨S32x1024, m2⟩, ⟨S32x1024, m3⟩, ⟨S32x1024, m4⟩, ⟨S32x1024, m5⟩, ⟨S32x1024, m6⟩, ⟨S32x1024, m7⟩] concatenates_S32x1024_S32x1024_S32x1024_S32x1024_S32x1024_S32x1024_S32x1024_S32x1024_S256x1024_d0
  have h : IVec S16x1024 32 := fptoui 32 (matmul dot_S16x256_S256x1024_S16x1024_1_0_0_1_n_n none v45 m (constant S16x1024 .f32 0x00000000#32))
  shapeCast S8x1024 (ori (extractStridedSlice S8x1024 ![0, 0] h slices_S16x1024_o0_0_S8x1024) (shli (extractStridedSlice S8x1024 ![8, 0] h slices_S16x1024_o8_0_S8x1024) (broadcast S8x1024 16#32))) shapeCasts_S8x1024_S8x1024

/-- Four blocks of marks packed along the columns: word `r` of a row box holds the marks of columns `32 r … 32 r + 31`. -/
def bwdWords (v65 : FVec F S1024x64 .bf16) (m0 m1 m2 m3 : FVec F S32x1024 .bf16) : IVec S32x128 32 :=
  have m : FVec F S128x1024 .bf16 := concatenate S128x1024 0 [⟨S32x1024, m0⟩, ⟨S32x1024, m1⟩, ⟨S32x1024, m2⟩, ⟨S32x1024, m3⟩] concatenates_S32x1024_S32x1024_S32x1024_S32x1024_S128x1024_d0
  have h : IVec S64x128 32 := fptoui 32 (transpose S64x128 [1, 0] (matmul dot_S128x1024_S1024x64_S128x64_1_0_0_1_n_n none m v65 (constant S128x64 .f32 0x00000000#32)) transposes_S128x64_p1_0_S64x128)
  shapeCast S32x128 (ori (extractStridedSlice S32x128 ![0, 0] h slices_S64x128_o0_0_S32x128) (shli (extractStridedSlice S32x128 ![32, 0] h slices_S64x128_o32_0_S32x128) (broadcast S32x128 16#32))) shapeCasts_S32x128_S32x128

/-- The block of 32 boxes at row offset `off` of the box table. -/
abbrev blk {arg0 : Memref sig .tc .vmem S5120x5 .f32} (X : BufTy.Contents (Elt F) arg0.view.ty) (off : Fin 2 → ℕ)
    (h : ∀ a, off a + S32x5.size a ≤ S5120x5.size a) : Vec F S32x5 .f32 :=
  View.readAt (Elt F) arg0.view (Rect.unit (s := S5120x5) off S32x5.size h).toLoadRect X

/-- A trip of the first inner loop: both directions of eight blocks are stored, the marks packed along the rows into the
    tile's columns, the marks packed along the columns into the tile's words. -/
theorem trip2 (𝒱 : Variants) (c : Dev nD) (bd : Option 𝒱.V) (arg0 : Memref sig .tc .vmem S5120x5 .f32) (harg0 : arg0.IsWhole) (arg1 : Memref sig .tc .vmem S1x5120 .f32) (harg1 : arg1.IsWhole) (arg2 : Memref sig .tc .vmem S1x5120 .f32) (harg2 : arg2.IsWhole) (arg3 : Memref sig .tc .vmem S1x5120 .f32) (harg3 : arg3.IsWhole)
    (arg4 : Memref sig .tc .vmem S1x5120 .f32) (harg4 : arg4.IsWhole) (arg5 : Memref sig .tc .vmem S1x5120 .f32) (harg5 : arg5.IsWhole) (arg6 : Memref sig .tc .vmem S1x5120 .i32) (harg6 : arg6.IsWhole) (arg7 : Memref sig .tc .vmem S160x5120 .i32) (harg7 : arg7.IsWhole) (arg8 : Memref sig .tc .vmem S320x5120 .bf16) (harg8 : arg8.IsWhole)
    (arg9 : Memref sig .tc .vmem S160x1 .i32) (harg9 : arg9.IsWhole) (v45 : FVec F S16x256 .bf16) (v65 : FVec F S1024x64 .bf16) (c0_i32 c1_i32_15 : BitVec 32) (k0_t1 : Fin k0_t1_loop.trips)
    (arg10 : BitVec 32) (v82 v85 v88 v91 v94 : Vec F S1x1024 .f32) (X : BufTy.Contents (Elt F) arg0.view.ty) (k : Fin (k0_t2_loop k0_t1).trips) (acc : BitVec 32) :
    tripL_k0_t2 (F := F) 𝒱 c bd arg0 harg0 arg1 harg1 arg2 harg2 arg3 harg3 arg4 harg4 arg5 harg5 arg6 harg6 arg7 harg7 arg8 harg8 arg9 harg9 v45 v65 c0_i32 c1_i32_15 k0_t1 arg10 v82 v85 v88 v91 v94 X k acc =
    [⟨Rect.unit (s := S160x5120) (k0_off6 k0_t1 k) ![8, 1024] (k0_off6_inb k0_t1 k), fwdWords v45
          (fwdM v82 v85 v88 v91 v94 (k0_pay181 c0_i32 c1_i32_15 k0_t1) (Scalar.addi (Scalar.muli (Scalar.muli 2#32 (Scf.iv 0#32 1#32 k)) 128#32) 0#32) (blk X (k0_off2 k0_t1 k 0#32) (k0_off2_inb k0_t1 k 0)))
          (fwdM v82 v85 v88 v91 v94 (k0_pay181 c0_i32 c1_i32_15 k0_t1) (Scalar.addi (Scalar.muli (Scalar.muli 2#32 (Scf.iv 0#32 1#32 k)) 128#32) 32#32) (blk X (k0_off2 k0_t1 k 32#32) (k0_off2_inb k0_t1 k 1)))
          (fwdM v82 v85 v88 v91 v94 (k0_pay181 c0_i32 c1_i32_15 k0_t1) (Scalar.addi (Scalar.muli (Scalar.muli 2#32 (Scf.iv 0#32 1#32 k)) 128#32) 64#32) (blk X (k0_off2 k0_t1 k 64#32) (k0_off2_inb k0_t1 k 2)))
          (fwdM v82 v85 v88 v91 v94 (k0_pay181 c0_i32 c1_i32_15 k0_t1) (Scalar.addi (Scalar.muli (Scalar.muli 2#32 (Scf.iv 0#32 1#32 k)) 128#32) 96#32) (blk X (k0_off2 k0_t1 k 96#32) (k0_off2_inb k0_t1 k 3)))
          (fwdM v82 v85 v88 v91 v94 (k0_pay181 c0_i32 c1_i32_15 k0_t1) (Scalar.addi (Scalar.muli (Scalar.addi (Scalar.muli 2#32 (Scf.iv 0#32 1#32 k)) 1#32) 128#32) 0#32) (blk X (k0_off4 k0_t1 k 0#32) (k0_off4_inb k0_t1 k 0)))
          (fwdM v82 v85 v88 v91 v94 (k0_pay181 c0_i32 c1_i32_15 k0_t1) (Scalar.addi (Scalar.muli (Scalar.addi (Scalar.muli 2#32 (Scf.iv 0#32 1#32 k)) 1#32) 128#32) 32#32) (blk X (k0_off4 k0_t1 k 32#32) (k0_off4_inb k0_t1 k 1)))
          (fwdM v82 v85 v88 v91 v94 (k0_pay181 c0_i32 c1_i32_15 k0_t1) (Scalar.addi (Scalar.muli (Scalar.addi (Scalar.muli 2#32 (Scf.iv 0#32 1#32 k)) 1#32) 128#32) 64#32) (blk X (k0_off4 k0_t1 k 64#32) (k0_off4_inb k0_t1 k 2)))
          (fwdM v82 v85 v88 v91 v94 (k0_pay181 c0_i32 c1_i32_15 k0_t1) (Scalar.addi (Scalar.muli (Scalar.addi (Scalar.muli 2#32 (Scf.iv 0#32 1#32 k)) 1#32) 128#32) 96#32) (blk X (k0_off4 k0_t1 k 96#32) (k0_off4_inb k0_t1 k 3)))⟩,
     ⟨Rect.unit (s := S160x5120) (k0_off5 k0_t1 k) ![32, 128] (k0_off5_inb k0_t1 k), bwdWords v65
          (bwdM v82 v85 v88 v91 v94 (k0_pay181 c0_i32 c1_i32_15 k0_t1) (Scalar.addi (Scalar.muli (Scalar.addi (Scalar.muli 2#32 (Scf.iv 0#32 1#32 k)) 1#32) 128#32) 0#32) (blk X (k0_off4 k0_t1 k 0#32) (k0_off4_inb k0_t1 k 0)))
          (bwdM v82 v85 v88 v91 v94 (k0_pay181 c0_i32 c1_i32_15 k0_t1) (Scalar.addi (Scalar.muli (Scalar.addi (Scalar.muli 2#32 (Scf.iv 0#32 1#32 k)) 1#32) 128#32) 32#32) (blk X (k0_off4 k0_t1 k 32#32) (k0_off4_inb k0_t1 k 1)))
          (bwdM v82 v85 v88 v91 v94 (k0_pay181 c0_i32 c1_i32_15 k0_t1) (Scalar.addi (Scalar.muli (Scalar.addi (Scalar.muli 2#32 (Scf.iv 0#32 1#32 k)) 1#32) 128#32) 64#32) (blk X (k0_off4 k0_t1 k 64#32) (k0_off4_inb k0_t1 k 2)))
          (bwdM v82 v85 v88 v91 v94 (k0_pay181 c0_i32 c1_i32_15 k0_t1) (Scalar.addi (Scalar.muli (Scalar.addi (Scalar.muli 2#32 (Scf.iv 0#32 1#32 k)) 1#32) 128#32) 96#32) (blk X (k0_off4 k0_t1 k 96#32) (k0_off4_inb k0_t1 k 3)))⟩,
     ⟨Rect.unit (s := S160x5120) (k0_off3 k0_t1 k) ![32, 128] (k0_off3_inb k0_t1 k), bwdWords v65
          (bwdM v82 v85 v88 v91 v94 (k0_pay181 c0_i32 c1_i32_15 k0_t1) (Scalar.addi (Scalar.muli (Scalar.muli 2#32 (Scf.iv 0#32 1#32 k)) 128#32) 0#32) (blk X (k0_off2 k0_t1 k 0#32) (k0_off2_inb k0_t1 k 0)))
          (bwdM v82 v85 v88 v91 v94 (k0_pay181 c0_i32 c1_i32_15 k0_t1) (Scalar.addi (Scalar.muli (Scalar.muli 2#32 (Scf.iv 0#32 1#32 k)) 128#32) 32#32) (blk X (k0_off2 k0_t1 k 32#32) (k0_off2_inb k0_t1 k 1)))
          (bwdM v82 v85 v88 v91 v94 (k0_pay181 c0_i32 c1_i32_15 k0_t1) (Scalar.addi (Scalar.muli (Scalar.muli 2#32 (Scf.iv 0#32 1#32 k)) 128#32) 64#32) (blk X (k0_off2 k0_t1 k 64#32) (k0_off2_inb k0_t1 k 2)))
          (bwdM v82 v85 v88 v91 v94 (k0_pay181 c0_i32 c1_i32_15 k0_t1) (Scalar.addi (Scalar.muli (Scalar.muli 2#32 (Scf.iv 0#32 1#32 k)) 128#32) 96#32) (blk X (k0_off2 k0_t1 k 96#32) (k0_off2_inb k0_t1 k 3)))⟩] := by
  unfold tripL_k0_t2 trip_k0_t2
  rfl

/-- A trip of the second inner loop: only the marks packed along the rows. -/
theorem trip4 (𝒱 : Variants) (c : Dev nD) (bd : Option 𝒱.V) (arg0 : Memref sig .tc .vmem S5120x5 .f32) (harg0 : arg0.IsWhole) (arg1 : Memref sig .tc .vmem S1x5120 .f32) (harg1 : arg1.IsWhole) (arg2 : Memref sig .tc .vmem S1x5120 .f32) (harg2 : arg2.IsWhole) (arg3 : Memref sig .tc .vmem S1x5120 .f32) (harg3 : arg3.IsWhole)
    (arg4 : Memref sig .tc .vmem S1x5120 .f32) (harg4 : arg4.IsWhole) (arg5 : Memref sig .tc .vmem S1x5120 .f32) (harg5 : arg5.IsWhole) (arg6 : Memref sig .tc .vmem S1x5120 .i32) (harg6 : arg6.IsWhole) (arg7 : Memref sig .tc .vmem S160x5120 .i32) (harg7 : arg7.IsWhole) (arg8 : Memref sig .tc .vmem S320x5120 .bf16) (harg8 : arg8.IsWhole)
    (arg9 : Memref sig .tc .vmem S160x1 .i32) (harg9 : arg9.IsWhole) (v45 : FVec F S16x256 .bf16) (v65 : FVec F S1024x64 .bf16) (c0_i32 c1_i32_15 : BitVec 32) (k0_t1 : Fin k0_t1_loop.trips)
    (v82 v85 v88 v91 v94 : Vec F S1x1024 .f32) (v110 : BitVec 32) (X : BufTy.Contents (Elt F) arg0.view.ty) (k : Fin (k0_t4_loop k0_t1).trips) (acc : BitVec 32) :
    tripL_k0_t4 (F := F) 𝒱 c bd arg0 harg0 arg1 harg1 arg2 harg2 arg3 harg3 arg4 harg4 arg5 harg5 arg6 harg6 arg7 harg7 arg8 harg8 arg9 harg9 v45 v65 c0_i32 c1_i32_15 k0_t1 v82 v85 v88 v91 v94 v110 X k acc =
    [⟨Rect.unit (s := S160x5120) (k0_off14 k0_t1 k) ![8, 1024] (k0_off14_inb k0_t1 k), fwdWords v45
          (fwdM v82 v85 v88 v91 v94 (k0_pay181 c0_i32 c1_i32_15 k0_t1) (Scalar.addi (Scalar.muli (Scalar.muli 2#32 (Scf.iv v110 1#32 k)) 128#32) 0#32) (blk X (k0_off12 k0_t1 k 0#32) (k0_off12_inb k0_t1 k 0)))
          (fwdM v82 v85 v88 v91 v94 (k0_pay181 c0_i32 c1_i32_15 k0_t1) (Scalar.addi (Scalar.muli (Scalar.muli 2#32 (Scf.iv v110 1#32 k)) 128#32) 32#32) (blk X (k0_off12 k0_t1 k 32#32) (k0_off12_inb k0_t1 k 1)))
          (fwdM v82 v85 v88 v91 v94 (k0_pay181 c0_i32 c1_i32_15 k0_t1) (Scalar.addi (Scalar.muli (Scalar.muli 2#32 (Scf.iv v110 1#32 k)) 128#32) 64#32) (blk X (k0_off12 k0_t1 k 64#32) (k0_off12_inb k0_t1 k 2)))
          (fwdM v82 v85 v88 v91 v94 (k0_pay181 c0_i32 c1_i32_15 k0_t1) (Scalar.addi (Scalar.muli (Scalar.muli 2#32 (Scf.iv v110 1#32 k)) 128#32) 96#32) (blk X (k0_off12 k0_t1 k 96#32) (k0_off12_inb k0_t1 k 3)))
          (fwdM v82 v85 v88 v91 v94 (k0_pay181 c0_i32 c1_i32_15 k0_t1) (Scalar.addi (Scalar.muli (Scalar.addi (Scalar.muli 2#32 (Scf.iv v110 1#32 k)) 1#32) 128#32) 0#32) (blk X (k0_off13 k0_t1 k 0#32) (k0_off13_inb k0_t1 k 0)))
          (fwdM v82 v85 v88 v91 v94 (k0_pay181 c0_i32 c1_i32_15 k0_t1) (Scalar.addi (Scalar.muli (Scalar.addi (Scalar.muli 2#32 (Scf.iv v110 1#32 k)) 1#32) 128#32) 32#32) (blk X (k0_off13 k0_t1 k 32#32) (k0_off13_inb k0_t1 k 1)))
          (fwdM v82 v85 v88 v91 v94 (k0_pay181 c0_i32 c1_i32_15 k0_t1) (Scalar.addi (Scalar.muli (Scalar.addi (Scalar.muli 2#32 (Scf.iv v110 1#32 k)) 1#32) 128#32) 64#32) (blk X (k0_off13 k0_t1 k 64#32) (k0_off13_inb k0_t1 k 2)))
          (fwdM v82 v85 v88 v91 v94 (k0_pay181 c0_i32 c1_i32_15 k0_t1) (Scalar.addi (Scalar.muli (Scalar.addi (Scalar.muli 2#32 (Scf.iv v110 1#32 k)) 1#32) 128#32) 96#32) (blk X (k0_off13 k0_t1 k 96#32) (k0_off13_inb k0_t1 k 3)))⟩] := by
  unfold tripL_k0_t4 trip_k0_t4
  rfl

end Cert.Proof.KernelIdeal

end
-- ==== Proof.Mask.lean ====
/-
  The relation the kernel tabulates, and one block's marks as that relation.

  A box is a row of five extended reals: the two corners and the score. `suppresses X j i` says that box `j` of the
  table `X` overlaps box `i` by more than half and comes before it, by a larger score or by the same score and a smaller
  index.
-/
module
public import proofs.«01_k».proof.Proof.Tile
public import Idealize.ShloMosaic.Lib.ValueIdx
public import Idealize.ShloMosaic.Lib.Pointwise
public import Idealize.ShloMosaic.Lib.WordArith
public import Idealize.ShloMosaic.Lib.WordArith.Masks
@[expose] public section
noncomputable section
namespace Cert.Proof.Rel
open Idealize.ShloMosaic

/-- A box's area as the programs compute it. -/
def area (a : Fin 5 → EReal) : EReal := (a 2 - a 0) * (a 3 - a 1)
/-- The overlap of two boxes: the product of the two extents' absolute values. -/
def inter (a b : Fin 5 → EReal) : EReal :=
  FloatOps.absf (F := Ideal) (φ := .f32) (min (a 2) (b 2) - max (a 0) (b 0)) * FloatOps.absf (F := Ideal) (φ := .f32) (max (a 3) (b 3) - min (a 1) (b 1))
/-- The overlap over the union. -/
def iou (a b : Fin 5 → EReal) : EReal := Ideal.div (inter a b) (area a + area b - inter a b)
/-- The two boxes overlap by more than half. -/
def over (a b : Fin 5 → EReal) : Prop := Ideal.ofBits .f32 0x3F000000#32 < iou a b
/-- Box `j` comes before box `i`. -/
def before (X : ℕ → Fin 5 → EReal) (j i : ℕ) : Prop := X i 4 < X j 4 ∨ (X j 4 = X i 4 ∧ j < i)
/-- Box `j` suppresses box `i` when it is kept. -/
def suppresses (X : ℕ → Fin 5 → EReal) (j i : ℕ) : Prop := over (X j) (X i) ∧ before X j i

theorem inter_comm (a b : Fin 5 → EReal) : inter a b = inter b a := by
  unfold inter; rw [min_comm (a 2), max_comm (a 0), max_comm (a 3), min_comm (a 1)]
/-- Overlapping is symmetric. -/
theorem over_comm (a b : Fin 5 → EReal) : over a b ↔ over b a := by
  unfold over iou; rw [inter_comm, add_comm]
/-- Of two different boxes exactly one comes before the other. -/
theorem before_iff (X : ℕ → Fin 5 → EReal) {j i : ℕ} (h : j ≠ i) : ¬ before X j i ↔ before X i j := by
  unfold before
  rcases lt_trichotomy (X j 4) (X i 4) with h1 | h1 | h1
  · simp [h1, h1.ne, h1.ne', not_lt_of_gt h1]
  · simp [h1]; omega
  · simp [h1, h1.ne, h1.ne', not_lt_of_gt h1]

end Cert.Proof.Rel

namespace Cert.Proof.KernelIdeal
open Cert.KernelIdeal Cert.KernelIdeal.Gen Cert.Proof.Rel
open Idealize.ShloMosaic Idealize.ShloMosaic.TcCoe Idealize.ShloMosaic.Tactic

/-- A one-bit word widened and read as a float is one or zero. -/
theorem bit_float (p : Bool) : (FloatOps.sitofp (F := Ideal) FTy.f32 (BitVec.setWidth 32 (BitVec.ofBool p)) : EReal) = if p then 1 else 0 := by
  cases p
  · show ((((0 : ℤ) : ℝ)) : EReal) = _; simp
  · show ((((1 : ℤ) : ℝ)) : EReal) = _; simp

theorem cmpi_slt_ofNat (a b : ℕ) (ha : a < 5120) (hb : b < 5120) :
    IntOp.cmpi .slt (BitVec.ofNat 32 a) (BitVec.ofNat 32 b) = BitVec.ofBool (decide (a < b)) := by
  simp only [IntOp.cmpi, BitVec.slt]
  congr 1
  rw [BitVec.toInt_eq_toNat_of_lt, BitVec.toInt_eq_toNat_of_lt] <;> simp only [BitVec.toNat_ofNat]
  · congr 1; simp only [Nat.mod_eq_of_lt (show a < 2 ^ 32 by omega), Nat.mod_eq_of_lt (show b < 2 ^ 32 by omega), Nat.cast_lt]
  · omega
  · omega

variable (X : ℕ → Fin 5 → EReal) (t : Fin k0_t1_loop.trips) (T R : ℕ) (x1 y1 x2 y2 s : Vec Ideal S1x1024 .f32) (bj : Vec Ideal S32x5 .f32)

/-- The tile's rows `x1 … s` hold the boxes from `T` on. -/
structure TileOf : Prop where
  x1 : ∀ q : Fin 1024, x1 (ix2 0 q) = X (T + q) 0
  y1 : ∀ q : Fin 1024, y1 (ix2 0 q) = X (T + q) 1
  x2 : ∀ q : Fin 1024, x2 (ix2 0 q) = X (T + q) 2
  y2 : ∀ q : Fin 1024, y2 (ix2 0 q) = X (T + q) 3
  s : ∀ q : Fin 1024, s (ix2 0 q) = X (T + q) 4

/-- The block `bj` holds the 32 boxes from `R` on. -/
def BlockOf : Prop := ∀ (r : Fin 32) (k : Fin 5), bj (ix2 r k) = X (R + r) k

variable {X t T R x1 y1 x2 y2 s bj}

theorem trips_t1 : k0_t1_loop.trips = 5 := by decide

theorem iv_t1 (t : Fin k0_t1_loop.trips) : Scalar.muli (Scf.iv 0#32 1#32 t) 1024#32 = BitVec.ofNat 32 (1024 * t) := by
  revert t; decide

open Classical in
/-- One block's forward marks: the row box suppresses the column box. -/
theorem fwdM_apply (hT : TileOf X T x1 y1 x2 y2 s) (hB : BlockOf X R bj) (hTt : T = 1024 * t) (row0 : BitVec 32) (hR : row0 = BitVec.ofNat 32 R) (hR' : R + 32 ≤ 5120)
    (r : Fin 32) (q : Fin 1024) :
    fwdM x1 y1 x2 y2 s (k0_pay181 0#32 1#32 t) row0 bj (ix2 r q) = if suppresses X (R + r) (T + q) then (1 : EReal) else 0 := by
  have ht : (t : ℕ) < 5 := t.isLt
  pointwise [fwdM, iouB, befB, k0_pay5, k0_pay6, k0_pay8, k0_pay9, k0_pay175, k0_pay176, k0_pay177, k0_pay178, k0_pay179, k0_pay180, k0_pay181]
  simp only [hT.x1, hT.y1, hT.x2, hT.y2, hT.s, hB r, iv_t1, hR, IntOp.addi, ← BitVec.ofNat_add]
  rw [cmpi_slt_ofNat _ _ (by omega) (by omega)]
  simp only [IntOp.andi, IntOp.ori, BitVec.ofBool_and_ofBool, BitVec.ofBool_or_ofBool, bit_float]
  refine if_congr ?_ rfl rfl
  rw [Nat.add_comm (r : ℕ) R, show (q : ℕ) + 1024 * t = T + q by omega]
  simp only [Bool.and_eq_true, Bool.or_eq_true, decide_eq_true_eq]
  exact Iff.rfl

open Classical in
/-- One block's backward marks: the column box suppresses the row box. -/
theorem bwdM_apply (hT : TileOf X T x1 y1 x2 y2 s) (hB : BlockOf X R bj) (hTt : T = 1024 * t) (row0 : BitVec 32) (hR : row0 = BitVec.ofNat 32 R) (hR' : R + 32 ≤ T)
    (r : Fin 32) (q : Fin 1024) :
    bwdM x1 y1 x2 y2 s (k0_pay181 0#32 1#32 t) row0 bj (ix2 r q) = if suppresses X (T + q) (R + r) then (1 : EReal) else 0 := by
  have ht : (t : ℕ) < 5 := t.isLt
  pointwise [bwdM, iouB, befB, k0_pay5, k0_pay6, k0_pay8, k0_pay10, k0_pay175, k0_pay176, k0_pay177, k0_pay178, k0_pay179, k0_pay180, k0_pay181]
  simp only [hT.x1, hT.y1, hT.x2, hT.y2, hT.s, hB r, iv_t1, hR, IntOp.addi, ← BitVec.ofNat_add]
  rw [cmpi_slt_ofNat _ _ (by omega) (by omega)]
  simp only [IntOp.andi, IntOp.ori, IntOp.xori, show (1#1 : BitVec 1) = BitVec.ofBool true from rfl, BitVec.ofBool_and_ofBool, BitVec.ofBool_or_ofBool, BitVec.ofBool_xor_ofBool, bit_float]
  refine if_congr ?_ rfl rfl
  rw [Nat.add_comm (r : ℕ) R, show (q : ℕ) + 1024 * t = T + q by omega]
  simp only [Bool.and_eq_true, Bool.or_eq_true, decide_eq_true_eq, Bool.xor_true, Bool.not_eq_true', Bool.or_eq_false_iff, Bool.and_eq_false_iff, decide_eq_false_iff_not]
  unfold suppresses
  rw [over_comm (X (T + q)), ← before_iff X (show R + r ≠ T + q by omega)]
  unfold before
  rw [not_or, not_and_or]
  exact Iff.rfl

end Cert.Proof.KernelIdeal
end
-- ==== Proof.Bits.lean ====
/-
  Packing marks into words by a weighted sum.

  A sum of distinct powers of two over the set marks of sixteen places is the number whose bits are the marks. The
  weight of place `k` in half-word `w + H h` is `2 ^ (k mod 16)` when `k` lies in the sixteen places from `32 w + 16 h` on,
  and zero otherwise; so the weighted sum over all places is the half-word's number, and two half-words joined by a shift
  make the word of 32 places.
-/
module
public import Idealize.ShloMosaic.PureOps.Ideal
public import Idealize.ShloMosaic.Lib.ValueIdx
@[expose] public section
noncomputable section
namespace Cert.Proof.Bits
open Idealize.ShloMosaic
open Classical

/-- The number whose first `n` bits are the marks from place `a` on. -/
def packed (m : ℕ → Prop) (a n : ℕ) : ℕ := ∑ b ∈ Finset.range n, if m (a + b) then 2 ^ b else 0

theorem packed_lt (m : ℕ → Prop) (a n : ℕ) : packed m a n < 2 ^ n := by
  induction n with
  | zero => simp [packed]
  | succ n ih =>
    unfold packed at ih ⊢
    rw [Finset.sum_range_succ, pow_succ]
    split_ifs <;> omega

/-- Its bits are the marks. -/
theorem testBit_packed (m : ℕ → Prop) (a n b : ℕ) : (packed m a n).testBit b = decide (b < n ∧ m (a + b)) := by
  induction n with
  | zero => simp [packed]
  | succ n ih =>
    have hlt := packed_lt m a n
    unfold packed at ih hlt ⊢
    rw [Finset.sum_range_succ]
    by_cases hm : m (a + n)
    · rw [if_pos hm, Nat.add_comm, show 2 ^ n = 2 ^ n * 1 by simp, Nat.two_pow_add_eq_or_of_lt hlt, Nat.testBit_or, ih, mul_one, Nat.testBit_two_pow]
      by_cases hb : b = n
      · subst hb; simp [hm]
      · simp only [show decide (n = b) = false by simp; omega, Bool.false_or]
        congr 1; rw [show b < n ↔ b < n + 1 by omega]
    · rw [if_neg hm, Nat.add_zero, ih]
      congr 1; apply propext; constructor
      · rintro ⟨h, h'⟩; exact ⟨by omega, h'⟩
      · rintro ⟨h, h'⟩
        refine ⟨?_, h'⟩
        by_contra hn
        exact hm (by rwa [show b = n by omega] at h')

/-- The weight of place `k` in half-word `r` of `H` words of two halves each. -/
def weight (H k r : ℕ) : ℕ := if k / 32 + H * (k / 16 % 2) = r then 2 ^ (k % 16) else 0

/-- The weighted sum of the marks is the half-word's number. -/
theorem sum_weight (m : ℕ → Prop) (H w h : ℕ) (hw : w < H) (hh : h < 2) :
    (∑ k ∈ Finset.range (32 * H), if m k then weight H k (w + H * h) else 0) = packed m (32 * w + 16 * h) 16 := by
  have hinj : Set.InjOn (fun b => 32 * w + 16 * h + b) (Finset.range 16 : Set ℕ) := fun a _ b _ e => by simpa using e
  have : packed m (32 * w + 16 * h) 16 = ∑ k ∈ (Finset.range 16).image (fun b => 32 * w + 16 * h + b), if m k then weight H k (w + H * h) else 0 := by
    rw [Finset.sum_image hinj]
    refine Finset.sum_congr rfl fun b hb => ?_
    have hb' := Finset.mem_range.mp hb
    have e1 : (32 * w + 16 * h + b) / 32 = w := by omega
    have e2 : (32 * w + 16 * h + b) / 16 % 2 = h := by omega
    have e3 : (32 * w + 16 * h + b) % 16 = b := by omega
    simp only [weight, e1, e2, e3, if_true]
  rw [this]
  symm
  apply Finset.sum_subset
  · intro k hk
    obtain ⟨b, hb, rfl⟩ := Finset.mem_image.mp hk
    have := Finset.mem_range.mp hb
    exact Finset.mem_range.mpr (by omega)
  · intro k hk hn
    have hk' := Finset.mem_range.mp hk
    split_ifs with hm
    · rw [weight, if_neg]
      intro e
      apply hn
      have hk32 : k / 32 < H := by omega
      have h2 : k / 16 % 2 < 2 := by omega
      have hq : k / 16 % 2 = h := by
        generalize hp : k / 16 % 2 = p at *
        have : p = 0 ∨ p = 1 := by omega
        have : h = 0 ∨ h = 1 := by omega
        rcases ‹p = 0 ∨ p = 1› with rfl | rfl <;> rcases ‹h = 0 ∨ h = 1› with rfl | rfl <;> omega
      have hq' : k / 32 = w := by rw [hq] at e; exact Nat.add_right_cancel e
      exact Finset.mem_image.mpr ⟨k % 16, Finset.mem_range.mpr (by omega), by show 32 * w + 16 * h + k % 16 = k; omega⟩
    · rfl

/-- The same sum on the ideal matrix unit's extended reals. -/
theorem ideal_sum (m : ℕ → Prop) (H w h : ℕ) (hw : w < H) (hh : h < 2) (K : ℕ) (hK : K = 32 * H) (f : Fin K → EReal)
    (hf : ∀ k, f k = if m k then ((weight H k (w + H * h) : ℕ) : EReal) else 0) :
    (∑ k, f k) = ((packed m (32 * w + 16 * h) 16 : ℕ) : EReal) := by
  subst hK
  rw [← sum_weight m H w h hw hh, Finset.sum_range, Nat.cast_sum]
  refine Finset.sum_congr rfl fun k _ => ?_
  rw [hf k]; split_ifs <;> simp

/-- Reading a small natural number as an unsigned word. -/
theorem fptoui_nat (n : ℕ) (h : n < 2 ^ 32) : Ideal.fptoui 32 ((n : ℕ) : EReal) = BitVec.ofNat 32 n := by
  have e : ((n : ℕ) : EReal) = ((n : ℝ) : EReal) := rfl
  rw [e, Ideal.fptoui, Ideal.toIntClamped_coe, if_pos (by positivity)]
  have : (⌊(n : ℝ)⌋ : ℤ) = n := by simp
  rw [this, min_eq_right (by push_cast; omega), max_eq_right (by omega)]
  rfl

/-- Two half-words joined: the bits of the word are the 32 marks. -/
theorem join_bits (m : ℕ → Prop) (a b : ℕ) (hb : b < 32) :
    (IntOp.ori (BitVec.ofNat 32 (packed m a 16)) (IntOp.shli .vector (BitVec.ofNat 32 (packed m (a + 16) 16)) 16#32)).getLsbD b = decide (m (a + b)) := by
  have h1 := packed_lt m a 16
  have h2 := packed_lt m (a + 16) 16
  have e : IntOp.shli .vector (BitVec.ofNat 32 (packed m (a + 16) 16)) 16#32 = BitVec.ofNat 32 (packed m (a + 16) 16) <<< 16 := by
    unfold IntOp.shli; rfl
  rw [e]
  unfold IntOp.ori
  rw [BitVec.getLsbD_or, BitVec.getLsbD_shiftLeft, BitVec.getLsbD_ofNat, BitVec.getLsbD_ofNat, testBit_packed, testBit_packed]
  by_cases hb16 : b < 16
  · simp [hb, hb16]
  · have : a + 16 + (b - 16) = a + b := by omega
    have h' : b - 16 < 16 := by omega
    simp [hb, hb16, this, h', show 16 ≤ b by omega, show b - 16 < 32 by omega]

end Cert.Proof.Bits
end
-- ==== Proof.Pack.lean ====
/-
  The matrices of powers of two, and the words the two packing products make.
-/
module
public import proofs.«01_k».proof.Proof.Tile
public import proofs.«01_k».proof.Proof.Bits
public import Idealize.ShloMosaic.Lib.Pointwise
public import Idealize.ShloMosaic.Lib.MatmulPlain
@[expose] public section
noncomputable section
namespace Cert.Proof.KernelIdeal
open Cert.KernelIdeal Cert.KernelIdeal.Gen Cert.Proof.Bits
open scoped Classical
open Idealize.ShloMosaic Idealize.ShloMosaic.TcCoe Idealize.ShloMosaic.Tactic

/-- Shifting a small number right. -/
theorem shrsi_nat (k e : ℕ) (hk : k < 2 ^ 31) (he : e < 32) : IntOp.shrsi .vector (BitVec.ofNat 32 k) (BitVec.ofNat 32 e) = BitVec.ofNat 32 (k / 2 ^ e) := by
  unfold IntOp.shrsi
  have he' : (BitVec.ofNat 32 e).toNat = e := by simp; omega
  rw [if_pos (by rw [he']; exact he), BitVec.sshiftRight_eq', he', BitVec.sshiftRight_eq_of_msb_false]
  · apply BitVec.eq_of_toNat_eq
    have : k / 2 ^ e ≤ k := Nat.div_le_self _ _
    simp only [BitVec.toNat_ushiftRight, BitVec.toNat_ofNat, Nat.shiftRight_eq_div_pow]
    rw [Nat.mod_eq_of_lt (show k < 2 ^ 32 by omega), Nat.mod_eq_of_lt (show k / 2 ^ e < 2 ^ 32 by omega)]
  · rw [BitVec.msb_eq_false_iff_two_mul_lt]; simp only [BitVec.toNat_ofNat]; rw [Nat.mod_eq_of_lt (by omega)]; omega

theorem andi_nat (k e : ℕ) (hk : k < 2 ^ 31) (he : e < 32) : IntOp.andi (BitVec.ofNat 32 k) (BitVec.ofNat 32 (2 ^ e - 1)) = BitVec.ofNat 32 (k % 2 ^ e) := by
  unfold IntOp.andi
  apply BitVec.eq_of_toNat_eq
  have h1 : 2 ^ e ≤ 2 ^ 31 := Nat.pow_le_pow_right (by decide) (by omega)
  have : k % 2 ^ e ≤ k := Nat.mod_le _ _
  simp only [BitVec.toNat_and, BitVec.toNat_ofNat]
  rw [Nat.mod_eq_of_lt (show k < 2 ^ 32 by omega), Nat.mod_eq_of_lt (show 2 ^ e - 1 < 2 ^ 32 by omega), Nat.mod_eq_of_lt (show k % 2 ^ e < 2 ^ 32 by omega), Nat.and_two_pow_sub_one_eq_mod]

theorem shli_one (e : ℕ) (he : e < 32) : IntOp.shli .vector 1#32 (BitVec.ofNat 32 e) = BitVec.ofNat 32 (2 ^ e) := by
  unfold IntOp.shli
  have he' : (BitVec.ofNat 32 e).toNat = e := by simp; omega
  rw [if_pos (by rw [he']; exact he), BitVec.shiftLeft_eq', he']
  apply BitVec.eq_of_toNat_eq
  simp only [BitVec.toNat_shiftLeft, BitVec.toNat_ofNat, Nat.shiftLeft_eq, one_mul]
  rw [Nat.mod_eq_of_lt (show 1 < 2 ^ 32 by omega), one_mul]

theorem cmpi_eq_nat (a b : ℕ) (ha : a < 2 ^ 32) (hb : b < 2 ^ 32) : IntOp.cmpi .eq (BitVec.ofNat 32 a) (BitVec.ofNat 32 b) = BitVec.ofBool (decide (a = b)) := by
  simp only [IntOp.cmpi]
  congr 1
  rw [Bool.eq_iff_iff, beq_iff_eq, decide_eq_true_eq]
  constructor
  · intro h
    have := congrArg BitVec.toNat h
    simpa only [BitVec.toNat_ofNat, Nat.mod_eq_of_lt ha, Nat.mod_eq_of_lt hb] using this
  · rintro rfl; rfl

/-- An entry of a packing matrix, as the kernel computes it, is the weight. -/
theorem weight_scalar (H k r : ℕ) (hH : H ≤ 160) (hk : k < 5120) (hr : r < 5120) :
    Scalar.select (IntOp.cmpi .eq (IntOp.addi (IntOp.shrsi .vector (BitVec.ofNat 32 k) 5#32) (IntOp.muli (BitVec.ofNat 32 H) (IntOp.andi (IntOp.shrsi .vector (BitVec.ofNat 32 k) 4#32) 1#32))) (BitVec.ofNat 32 r))
      (FloatOps.uitofp (F := Ideal) .f32 (IntOp.shli .vector 1#32 (IntOp.andi (BitVec.ofNat 32 k) 15#32)))
      (0 : EReal) = ((weight H k r : ℕ) : EReal) := by
  rw [show IntOp.shrsi .vector (BitVec.ofNat 32 k) 5#32 = _ from shrsi_nat k 5 (by omega) (by omega), show IntOp.shrsi .vector (BitVec.ofNat 32 k) 4#32 = _ from shrsi_nat k 4 (by omega) (by omega), show IntOp.andi (BitVec.ofNat 32 k) 15#32 = _ from andi_nat k 4 (by omega) (by omega),
    show IntOp.andi (BitVec.ofNat 32 (k / 2 ^ 4)) 1#32 = _ from andi_nat (k / 2 ^ 4) 1 (by omega) (by omega), shli_one _ (by omega)]
  unfold IntOp.addi IntOp.muli
  rw [← BitVec.ofNat_mul, ← BitVec.ofNat_add]
  have hm : H * (k / 2 ^ 4 % 2 ^ 1) ≤ 160 * 1 := Nat.mul_le_mul hH (by omega)
  rw [cmpi_eq_nat _ _ (by omega) (by omega)]
  unfold weight
  have e4 : (2 : ℕ) ^ 4 = 16 := rfl
  have e5 : (2 : ℕ) ^ 5 = 32 := rfl
  have e1 : (2 : ℕ) ^ 1 = 2 := rfl
  simp only [e4, e5, e1]
  by_cases h : k / 32 + H * (k / 16 % 2) = r
  · rw [if_pos h, decide_eq_true h]
    show (((BitVec.ofNat 32 (2 ^ (k % 16))).toNat : ℝ) : EReal) = _
    have : 2 ^ (k % 16) < 2 ^ 32 := Nat.pow_lt_pow_right (by decide) (by omega)
    rw [BitVec.toNat_ofNat, Nat.mod_eq_of_lt this]; rfl
  · rw [if_neg h, decide_eq_false h]
    exact (Nat.cast_zero (R := EReal)).symm

/-- The matrix packing eight blocks of rows. -/
theorem pw_apply (r : Fin 16) (k : Fin 256) :
    (k0_pay191 (F := Ideal) k0_pay189 k0_pay190 (Scalar.ofBits .f32 0x00000000#32)) (ix2 r k) = ((weight 8 k r : ℕ) : EReal) := by
  pointwise [k0_pay191, k0_pay189, k0_pay190]
  exact weight_scalar 8 k r (by omega) (by omega) (by omega)

/-- The matrix packing a tile's columns. -/
theorem pwt_apply (k : Fin 1024) (r : Fin 64) :
    (k0_pay192 (F := Ideal)) (ix2 k r) = ((weight 32 k r : ℕ) : EReal) := by
  pointwise [k0_pay192]
  exact weight_scalar 32 k r (by omega) (by omega) (by omega)

/-- The matrix packing all the boxes. -/
theorem wt_apply (r : Fin 320) (k : Fin 5120) :
    (k0_pay188 (F := Ideal)) (ix2 r k) = ((weight 160 k r : ℕ) : EReal) := by
  pointwise [k0_pay188]
  exact weight_scalar 160 k r (by omega) (by omega) (by omega)

/-- A block holds the marks of the 32 rows from `a` on. -/
def Marks (m : ℕ → ℕ → Prop) (a : ℕ) (x : FVec Ideal S32x1024 .bf16) : Prop :=
  ∀ (l : Fin 32) (q : Fin 1024) (k : ℕ), k = a + l → x (ix2 l q) = if m k q then (1 : EReal) else 0

theorem weigh (p : Prop) (w x : EReal) (h : x = if p then 1 else 0) : w * x = if p then w else 0 := by
  rw [h]; split_ifs <;> simp

theorem weigh' (p : Prop) (w x : EReal) (h : x = if p then 1 else 0) : x * w = if p then w else 0 := by
  rw [mul_comm, weigh p w x h]

theorem half_word (m : ℕ → Prop) (a : ℕ) : FloatOps.fptoui (F := Ideal) (φ := .f32) 32 ((packed m a 16 : ℕ) : EReal) = BitVec.ofNat 32 (packed m a 16) :=
  fptoui_nat _ (lt_trans (packed_lt m a 16) (by norm_num))

/-- The words packed along the rows: bit `b` of word `r` in column `q` is the mark of row `32 r + b`. -/
theorem fwdWords_bit (v45 : FVec Ideal S16x256 .bf16) (hv : ∀ (r : Fin 16) (k : Fin 256), v45 (ix2 r k) = ((weight 8 k r : ℕ) : EReal)) (m : ℕ → ℕ → Prop) (m0 m1 m2 m3 m4 m5 m6 m7 : FVec Ideal S32x1024 .bf16)
    (h0 : Marks m 0 m0) (h1 : Marks m 32 m1) (h2 : Marks m 64 m2) (h3 : Marks m 96 m3) (h4 : Marks m 128 m4) (h5 : Marks m 160 m5) (h6 : Marks m 192 m6) (h7 : Marks m 224 m7)
    (r : Fin 8) (q : Fin 1024) (b : ℕ) (hb : b < 32) :
    (fwdWords v45 m0 m1 m2 m3 m4 m5 m6 m7 (ix2 r q)).getLsbD b = decide (m (32 * r + b) q) := by
  pointwise [fwdWords]
  have key : ∀ (h : ℕ) (hh : h < 2) (f : Fin 256 → EReal), (∀ x, f x = if m x q then ((weight 8 x (r + 8 * h) : ℕ) : EReal) else 0) →
      (∑ x, f x) = ((packed (fun k => m k q) (32 * r + 16 * h) 16 : ℕ) : EReal) :=
    fun h hh f hf => ideal_sum (fun k => m k q) 8 r h (by omega) hh 256 rfl f hf
  rw [key 0 (by omega) _ fun x => ?_, key 1 (by omega) _ fun x => ?_]
  · rw [half_word, half_word]
    exact join_bits (fun k => m k q) (32 * r) b hb
  all_goals
    refine (congrArg (· * _) (hv _ _)).trans ?_
    simp only [Nat.mul_zero, Nat.mul_one, Nat.add_zero, Nat.add_comm 8 (r : ℕ)]
    apply weigh
    split
    · exact h0 _ _ _ (by simp)
    split
    · exact h1 _ _ _ (by simp; omega)
    split
    · exact h2 _ _ _ (by simp; omega)
    split
    · exact h3 _ _ _ (by simp; omega)
    split
    · exact h4 _ _ _ (by simp; omega)
    split
    · exact h5 _ _ _ (by simp; omega)
    split
    · exact h6 _ _ _ (by simp; omega)
    · exact h7 _ _ _ (by simp; omega)

/-- The words packed along the columns: bit `b` of word `r` of row `q` is the mark of column `32 r + b`. -/
theorem bwdWords_bit (m : ℕ → ℕ → Prop) (m0 m1 m2 m3 : FVec Ideal S32x1024 .bf16)
    (h0 : Marks m 0 m0) (h1 : Marks m 32 m1) (h2 : Marks m 64 m2) (h3 : Marks m 96 m3)
    (r : Fin 32) (q : Fin 128) (b : ℕ) (hb : b < 32) :
    (bwdWords k0_pay192 m0 m1 m2 m3 (ix2 r q)).getLsbD b = decide (m q (32 * r + b)) := by
  pointwise [bwdWords]
  have key : ∀ (h : ℕ) (hh : h < 2) (f : Fin 1024 → EReal), (∀ x, f x = if m q x then ((weight 32 x (r + 32 * h) : ℕ) : EReal) else 0) →
      (∑ x, f x) = ((packed (fun k => m q k) (32 * r + 16 * h) 16 : ℕ) : EReal) :=
    fun h hh f hf => ideal_sum (fun k => m q k) 32 r h (by omega) hh 1024 rfl f hf
  rw [key 0 (by omega) _ fun x => ?_, key 1 (by omega) _ fun x => ?_]
  · rw [half_word, half_word]
    exact join_bits (fun k => m q k) (32 * r) b hb
  all_goals
    refine (congrArg (_ * ·) (pwt_apply _ _)).trans ?_
    simp only [Nat.mul_zero, Nat.mul_one, Nat.add_zero, Nat.add_comm 32 (r : ℕ)]
    apply weigh'
    split
    · exact h0 _ _ _ (by simp)
    split
    · exact h1 _ _ _ (by simp; omega)
    split
    · exact h2 _ _ _ (by simp; omega)
    · exact h3 _ _ _ (by simp; omega)

end Cert.Proof.KernelIdeal
end
-- ==== Proof.Words.lean ====
/-
  The table of suppressions, tile by tile.

  After `n` tiles the words of the first `32 n` rows and the first `1024 n` columns are right: bit `b` of word `w` in column
  `i` says whether box `32 w + b` suppresses box `i`. Within tile `t` the trips add eight rows of the tile's columns and, below the
  diagonal, 256 columns of the tile's rows.
-/
module
public import proofs.«01_k».proof.Proof.Tile
public import proofs.«01_k».proof.Proof.Mask
public import proofs.«01_k».proof.Proof.Pack
public import Idealize.ShloMosaic.Lib.WritesUnit
public import Idealize.ShloMosaic.Lib.VecWindow
@[expose] public section
noncomputable section
namespace Cert.Proof.KernelIdeal
open Cert.KernelIdeal Cert.KernelIdeal.Gen Cert.Proof.Rel Cert.Proof.Bits
open Idealize.ShloMosaic Idealize.ShloMosaic.TcCoe Idealize.ShloMosaic.Tactic
open scoped Classical

variable {X : ℕ → Fin 5 → EReal}

/-- The word at row `w`, column `i` of the table holds the suppressions of box `i` by boxes `32 w … 32 w + 31`. -/
def Good (X : ℕ → Fin 5 → EReal) (arg7 : Memref sig .tc .vmem S160x5120 .i32) (f : BufTy.Contents (Elt Ideal) arg7.view.ty) (w i : ℕ) : Prop :=
  ∀ (hw : w < 160) (hi : i < 5120) (b : ℕ), b < 32 →
    (show BitVec 32 from arg7.view.read (Elt Ideal) f (ix2 ⟨w, hw⟩ ⟨i, hi⟩)).getLsbD b = decide (suppresses X (32 * w + b) i)

/-- What has been filled in within tile `t` after eight-row group `k` of the tile's columns and 256-column group `k'` of its rows. -/
def Done (t k k' w i : ℕ) : Prop :=
  (w < 32 * t ∧ i < 1024 * t) ∨ (w < 8 * k ∧ 1024 * t ≤ i ∧ i < 1024 * (t + 1)) ∨ (32 * t ≤ w ∧ w < 32 * (t + 1) ∧ i < 256 * k')

/-- A block read from the box table holds its boxes. -/
theorem blk_of {arg0 : Memref sig .tc .vmem S5120x5 .f32} (X0 : BufTy.Contents (Elt Ideal) arg0.view.ty)
    (hX : ∀ (j : Fin 5120) (k : Fin 5), arg0.view.read (Elt Ideal) X0 (ix2 j k) = X j k)
    (off : Fin 2 → ℕ) (h : ∀ a, off a + S32x5.size a ≤ S5120x5.size a) (R : ℕ) (hoff : off = ![R, 0]) : BlockOf X R (blk (F := Ideal) X0 off h) := by
  intro r k
  have hR : R + 32 ≤ 5120 := by have := h 0; rw [hoff] at this; exact this
  rw [← hX ⟨R + r, by omega⟩ k]
  show arg0.view.read (Elt Ideal) X0 _ = _
  congr 1
  funext a
  apply Fin.ext
  subst hoff
  match a with
  | ⟨0, _⟩ => show R + 1 * (r : ℕ) = R + r; omega
  | ⟨1, _⟩ => show 0 + 1 * (k : ℕ) = k; omega

/-- A row of a tile read from one of the row arrays holds its boxes' coordinate. -/
theorem row_of {arg1 : Memref sig .tc .vmem S1x5120 .f32} (X0 : BufTy.Contents (Elt Ideal) arg1.view.ty) (c : Fin 5)
    (hX : ∀ (j : Fin 5120), arg1.view.read (Elt Ideal) X0 (ix2 0 j) = X j c)
    (off : Fin 2 → ℕ) (h : ∀ a, off a + S1x1024.size a ≤ S1x5120.size a) (T : ℕ) (hoff : off = ![0, T]) (q : Fin 1024) :
    (View.readAt (Elt Ideal) arg1.view (Rect.unit (s := S1x5120) off S1x1024.size h).toLoadRect X0 : Vec Ideal S1x1024 .f32) (ix2 0 q) = X (T + q) c := by
  have hR : T + 1024 ≤ 5120 := by have := h 1; rw [hoff] at this; exact this
  rw [← hX ⟨T + q, by omega⟩]
  show arg1.view.read (Elt Ideal) X0 _ = _
  congr 1
  funext a
  apply Fin.ext
  subst hoff
  match a with
  | ⟨0, _⟩ => show 0 + 1 * 0 = 0; omega
  | ⟨1, _⟩ => show T + 1 * (q : ℕ) = T + q; omega

section words
variable {t : Fin k0_t1_loop.trips} {T : ℕ} {x1 y1 x2 y2 s : Vec Ideal S1x1024 .f32}

/-- Eight blocks' forward words are right. -/
theorem fwdPiece (v45 : FVec Ideal S16x256 .bf16) (hv : ∀ (r : Fin 16) (k : Fin 256), v45 (ix2 r k) = ((weight 8 k r : ℕ) : EReal))
    (hT : TileOf X T x1 y1 x2 y2 s) (hTt : T = 1024 * t) (K : ℕ) (hK : 256 * K + 256 ≤ 5120)
    (w : Fin 8 → BitVec 32) (hw : ∀ n : Fin 8, w n = BitVec.ofNat 32 (256 * K + 32 * n)) (bj : Fin 8 → Vec Ideal S32x5 .f32) (hB : ∀ n : Fin 8, BlockOf X (256 * K + 32 * n) (bj n))
    (r : Fin 8) (q : Fin 1024) (b : ℕ) (hb : b < 32) :
    (fwdWords v45 (fwdM x1 y1 x2 y2 s (k0_pay181 0#32 1#32 t) (w 0) (bj 0)) (fwdM x1 y1 x2 y2 s (k0_pay181 0#32 1#32 t) (w 1) (bj 1))
      (fwdM x1 y1 x2 y2 s (k0_pay181 0#32 1#32 t) (w 2) (bj 2)) (fwdM x1 y1 x2 y2 s (k0_pay181 0#32 1#32 t) (w 3) (bj 3))
      (fwdM x1 y1 x2 y2 s (k0_pay181 0#32 1#32 t) (w 4) (bj 4)) (fwdM x1 y1 x2 y2 s (k0_pay181 0#32 1#32 t) (w 5) (bj 5))
      (fwdM x1 y1 x2 y2 s (k0_pay181 0#32 1#32 t) (w 6) (bj 6)) (fwdM x1 y1 x2 y2 s (k0_pay181 0#32 1#32 t) (w 7) (bj 7)) (ix2 r q)).getLsbD b
      = decide (suppresses X (32 * (8 * K + r) + b) (T + q)) := by
  have M : ∀ n : Fin 8, Marks (fun j q => suppresses X (256 * K + j) (T + q)) (32 * n) (fwdM x1 y1 x2 y2 s (k0_pay181 0#32 1#32 t) (w n) (bj n)) := by
    intro n l q k hk
    subst hk
    rw [fwdM_apply hT (hB n) hTt (w n) (hw n) (by omega) l q, Nat.add_assoc]
  rw [fwdWords_bit v45 hv _ _ _ _ _ _ _ _ _ (M 0) (M 1) (M 2) (M 3) (M 4) (M 5) (M 6) (M 7) r q b hb]
  congr 2
  omega

/-- Four blocks' backward words are right. -/
theorem bwdPiece (hT : TileOf X T x1 y1 x2 y2 s) (hTt : T = 1024 * t) (R : ℕ) (hR : R + 128 ≤ T)
    (w : Fin 4 → BitVec 32) (hw : ∀ n : Fin 4, w n = BitVec.ofNat 32 (R + 32 * n)) (bj : Fin 4 → Vec Ideal S32x5 .f32) (hB : ∀ n : Fin 4, BlockOf X (R + 32 * n) (bj n))
    (r : Fin 32) (q : Fin 128) (b : ℕ) (hb : b < 32) :
    (bwdWords k0_pay192 (bwdM x1 y1 x2 y2 s (k0_pay181 0#32 1#32 t) (w 0) (bj 0)) (bwdM x1 y1 x2 y2 s (k0_pay181 0#32 1#32 t) (w 1) (bj 1))
      (bwdM x1 y1 x2 y2 s (k0_pay181 0#32 1#32 t) (w 2) (bj 2)) (bwdM x1 y1 x2 y2 s (k0_pay181 0#32 1#32 t) (w 3) (bj 3)) (ix2 r q)).getLsbD b
      = decide (suppresses X (32 * (32 * t + r) + b) (R + q)) := by
  have M : ∀ n : Fin 4, Marks (fun j q => suppresses X (T + q) (R + j)) (32 * n) (bwdM x1 y1 x2 y2 s (k0_pay181 0#32 1#32 t) (w n) (bj n)) := by
    intro n l q k hk
    subst hk
    rw [bwdM_apply hT (hB n) hTt (w n) (hw n) (by omega) l q, Nat.add_assoc]
  rw [bwdWords_bit _ _ _ _ _ (M 0) (M 1) (M 2) (M 3) r q b hb]
  congr 2
  omega

end words

theorem row0_a : ∀ (t : Fin k0_t1_loop.trips) (k : Fin (k0_t2_loop t).trips) (n : Fin 4),
    Scalar.addi (Scalar.muli (Scalar.muli 2#32 (Scf.iv 0#32 1#32 k)) 128#32) (BitVec.ofNat 32 (32 * n)) = BitVec.ofNat 32 (256 * k + 32 * n) := by decide +kernel
theorem row0_b : ∀ (t : Fin k0_t1_loop.trips) (k : Fin (k0_t2_loop t).trips) (n : Fin 4),
    Scalar.addi (Scalar.muli (Scalar.addi (Scalar.muli 2#32 (Scf.iv 0#32 1#32 k)) 1#32) 128#32) (BitVec.ofNat 32 (32 * n)) = BitVec.ofNat 32 (256 * k + 128 + 32 * n) := by decide +kernel
theorem row0_c : ∀ (t : Fin k0_t1_loop.trips) (k : Fin (k0_t4_loop t).trips) (n : Fin 4),
    Scalar.addi (Scalar.muli (Scalar.muli 2#32 (Scf.iv (Scalar.muli 4#32 (Scf.iv 0#32 1#32 t)) 1#32 k)) 128#32) (BitVec.ofNat 32 (32 * n)) = BitVec.ofNat 32 (256 * (4 * t + k) + 32 * n) := by decide +kernel
theorem row0_d : ∀ (t : Fin k0_t1_loop.trips) (k : Fin (k0_t4_loop t).trips) (n : Fin 4),
    Scalar.addi (Scalar.muli (Scalar.addi (Scalar.muli 2#32 (Scf.iv (Scalar.muli 4#32 (Scf.iv 0#32 1#32 t)) 1#32 k)) 1#32) 128#32) (BitVec.ofNat 32 (32 * n)) = BitVec.ofNat 32 (256 * (4 * t + k) + 128 + 32 * n) := by decide +kernel
theorem off12_0 : ∀ (t : Fin k0_t1_loop.trips) (k : Fin (k0_t4_loop t).trips) (n : Fin 4), k0_off12 t k (BitVec.ofNat 32 (32 * n)) 0 = 256 * (4 * t + k) + 32 * n := by decide +kernel
theorem off13_0 : ∀ (t : Fin k0_t1_loop.trips) (k : Fin (k0_t4_loop t).trips) (n : Fin 4), k0_off13 t k (BitVec.ofNat 32 (32 * n)) 0 = 256 * (4 * t + k) + 128 + 32 * n := by decide +kernel
theorem off14_0 : ∀ (t : Fin k0_t1_loop.trips) (k : Fin (k0_t4_loop t).trips), k0_off14 t k 0 = 8 * (4 * t + k) := by decide +kernel
theorem off14_1 : ∀ (t : Fin k0_t1_loop.trips) (k : Fin (k0_t4_loop t).trips), k0_off14 t k 1 = 1024 * t := by decide +kernel
theorem vec2 {f : Fin 2 → ℕ} {a b : ℕ} (h0 : f 0 = a) (h1 : f 1 = b) : f = ![a, b] := by
  funext d
  match d with
  | ⟨0, _⟩ => exact h0
  | ⟨1, _⟩ => exact h1
theorem off12 (t : Fin k0_t1_loop.trips) (k : Fin (k0_t4_loop t).trips) (n : Fin 4) : k0_off12 t k (BitVec.ofNat 32 (32 * n)) = ![256 * (4 * t.val + k.val) + 32 * n.val, 0] :=
  vec2 (off12_0 t k n) rfl
theorem off13 (t : Fin k0_t1_loop.trips) (k : Fin (k0_t4_loop t).trips) (n : Fin 4) : k0_off13 t k (BitVec.ofNat 32 (32 * n)) = ![256 * (4 * t.val + k.val) + 128 + 32 * n.val, 0] :=
  vec2 (off13_0 t k n) rfl
theorem off14 (t : Fin k0_t1_loop.trips) (k : Fin (k0_t4_loop t).trips) : k0_off14 t k = ![8 * (4 * t.val + k.val), 1024 * t.val] :=
  vec2 (off14_0 t k) (off14_1 t k)
theorem trips2 : ∀ t : Fin k0_t1_loop.trips, (k0_t2_loop t).trips = 4 * t := by decide +kernel
theorem trips3 : ∀ t : Fin k0_t1_loop.trips, (k0_t3_loop t).trips = 0 := by decide +kernel
theorem trips4 : ∀ t : Fin k0_t1_loop.trips, (k0_t4_loop t).trips = 4 := by decide +kernel
theorem trips5 : ∀ t : Fin k0_t1_loop.trips, (k0_t5_loop t).trips = 0 := by decide +kernel

end Cert.Proof.KernelIdeal
end
-- ==== Proof.Nms.lean ====
/-
  Greedy suppression as a fixed point, apart from any program.

  `S a b` says that box `a` suppresses box `b`. Every suppression goes up in a rank, so the rule
  "a box is kept when no kept box suppresses it" has exactly one solution `keep S`. Two ways of computing it are
  followed here: repeating the rule from "everything kept" until nothing changes (`update`), and visiting the boxes in
  order, each visit removing what the visited box suppresses (`Scan`).
-/
module

public import Mathlib.Logic.Function.Iterate
public import Mathlib.Data.Finset.Card
public import Mathlib.Data.Fintype.Card

@[expose] public section

namespace Cert.Proof.Nms

variable {ι : Type}

/-- One application of the rule: `b` stays when nothing in `X` suppresses it. -/
def update (S : ι → ι → Prop) (X : ι → Prop) : ι → Prop := fun b => ∀ a, X a → ¬ S a b

/-- The boxes kept after `n` applications of the rule, from "everything kept". -/
def iter (S : ι → ι → Prop) : ℕ → ι → Prop
  | 0 => fun _ => True
  | n + 1 => update S (iter S n)

/-- The rule is monotone the wrong way round, so what matters of `X` is only what precedes `b`: two sets that agree
    below rank `n + 1` give sets that agree below rank `n + 2`. -/
theorem update_congr {S : ι → ι → Prop} {rank : ι → ℕ} (hS : ∀ a b, S a b → rank a < rank b) {X Y : ι → Prop} {n : ℕ}
    (h : ∀ a, rank a < n → (X a ↔ Y a)) (b : ι) (hb : rank b < n + 1) : update S X b ↔ update S Y b := by
  constructor
  · intro hX a ha hab
    exact hX a ((h a (by have := hS a b hab; omega)).mpr ha) hab
  · intro hY a ha hab
    exact hY a ((h a (by have := hS a b hab; omega)).mp ha) hab

/-- From the `n`-th application on, the boxes of rank below `n` are settled. -/
theorem iter_settled {S : ι → ι → Prop} {rank : ι → ℕ} (hS : ∀ a b, S a b → rank a < rank b) :
    ∀ (n k : ℕ) (b : ι), rank b < n → (iter S (n + k) b ↔ iter S n b) := by
  intro n
  induction n with
  | zero => intro k b hb; omega
  | succ n ih =>
    intro k b hb
    rw [show n + 1 + k = (n + k) + 1 from by omega]
    exact update_congr hS (fun a ha => ih k a ha) b hb

/-- The kept boxes: a box is settled after as many applications as its rank and one more. -/
def keep (S : ι → ι → Prop) (rank : ι → ℕ) : ι → Prop := fun b => iter S (rank b + 1) b

/-- A box of rank below `n` is kept exactly when the `n`-th application has it. -/
theorem iter_eq_keep {S : ι → ι → Prop} {rank : ι → ℕ} (hS : ∀ a b, S a b → rank a < rank b) (n : ℕ) (b : ι) (hb : rank b < n) :
    iter S n b ↔ keep S rank b := by
  obtain ⟨k, rfl⟩ := Nat.exists_eq_add_of_lt hb
  rw [show rank b + k + 1 = (rank b + 1) + k from by omega]
  exact iter_settled hS _ _ b (by omega)

/-- The kept boxes solve the rule. -/
theorem keep_fixed {S : ι → ι → Prop} {rank : ι → ℕ} (hS : ∀ a b, S a b → rank a < rank b) (b : ι) :
    keep S rank b ↔ update S (keep S rank) b := by
  rw [← iter_eq_keep hS (rank b + 1) b (by omega)]
  exact update_congr hS (fun a ha => iter_eq_keep hS _ a ha) b (by omega)

/-- Any solution of the rule is the kept boxes. -/
theorem eq_keep_of_fixed {S : ι → ι → Prop} {rank : ι → ℕ} (hS : ∀ a b, S a b → rank a < rank b) {X : ι → Prop}
    (hX : ∀ b, X b ↔ update S X b) : ∀ b, X b ↔ keep S rank b := by
  have key : ∀ n b, rank b < n → (X b ↔ keep S rank b) := by
    intro n
    induction n with
    | zero => intro b hb; omega
    | succ n ih =>
      intro b hb
      rw [hX b, keep_fixed hS b]
      exact update_congr hS (fun a ha => ih a ha) b hb
  exact fun b => key _ b (Nat.lt_succ_self _)

/-- Once every rank is below `n`, the `n`-th application is the kept boxes, and the next changes nothing. -/
theorem iter_fixed {S : ι → ι → Prop} {rank : ι → ℕ} (hS : ∀ a b, S a b → rank a < rank b) {N n : ℕ} (hN : ∀ b, rank b < N)
    (hn : N ≤ n) (b : ι) : iter S (n + 1) b ↔ iter S n b := by
  rw [iter_eq_keep hS (n + 1) b (by have := hN b; omega), iter_eq_keep hS n b (by have := hN b; omega)]

/-- Kept boxes of a part closed under predecessors: if every suppressor of a box of the part (through `f`) lies in the
    part, and the suppressions and ranks correspond, the part's kept boxes are the whole's. -/
theorem keep_embed {κ : Type} {S : ι → ι → Prop} {rank : ι → ℕ} (hS : ∀ a b, S a b → rank a < rank b)
    {T : κ → κ → Prop} {rk : κ → ℕ} (hT : ∀ a b, T a b → rk a < rk b) (f : κ → ι)
    (hcl : ∀ a b, S a (f b) → ∃ a', f a' = a) (hf : ∀ a b, T a b ↔ S (f a) (f b)) (b : κ) :
    keep S rank (f b) ↔ keep T rk b := by
  refine eq_keep_of_fixed hT (X := fun b => keep S rank (f b)) (fun b => ?_) b
  show keep S rank (f b) ↔ _
  rw [keep_fixed hS (f b)]
  constructor
  · intro h a ha hab; exact h (f a) ha ((hf a b).mp hab)
  · intro h a ha hab
    obtain ⟨a', rfl⟩ := hcl a b hab
    exact h a' ha ((hf a' b).mpr hab)

/-! ## Visiting the boxes in order -/

variable {N : ℕ}

/-- The state of the scan with the first `f` positions behind it: a position behind is removed, and marked exactly when
    it is kept; a position ahead is unmarked, and removed exactly when a kept position behind suppresses it. -/
structure Scan (S : Fin N → Fin N → Prop) (sup kp : Fin N → Prop) (f : ℕ) : Prop where
  behind_sup : ∀ q : Fin N, q.val < f → sup q
  behind_keep : ∀ q : Fin N, q.val < f → (kp q ↔ keep S (fun q => q.val) q)
  ahead_keep : ∀ q : Fin N, f ≤ q.val → ¬ kp q
  ahead_sup : ∀ q : Fin N, f ≤ q.val → (sup q ↔ ∃ p : Fin N, p.val < f ∧ keep S (fun q => q.val) p ∧ S p q)

/-- The scan begins with nothing behind it, nothing removed and nothing marked. -/
theorem Scan.start (S : Fin N → Fin N → Prop) : Scan S (fun _ => False) (fun _ => False) 0 :=
  ⟨fun _ h => absurd h (Nat.not_lt_zero _), fun _ h => absurd h (Nat.not_lt_zero _), fun _ _ h => h,
    fun _ _ => ⟨fun h => h.elim, fun ⟨_, h, _⟩ => absurd h (Nat.not_lt_zero _)⟩⟩

/-- One visit: to the first position not removed. It is kept, and what it suppresses is removed. -/
theorem Scan.visit {S : Fin N → Fin N → Prop} (hS : ∀ a b : Fin N, S a b → a.val < b.val) {sup kp : Fin N → Prop} {f : ℕ}
    (h : Scan S sup kp f) (i : Fin N) (hi : ¬ sup i) (hmin : ∀ q : Fin N, q.val < i.val → sup q) {sup' kp' : Fin N → Prop}
    (hsup : ∀ q, q.val ≤ i.val → sup q ∨ q = i → sup' q) (hsup' : ∀ q, i.val < q.val → (sup' q ↔ sup q ∨ S i q))
    (hkp : ∀ q, kp' q ↔ kp q ∨ q = i) : Scan S sup' kp' (i.val + 1) := by
  have hfi : f ≤ i.val := by
    by_contra hlt; exact hi (h.behind_sup i (by omega))
  have hfix := fun b => keep_fixed (S := S) (rank := fun q => q.val) hS b
  -- what lies between the frontier and the visited position is removed, so not kept
  have hmid : ∀ q : Fin N, f ≤ q.val → q.val < i.val → ¬ keep S (fun q => q.val) q := by
    intro q hq hqi hk
    obtain ⟨p, -, hp, hpq⟩ := (h.ahead_sup q hq).mp (hmin q hqi)
    exact (hfix q).mp hk p hp hpq
  have hki : keep S (fun q => q.val) i := by
    rw [hfix i]
    intro a ha hai
    have hlt := hS a i hai
    by_cases haf : a.val < f
    · exact hi ((h.ahead_sup i hfi).mpr ⟨a, haf, ha, hai⟩)
    · exact hmid a (by omega) hlt ha
  refine ⟨fun q hq => ?_, fun q hq => ?_, fun q hq => ?_, fun q hq => ?_⟩
  · rcases Nat.lt_or_ge q.val i.val with hlt | hge
    · exact hsup q (by omega) (.inl (hmin q hlt))
    · exact hsup q (by omega) (.inr (Fin.ext (by omega)))
  · rw [hkp q]
    rcases Nat.lt_or_ge q.val i.val with hlt | hge
    · have hne : q ≠ i := fun e => by subst e; omega
      rcases Nat.lt_or_ge q.val f with hqf | hqf
      · rw [← h.behind_keep q hqf]; simp [hne]
      · simp [hne, h.ahead_keep q hqf, hmid q hqf hlt]
    · have : q = i := Fin.ext (by omega)
      subst this; simp [hki]
  · rw [hkp q]
    rintro (hk | rfl)
    · exact h.ahead_keep q (by omega) hk
    · omega
  · rw [hsup' q (by omega), h.ahead_sup q (by omega)]
    constructor
    · rintro (⟨p, hp, hk, hpq⟩ | hiq)
      · exact ⟨p, by omega, hk, hpq⟩
      · exact ⟨i, by omega, hki, hiq⟩
    · rintro ⟨p, hp, hk, hpq⟩
      rcases Nat.lt_or_ge p.val f with hpf | hpf
      · exact .inl ⟨p, hpf, hk, hpq⟩
      · rcases Nat.lt_or_ge p.val i.val with hlt | hge
        · exact absurd hk (hmid p hpf hlt)
        · obtain rfl : p = i := Fin.ext (by omega)
          exact .inr hpq

/-- With everything removed the marks are the kept boxes. -/
theorem Scan.done {S : Fin N → Fin N → Prop} (hS : ∀ a b : Fin N, S a b → a.val < b.val) {sup kp : Fin N → Prop} {f : ℕ}
    (h : Scan S sup kp f) (hall : ∀ q, sup q) (q : Fin N) : kp q ↔ keep S (fun q => q.val) q := by
  rcases Nat.lt_or_ge q.val f with hqf | hqf
  · exact h.behind_keep q hqf
  · obtain ⟨p, -, hp, hpq⟩ := (h.ahead_sup q hqf).mp (hall q)
    refine ⟨fun hk => absurd hk (h.ahead_keep q hqf), fun hk => ?_⟩
    exact absurd hpq ((keep_fixed (S := S) (rank := fun q => q.val) hS q).mp hk p hp)

end Cert.Proof.Nms

end
-- ==== Proof.Hits.lean ====
/-
  One application of the rule, in words.

  The set of kept boxes is a column of words, bit `b` of word `w` for box `32 w + b`. Testing the words of a column of the table
  against the kept ones finds whether a kept box suppresses the column's box (`hits_iff`); packing the outcome gives the next set
  (`packed_bit`), and comparing the words tells whether anything changed (`changed_iff`).
-/
module
public import proofs.«01_k».proof.Proof.Words
public import proofs.«01_k».proof.Proof.Nms
public import proofs.«01_k».proof.Proof.Gen.KernelIdeal.Loops
public import Idealize.ShloMosaic.Lib.MatmulPlain
public import Idealize.ShloMosaic.PureOps.Reduce
public import Idealize.ShloMosaic.PureOps.Ideal.Laws
public import Idealize.ShloMosaic.Lib.ValueIdx
@[expose] public section
noncomputable section
namespace Cert.Proof.KernelIdeal
open Cert.KernelIdeal Cert.KernelIdeal.Gen Cert.Proof.Rel Cert.Proof.Bits
open Idealize.ShloMosaic Idealize.ShloMosaic.TcCoe Idealize.ShloMosaic.Tactic
open scoped Classical

theorem ori_zero (a b : BitVec 32) : IntOp.ori a b = 0#32 ↔ a = 0#32 ∧ b = 0#32 := by
  show a ||| b = 0#32 ↔ _
  exact BitVec.or_eq_zero_iff

/-- Thirty-two rows of the table against as many words: nothing is added exactly when no row meets its word. -/
theorem fold_zero (acc : IVec S1x5120 32) (m : Vec Ideal S32x5120 .i32) (kp : Vec Ideal S32x1 .i32) (q : Fin 5120) :
    k0_pay195 acc m kp (ix2 0 q) = 0#32 ↔ acc (ix2 0 q) = 0#32 ∧ ∀ r : Fin 32, IntOp.andi (m (ix2 r q)) (kp (ix2 r 0)) = 0#32 := by
  pointwise [k0_pay195]
  simp only [ori_zero]
  constructor
  · intro h
    refine ⟨h.1.1, fun r => ?_⟩
    fin_cases r <;> simp [h]
  · rintro ⟨h0, h⟩
    simp [h0, h]

/-- Two words meet nowhere exactly when they have no bit in common. -/
theorem andi_zero (a b : BitVec 32) : IntOp.andi a b = 0#32 ↔ ∀ i < 32, ¬ (a.getLsbD i = true ∧ b.getLsbD i = true) := by
  unfold IntOp.andi
  constructor
  · intro h i hi hc
    have := congrArg (fun x => BitVec.getLsbD x i) h
    simp [hc.1, hc.2] at this
  · intro h
    apply BitVec.eq_of_getLsbD_eq
    intro i hi
    have := h i hi
    simp only [BitVec.getLsbD_and, BitVec.getLsbD_zero]
    cases hx : a.getLsbD i <;> cases hy : b.getLsbD i <;> simp_all

/-- A column of words is the set `P` of boxes: bit `b` of word `w` for box `32 w + b`. -/
def IsWords (v : IVec S160x1 32) (P : Fin 5120 → Prop) : Prop :=
  ∀ (w : Fin 160) (b : ℕ) (hb : b < 32), (v (ix2 w 0)).getLsbD b = decide (P ⟨32 * w + b, by omega⟩)

/-- Two columns of words of the same set are the same column. -/
theorem IsWords.unique {v v' : IVec S160x1 32} {P P' : Fin 5120 → Prop} (h : IsWords v P) (h' : IsWords v' P') :
    (∀ w : Fin 160, v (ix2 w 0) = v' (ix2 w 0)) ↔ ∀ i, P i ↔ P' i := by
  constructor
  · intro e i
    have h1 := h ⟨i / 32, by omega⟩ (i % 32) (by omega)
    have h2 := h' ⟨i / 32, by omega⟩ (i % 32) (by omega)
    rw [e, h2] at h1
    have ei : (⟨32 * ((⟨i / 32, by omega⟩ : Fin 160) : ℕ) + i % 32, by simp only; omega⟩ : Fin 5120) = i := Fin.ext (by simp only; omega)
    rw [ei] at h1
    exact (decide_eq_decide.mp h1).symm
  · intro e w
    apply BitVec.eq_of_getLsbD_eq
    intro b hb
    rw [h w b hb, h' w b hb]
    exact decide_eq_decide.mpr (e _)

/-- The set of all boxes. -/
theorem allWords : IsWords k0_pay193 (fun _ => True) := by
  intro w b hb
  pointwise [k0_pay193]
  simp only [decide_true]
  show (4294967295#32).getLsbD b = true
  rw [show (4294967295#32 : BitVec 32) = BitVec.allOnes 32 from rfl, BitVec.getLsbD_allOnes]
  exact decide_eq_true hb

variable {X : ℕ → Fin 5 → EReal} {arg7 : Memref sig .tc .vmem S160x5120 .i32} {arg9 : Memref sig .tc .vmem S160x1 .i32}
  {X7 : BufTy.Contents (Elt Ideal) arg7.view.ty} {X9 : BufTy.Contents (Elt Ideal) arg9.view.ty}

/-- Thirty-two rows of the table. -/
abbrev rows (X7 : BufTy.Contents (Elt Ideal) arg7.view.ty) (off : Fin 2 → ℕ) (h : ∀ a, off a + S32x5120.size a ≤ S160x5120.size a) : Vec Ideal S32x5120 .i32 :=
  View.readAt (Elt Ideal) arg7.view (Rect.unit (s := S160x5120) off S32x5120.size h).toLoadRect X7

/-- Thirty-two kept words. -/
abbrev kept (X9 : BufTy.Contents (Elt Ideal) arg9.view.ty) (off : Fin 2 → ℕ) (h : ∀ a, off a + S32x1.size a ≤ S160x1.size a) : Vec Ideal S32x1 .i32 :=
  View.readAt (Elt Ideal) arg9.view (Rect.unit (s := S160x1) off S32x1.size h).toLoadRect X9

theorem rows_apply (off : Fin 2 → ℕ) (h : ∀ a, off a + S32x5120.size a ≤ S160x5120.size a) (R : ℕ) (hoff : off = ![R, 0]) (r : Fin 32) (q : Fin 5120) (w : Fin 160) (hw : (w : ℕ) = R + r) :
    rows X7 off h (ix2 r q) = arg7.view.read (Elt Ideal) X7 (ix2 w q) := by
  show arg7.view.read (Elt Ideal) X7 _ = _
  congr 1
  funext a
  apply Fin.ext
  subst hoff
  fin_cases a
  · show R + 1 * (r : ℕ) = w; omega
  · show 0 + 1 * (q : ℕ) = q; omega

theorem kept_apply (off : Fin 2 → ℕ) (h : ∀ a, off a + S32x1.size a ≤ S160x1.size a) (R : ℕ) (hoff : off = ![R, 0]) (r : Fin 32) (w : Fin 160) (hw : (w : ℕ) = R + r) :
    kept X9 off h (ix2 r 0) = arg9.view.read (Elt Ideal) X9 (ix2 w 0) := by
  show arg9.view.read (Elt Ideal) X9 _ = _
  congr 1
  funext a
  apply Fin.ext
  subst hoff
  fin_cases a
  · show R + 1 * (r : ℕ) = w; omega
  · show 0 + 1 * 0 = 0; omega

/-- The walk down the table: behind `n` blocks of rows, nothing was hit exactly when none of their rows meets its kept word. -/
theorem walk {T : ℕ} (hT : T = 5) (st : ℕ → IVec S1x5120 32) (off7 off9 : Fin T → Fin 2 → ℕ)
    (h7 : ∀ k, ∀ a, off7 k a + S32x5120.size a ≤ S160x5120.size a) (h9 : ∀ k, ∀ a, off9 k a + S32x1.size a ≤ S160x1.size a)
    (e7 : ∀ k, off7 k = ![32 * k.val, 0]) (e9 : ∀ k, off9 k = ![32 * k.val, 0])
    (h0 : ∀ q, st 0 (ix2 0 q) = 0#32) (hs : ∀ k : Fin T, st (k.val + 1) = k0_pay195 (st k.val) (rows X7 (off7 k) (h7 k)) (kept X9 (off9 k) (h9 k)))
    (q : Fin 5120) (n : ℕ) (hn : n ≤ T) :
    st n (ix2 0 q) = 0#32 ↔ ∀ w : Fin 160, (w : ℕ) < 32 * n → IntOp.andi (arg7.view.read (Elt Ideal) X7 (ix2 w q)) (arg9.view.read (Elt Ideal) X9 (ix2 w 0)) = 0#32 := by
  induction n with
  | zero => simp [h0]
  | succ n ih =>
    rw [hs ⟨n, hn⟩, fold_zero, ih (by omega)]
    constructor
    · rintro ⟨ha, hb⟩ w hw
      by_cases hwn : (w : ℕ) < 32 * n
      · exact ha w hwn
      · have := hb ⟨w - 32 * n, by omega⟩
        rwa [rows_apply _ _ _ (e7 ⟨n, hn⟩) _ q w (by simp only; omega), kept_apply _ _ _ (e9 ⟨n, hn⟩) _ w (by simp only; omega)] at this
    · intro h
      refine ⟨fun w hw => h w (by omega), fun r => ?_⟩
      rw [rows_apply _ _ _ (e7 ⟨n, hn⟩) r q ⟨32 * n + r, by omega⟩ rfl, kept_apply _ _ _ (e9 ⟨n, hn⟩) r ⟨32 * n + r, by omega⟩ rfl]
      exact h _ (by simp only; omega)

/-- The suppression relation among the 5120 boxes. -/
abbrev sup (X : ℕ → Fin 5 → EReal) : Fin 5120 → Fin 5120 → Prop := fun a b => suppresses X a b

/-- With the table complete and the kept words those of `P`: column `q` is not hit exactly when no box of `P` suppresses `q`. -/
theorem meets_iff (hT : ∀ w i, w < 160 → i < 5120 → Good X arg7 X7 w i) {P : Fin 5120 → Prop} (hP : IsWords (arg9.view.read (Elt Ideal) X9) P) (q : Fin 5120) :
    (∀ w : Fin 160, (w : ℕ) < 32 * 5 → IntOp.andi (arg7.view.read (Elt Ideal) X7 (ix2 w q)) (arg9.view.read (Elt Ideal) X9 (ix2 w 0)) = 0#32) ↔ Nms.update (sup X) P q := by
  constructor
  · intro h a ha hs
    have h1 := (andi_zero _ _).mp (h ⟨a / 32, by omega⟩ (by simp only; omega)) (a % 32) (by omega)
    have ea : 32 * ((⟨a / 32, by omega⟩ : Fin 160) : ℕ) + a % 32 = a := by simp only; omega
    refine h1 ⟨?_, ?_⟩
    · have := hT (a / 32) q (by omega) q.isLt (by omega) q.isLt (a % 32) (by omega)
      refine this.trans (decide_eq_true ?_)
      rw [show 32 * ((a : ℕ) / 32) + a % 32 = a from ea]; exact hs
    · refine (hP ⟨a / 32, by omega⟩ (a % 32) (by omega)).trans (decide_eq_true ?_)
      convert ha
  · intro h w hw
    rw [andi_zero]
    rintro b hb ⟨h1, h2⟩
    have e1 := hT w q w.isLt q.isLt w.isLt q.isLt b hb
    have e2 := hP w b hb
    refine h _ (of_decide_eq_true (e2.symm.trans h2)) (of_decide_eq_true (e1.symm.trans h1))

/-- The word of a mark, taken to a float. -/
theorem mark_value (v : BitVec 32) : FloatOps.sitofp (F := Ideal) .f32 (BitVec.setWidth 32 (IntOp.cmpi .eq v 0#32)) = if v = 0#32 then (1 : EReal) else 0 := by
  by_cases h : v = 0#32
  · subst h; rw [if_pos rfl]
    show (((1#32).toInt : ℝ) : EReal) = 1
    norm_num
  · rw [if_neg h]
    have : IntOp.cmpi .eq v 0#32 = 0#1 := by
      show BitVec.ofBool (v == 0#32) = 0#1
      rw [beq_eq_false_iff_ne.mpr h]; rfl
    rw [this]
    show (((0#32).toInt : ℝ) : EReal) = 0
    norm_num

/-- Packing the columns not hit gives the words of the set of those columns. -/
theorem packed_bit (v67 : Vec Ideal S320x5120 .bf16) (hv : ∀ (r : Fin 320) (k : Fin 5120), v67 (ix2 r k) = ((weight 160 k r : ℕ) : EReal)) (hits : IVec S1x5120 32) :
    IsWords (k0_pay2 (F := Ideal) v67 (k0_pay202 hits)) (fun q => hits (ix2 0 q) = 0#32) := by
  intro w b hb
  pointwise [k0_pay2, k0_pay202]
  obtain ⟨m, hm⟩ : ∃ m : ℕ → Prop, ∀ x : Fin 5120, hits (ix2 0 x) = 0#32 ↔ m x :=
    ⟨fun k => ∃ h : k < 5120, hits (ix2 0 ⟨k, h⟩) = 0#32, fun x => ⟨fun h => ⟨x.isLt, h⟩, fun ⟨_, h⟩ => h⟩⟩
  have key : ∀ (h : ℕ) (hh : h < 2) (f : Fin 5120 → EReal), (∀ x, f x = if m x then ((weight 160 x (w + 160 * h) : ℕ) : EReal) else 0) →
      (∑ x, f x) = ((packed m (32 * w + 16 * h) 16 : ℕ) : EReal) :=
    fun h hh f hf => ideal_sum m 160 w h (by omega) hh 5120 rfl f hf
  rw [key 0 (by omega) _ fun x => ?_, key 1 (by omega) _ fun x => ?_]
  · rw [half_word, half_word]
    refine (join_bits m (32 * w) b hb).trans (decide_eq_decide.mpr ?_)
    exact (hm ⟨32 * w + b, _⟩).symm
  all_goals
    refine (congrArg (· * _) (hv _ _)).trans ?_
    simp only [Nat.mul_zero, Nat.mul_one, Nat.add_zero, Nat.add_comm 160 (w : ℕ)]
    apply weigh
    refine (mark_value _).trans ?_
    simp only [hm]

/-- A maximum over everything exceeds zero exactly when an element does. -/
theorem max_pos (src : FVec Ideal S1x160x1 .f32) (hφ : FKind.Formats .f32) (hacc : (0xFF800000#32 : BitVec (FTy.bits .f32)) = FKind.maximumf.neutral .f32 hφ) (j : S1.Idx) :
    (0 : EReal) < multiReduction (F := Ideal) .maximumf [1, 2] S1 src 0xFF800000#32 reduces_S1x160x1_S1 hφ hacc j ↔ ∃ i, (0 : EReal) < src i := by
  rw [multiReduction_maximumf_eq_fold]
  show (0 : EReal) < Finset.fold max _ _ _ ↔ _
  rw [Finset.lt_fold_max]
  have hbot : ¬ (0 : EReal) < FloatOps.ofBits (F := Ideal) .f32 0xFF800000#32 := by
    have : FloatOps.ofBits (F := Ideal) .f32 0xFF800000#32 = (⊥ : EReal) := by
      show Ideal.ofBits .f32 0xFF800000#32 = _
      simp [Ideal.ofBits, Ideal.ieee]
    rw [this]; simp
  constructor
  · rintro (h | ⟨x, -, hx⟩)
    · exact absurd h hbot
    · exact ⟨x, hx⟩
  · rintro ⟨x, hx⟩
    refine .inr ⟨x, Finset.mem_filter.mpr ⟨Finset.mem_univ _, ?_⟩, hx⟩
    funext a
    fin_cases a
    exact Subsingleton.elim (α := Fin 1) _ _

theorem pick_pos (b : Bool) : (0 : EReal) < Scalar.select (BitVec.ofBool b) (Scalar.ofBits (F := Ideal) .f32 0x3F800000#32) (Scalar.ofBits (F := Ideal) .f32 0x00000000#32) ↔ b = true := by
  have h1 : Scalar.ofBits (F := Ideal) .f32 0x3F800000#32 = (1 : EReal) := by
    simp [Ideal.ofBits, Ideal.ieee]
    rw [← EReal.coe_mul]; norm_num
  have h0 : Scalar.ofBits (F := Ideal) .f32 0x00000000#32 = (0 : EReal) := by simp [Ideal.ofBits, Ideal.ieee]
  rw [h1, h0]
  cases b
  · simp [Scalar.select]
  · simp [Scalar.select]

/-- What the loop compares with zero exceeds it exactly when a word has changed. -/
theorem changed_iff (v67 : Vec Ideal S320x5120 .bf16) (v116 : IVec S1x5120 32) (v129 : Vec Ideal S160x1 .i32) :
    (0 : EReal) < k0_pay3 (F := Ideal) v67 v116 v129 ↔ ∃ w : Fin 160, k0_pay2 (F := Ideal) v67 v116 (ix2 w 0) ≠ v129 (ix2 w 0) := by
  unfold k0_pay3
  generalize k0_pay2 (F := Ideal) v67 v116 = nw
  refine (max_pos _ (.inl rfl) rfl _).trans ?_
  have hsel : ∀ i : S160x1.Idx, (0 : EReal) < (select (cmpi .ne nw v129) (broadcast S160x1 (Scalar.ofBits (F := Ideal) .f32 0x3F800000#32)) (broadcast S160x1 (Scalar.ofBits (F := Ideal) .f32 0x00000000#32)) : FVec Ideal S160x1 .f32) i ↔ nw i ≠ v129 i :=
    fun i => (pick_pos (nw i != v129 i)).trans bne_iff_ne
  constructor
  · rintro ⟨x, hx⟩
    have := (hsel _).mp hx
    obtain ⟨a, b, e⟩ : ∃ (a : Fin 160) (b : Fin 1), Shape.reshapeEquiv shapeCasts_S160x1_S1x160x1 x = ix2 a b := ⟨_, _, ValueIdx.eq_ix2 _⟩
    rw [e, Subsingleton.elim b 0] at this
    exact ⟨a, this⟩
  · rintro ⟨w, hw⟩
    refine ⟨(Shape.reshapeEquiv shapeCasts_S160x1_S1x160x1).symm (ix2 w 0), (hsel _).mpr ?_⟩
    rwa [Equiv.apply_symm_apply]

/-! ### The three walks of the kernel -/

section walks
variable (𝒱 : Variants) (c : Dev nD) (bd : Option 𝒱.V) (harg7 : arg7.IsWhole) (harg9 : arg9.IsWhole) (v67 : Vec Ideal S320x5120 .bf16) (arg10 : BitVec 1)

/-- A walk of the loop's body finds the boxes no kept box suppresses. -/
theorem hits6 (hT : ∀ w i, w < 160 → i < 5120 → Good X arg7 X7 w i) {P : Fin 5120 → Prop} (hP : IsWords (arg9.view.read (Elt Ideal) X9) P) (q : Fin 5120) :
    st_k0_t6 (F := Ideal) 𝒱 c bd arg7 harg7 arg9 harg9 v67 arg10 X7 X9 k0_pay197 k0_t6_loop.trips (ix2 0 q) = 0#32 ↔ Nms.update (sup X) P q := by
  have hT5 : k0_t6_loop.trips = 5 := by decide
  rw [walk hT5 (st_k0_t6 (F := Ideal) 𝒱 c bd arg7 harg7 arg9 harg9 v67 arg10 X7 X9 k0_pay197) k0_off18 k0_off19 k0_off18_inb k0_off19_inb k0_off18_eq k0_off19_eq
    (fun q => by rw [st_k0_t6_zero]; rfl)
    (fun k => by rw [st_k0_t6_succ]; unfold tripR_k0_t6 trip_k0_t6; rfl) q _ le_rfl, hT5]
  exact meets_iff hT hP q

/-- A walk of the loop's body finds the boxes no kept box suppresses. -/
theorem hits7 (hT : ∀ w i, w < 160 → i < 5120 → Good X arg7 X7 w i) {P : Fin 5120 → Prop} (hP : IsWords (arg9.view.read (Elt Ideal) X9) P) (q : Fin 5120) :
    st_k0_t7 (F := Ideal) 𝒱 c bd arg7 harg7 arg9 harg9 v67 arg10 X7 X9 k0_pay200 k0_t7_loop.trips (ix2 0 q) = 0#32 ↔ Nms.update (sup X) P q := by
  have hT5 : k0_t7_loop.trips = 5 := by decide
  rw [walk hT5 (st_k0_t7 (F := Ideal) 𝒱 c bd arg7 harg7 arg9 harg9 v67 arg10 X7 X9 k0_pay200) k0_off20 k0_off21 k0_off20_inb k0_off21_inb k0_off20_eq k0_off21_eq
    (fun q => by rw [st_k0_t7_zero]; rfl)
    (fun k => by rw [st_k0_t7_succ]; unfold tripR_k0_t7 trip_k0_t7; rfl) q _ le_rfl, hT5]
  exact meets_iff hT hP q

end walks

end Cert.Proof.KernelIdeal
end
-- ==== Proof.Step.lean ====
/-
  One tile of the table of suppressions.

  A trip of the inner loops writes words that are right and leaves the others alone; hence a tile, its loops run in turn, adds
  32 rows and 1024 columns to the part of the table that is right.
-/
module
public import proofs.«01_k».proof.Proof.Words
@[expose] public section
noncomputable section
namespace Cert.Proof.KernelIdeal
open Cert.KernelIdeal Cert.KernelIdeal.Gen Cert.Proof.Rel Cert.Proof.Bits
open Idealize.ShloMosaic Idealize.ShloMosaic.TcCoe Idealize.ShloMosaic.Tactic
open scoped Classical

variable {X : ℕ → Fin 5 → EReal}

/-- A word behind one stored rectangle: inside the rectangle what was stored decides, outside what was there before. -/
theorem Good.cons {arg7 : Memref sig .tc .vmem S160x5120 .i32} {f : BufTy.Contents (Elt Ideal) arg7.view.ty} {off : Fin 2 → ℕ} {A B : ℕ} {inb : ∀ a, off a + ![A, B] a ≤ S160x5120.size a}
    {v : IVec (⟨2, ![A, B]⟩ : Shape) 32} {L : List (View.Piece (Elt Ideal) S160x5120 .i32)} {w i : ℕ} (R C : ℕ) (hoff : off = ![R, C])
    (hit : ∀ (r : Fin A) (q : Fin B) (b : ℕ), b < 32 → (v (ix2 r q)).getLsbD b = decide (suppresses X (32 * (R + r) + b) (C + q)))
    (miss : (w < R ∨ R + A ≤ w ∨ i < C ∨ C + B ≤ i) → Good X arg7 (arg7.view.writes (Elt Ideal) f L) w i) :
    Good X arg7 (arg7.view.writes (Elt Ideal) f (⟨Rect.unit (s := S160x5120) off ![A, B] inb, v⟩ :: L)) w i := by
  intro hw hi b hb
  by_cases h : w < R ∨ R + A ≤ w ∨ i < C ∨ C + B ≤ i
  · rw [← miss h hw hi b hb]
    congr 1
    by_cases h0 : w < R ∨ R + A ≤ w
    · exact View.read_writes_cons_unit_of_not_mem _ _ inb _ _ _ hoff (0 : Fin 2) h0
    · exact View.read_writes_cons_unit_of_not_mem _ _ inb _ _ _ hoff (1 : Fin 2) (by
        show i < C ∨ C + B ≤ i
        omega)
  · have hr : w - R < A := by omega
    have hq : i - C < B := by omega
    have e := View.read_writes_cons_unit_of_mem arg7.view f inb v L (ix2 ⟨w, hw⟩ ⟨i, hi⟩) (ix2 ⟨w - R, hr⟩ ⟨i - C, hq⟩) hoff
      (fun a => match a with
        | ⟨0, _⟩ => by show w = R + (w - R); omega
        | ⟨1, _⟩ => by show i = C + (i - C); omega)
    refine (congrArg (fun z : BitVec 32 => z.getLsbD b) e).trans ((hit ⟨w - R, hr⟩ ⟨i - C, hq⟩ b hb).trans ?_)
    have e1 : 32 * (R + (w - R)) + b = 32 * w + b := by omega
    have e2 : C + (i - C) = i := by omega
    rw [show ((⟨w - R, hr⟩ : Fin A) : ℕ) = w - R from rfl, show ((⟨i - C, hq⟩ : Fin B) : ℕ) = i - C from rfl, e1, e2]

theorem up4 (a n m : ℕ) (h : 128 + 32 * n = 32 * m) : ![a + 128 + 32 * n, 0] = ![a + 32 * m, 0] := by
  rw [Nat.add_assoc, h]

theorem up4w (a n m : ℕ) (h : 128 + 32 * n = 32 * m) : BitVec.ofNat 32 (a + 128 + 32 * n) = BitVec.ofNat 32 (a + 32 * m) := by
  rw [Nat.add_assoc, h]

theorem off4' (t : Fin k0_t1_loop.trips) (k : Fin (k0_t2_loop t).trips) (n : Fin 4) : k0_off4 t k (BitVec.ofNat 32 (32 * n)) = ![256 * k.val + 128 + 32 * n.val, 0] := by
  rw [k0_off4_eq, Nat.add_right_comm]

section trips
variable (𝒱 : Variants) (c : Dev nD) (bd : Option 𝒱.V) (arg0 : Memref sig .tc .vmem S5120x5 .f32) (harg0 : arg0.IsWhole) (arg1 : Memref sig .tc .vmem S1x5120 .f32) (harg1 : arg1.IsWhole) (arg2 : Memref sig .tc .vmem S1x5120 .f32) (harg2 : arg2.IsWhole) (arg3 : Memref sig .tc .vmem S1x5120 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x5120 .i32) (harg6 : arg6.IsWhole) (arg7 : Memref sig .tc .vmem S160x5120 .i32) (harg7 : arg7.IsWhole) (arg8 : Memref sig .tc .vmem S320x5120 .bf16) (harg8 : arg8.IsWhole) (arg9 : Memref sig .tc .vmem S160x1 .i32) (harg9 : arg9.IsWhole)
  (t : Fin k0_t1_loop.trips) (arg10 : BitVec 32) {x1 y1 x2 y2 s : Vec Ideal S1x1024 .f32} (X0 : BufTy.Contents (Elt Ideal) arg0.view.ty)

set_option maxHeartbeats 1000000 in
/-- A trip below the diagonal adds eight rows of the tile's columns and 256 columns of the tile's rows. -/
theorem step2 (hT : TileOf X (1024 * t) x1 y1 x2 y2 s) (hX : ∀ (j : Fin 5120) (k : Fin 5), arg0.view.read (Elt Ideal) X0 (ix2 j k) = X j k)
    (k : Fin (k0_t2_loop t).trips) (acc : BitVec 32) (f : BufTy.Contents (Elt Ideal) arg7.view.ty) (H : ∀ w i, Done t k k w i → Good X arg7 f w i) (w i : ℕ) (hd : Done t (k + 1) (k + 1) w i) :
    Good X arg7 (arg7.view.writes (Elt Ideal) f (tripL_k0_t2 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t arg10 x1 y1 x2 y2 s X0 k acc)) w i := by
  have hk : (k : ℕ) < 4 * t := lt_of_lt_of_eq k.isLt (trips2 t)
  have ht : (t : ℕ) < 5 := lt_of_lt_of_eq t.isLt trips_t1
  rw [trip2]
  refine Good.cons (8 * k) (1024 * t) (k0_off6_eq t k) (fwdPiece _ pw_apply hT rfl (k : ℕ) (by omega) ![Scalar.addi (Scalar.muli (Scalar.muli 2#32 (Scf.iv 0#32 1#32 k)) 128#32) 0#32, Scalar.addi (Scalar.muli (Scalar.muli 2#32 (Scf.iv 0#32 1#32 k)) 128#32) 32#32, Scalar.addi (Scalar.muli (Scalar.muli 2#32 (Scf.iv 0#32 1#32 k)) 128#32) 64#32, Scalar.addi (Scalar.muli (Scalar.muli 2#32 (Scf.iv 0#32 1#32 k)) 128#32) 96#32, Scalar.addi (Scalar.muli (Scalar.addi (Scalar.muli 2#32 (Scf.iv 0#32 1#32 k)) 1#32) 128#32) 0#32, Scalar.addi (Scalar.muli (Scalar.addi (Scalar.muli 2#32 (Scf.iv 0#32 1#32 k)) 1#32) 128#32) 32#32, Scalar.addi (Scalar.muli (Scalar.addi (Scalar.muli 2#32 (Scf.iv 0#32 1#32 k)) 1#32) 128#32) 64#32, Scalar.addi (Scalar.muli (Scalar.addi (Scalar.muli 2#32 (Scf.iv 0#32 1#32 k)) 1#32) 128#32) 96#32] (fun n => match n with | ⟨0, _⟩ => row0_a t k 0 | ⟨1, _⟩ => row0_a t k 1 | ⟨2, _⟩ => row0_a t k 2 | ⟨3, _⟩ => row0_a t k 3 | ⟨4, _⟩ => (row0_b t k 0).trans (up4w _ _ _ rfl) | ⟨5, _⟩ => (row0_b t k 1).trans (up4w _ _ _ rfl) | ⟨6, _⟩ => (row0_b t k 2).trans (up4w _ _ _ rfl) | ⟨7, _⟩ => (row0_b t k 3).trans (up4w _ _ _ rfl)) ![blk X0 (k0_off2 t k 0#32) (k0_off2_inb t k 0), blk X0 (k0_off2 t k 32#32) (k0_off2_inb t k 1), blk X0 (k0_off2 t k 64#32) (k0_off2_inb t k 2), blk X0 (k0_off2 t k 96#32) (k0_off2_inb t k 3), blk X0 (k0_off4 t k 0#32) (k0_off4_inb t k 0), blk X0 (k0_off4 t k 32#32) (k0_off4_inb t k 1), blk X0 (k0_off4 t k 64#32) (k0_off4_inb t k 2), blk X0 (k0_off4 t k 96#32) (k0_off4_inb t k 3)] (fun n => match n with | ⟨0, _⟩ => blk_of X0 hX _ _ _ (k0_off2_eq t k 0) | ⟨1, _⟩ => blk_of X0 hX _ _ _ (k0_off2_eq t k 1) | ⟨2, _⟩ => blk_of X0 hX _ _ _ (k0_off2_eq t k 2) | ⟨3, _⟩ => blk_of X0 hX _ _ _ (k0_off2_eq t k 3) | ⟨4, _⟩ => blk_of X0 hX _ _ _ ((off4' t k 0).trans (up4 _ _ _ rfl)) | ⟨5, _⟩ => blk_of X0 hX _ _ _ ((off4' t k 1).trans (up4 _ _ _ rfl)) | ⟨6, _⟩ => blk_of X0 hX _ _ _ ((off4' t k 2).trans (up4 _ _ _ rfl)) | ⟨7, _⟩ => blk_of X0 hX _ _ _ ((off4' t k 3).trans (up4 _ _ _ rfl)))) fun m1 => ?_
  refine Good.cons (32 * t) (256 * k + 128) (k0_off5_eq t k) (bwdPiece hT rfl (256 * k + 128) (by omega) ![Scalar.addi (Scalar.muli (Scalar.addi (Scalar.muli 2#32 (Scf.iv 0#32 1#32 k)) 1#32) 128#32) 0#32, Scalar.addi (Scalar.muli (Scalar.addi (Scalar.muli 2#32 (Scf.iv 0#32 1#32 k)) 1#32) 128#32) 32#32, Scalar.addi (Scalar.muli (Scalar.addi (Scalar.muli 2#32 (Scf.iv 0#32 1#32 k)) 1#32) 128#32) 64#32, Scalar.addi (Scalar.muli (Scalar.addi (Scalar.muli 2#32 (Scf.iv 0#32 1#32 k)) 1#32) 128#32) 96#32] (fun n => match n with | ⟨0, _⟩ => row0_b t k 0 | ⟨1, _⟩ => row0_b t k 1 | ⟨2, _⟩ => row0_b t k 2 | ⟨3, _⟩ => row0_b t k 3) ![blk X0 (k0_off4 t k 0#32) (k0_off4_inb t k 0), blk X0 (k0_off4 t k 32#32) (k0_off4_inb t k 1), blk X0 (k0_off4 t k 64#32) (k0_off4_inb t k 2), blk X0 (k0_off4 t k 96#32) (k0_off4_inb t k 3)] (fun n => match n with | ⟨0, _⟩ => blk_of X0 hX _ _ _ (off4' t k 0) | ⟨1, _⟩ => blk_of X0 hX _ _ _ (off4' t k 1) | ⟨2, _⟩ => blk_of X0 hX _ _ _ (off4' t k 2) | ⟨3, _⟩ => blk_of X0 hX _ _ _ (off4' t k 3))) fun m2 => ?_
  refine Good.cons (32 * t) (256 * k) (k0_off3_eq t k) (bwdPiece hT rfl (256 * k) (by omega) ![Scalar.addi (Scalar.muli (Scalar.muli 2#32 (Scf.iv 0#32 1#32 k)) 128#32) 0#32, Scalar.addi (Scalar.muli (Scalar.muli 2#32 (Scf.iv 0#32 1#32 k)) 128#32) 32#32, Scalar.addi (Scalar.muli (Scalar.muli 2#32 (Scf.iv 0#32 1#32 k)) 128#32) 64#32, Scalar.addi (Scalar.muli (Scalar.muli 2#32 (Scf.iv 0#32 1#32 k)) 128#32) 96#32] (fun n => match n with | ⟨0, _⟩ => row0_a t k 0 | ⟨1, _⟩ => row0_a t k 1 | ⟨2, _⟩ => row0_a t k 2 | ⟨3, _⟩ => row0_a t k 3) ![blk X0 (k0_off2 t k 0#32) (k0_off2_inb t k 0), blk X0 (k0_off2 t k 32#32) (k0_off2_inb t k 1), blk X0 (k0_off2 t k 64#32) (k0_off2_inb t k 2), blk X0 (k0_off2 t k 96#32) (k0_off2_inb t k 3)] (fun n => match n with | ⟨0, _⟩ => blk_of X0 hX _ _ _ (k0_off2_eq t k 0) | ⟨1, _⟩ => blk_of X0 hX _ _ _ (k0_off2_eq t k 1) | ⟨2, _⟩ => blk_of X0 hX _ _ _ (k0_off2_eq t k 2) | ⟨3, _⟩ => blk_of X0 hX _ _ _ (k0_off2_eq t k 3))) fun m3 => ?_
  refine H w i ?_
  unfold Done at hd ⊢
  omega

/-- A trip on the diagonal adds eight rows of the tile's columns. -/
theorem step4 (hT : TileOf X (1024 * t) x1 y1 x2 y2 s) (hX : ∀ (j : Fin 5120) (k : Fin 5), arg0.view.read (Elt Ideal) X0 (ix2 j k) = X j k)
    (k : Fin (k0_t4_loop t).trips) (acc : BitVec 32) (f : BufTy.Contents (Elt Ideal) arg7.view.ty) (H : ∀ w i, Done t (4 * t + k) (4 * t) w i → Good X arg7 f w i) (w i : ℕ) (hd : Done t (4 * t + (k + 1)) (4 * t) w i) :
    Good X arg7 (arg7.view.writes (Elt Ideal) f (tripL_k0_t4 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t x1 y1 x2 y2 s (Scalar.muli 4#32 (Scf.iv 0#32 1#32 t)) X0 k acc)) w i := by
  have hk : (k : ℕ) < 4 := lt_of_lt_of_eq k.isLt (trips4 t)
  have ht : (t : ℕ) < 5 := lt_of_lt_of_eq t.isLt trips_t1
  rw [trip4]
  refine Good.cons (8 * (4 * t + k)) (1024 * t) (off14 t k) (fwdPiece _ pw_apply hT rfl (4 * t + k : ℕ) (by omega) ![Scalar.addi (Scalar.muli (Scalar.muli 2#32 (Scf.iv (Scalar.muli 4#32 (Scf.iv 0#32 1#32 t)) 1#32 k)) 128#32) 0#32, Scalar.addi (Scalar.muli (Scalar.muli 2#32 (Scf.iv (Scalar.muli 4#32 (Scf.iv 0#32 1#32 t)) 1#32 k)) 128#32) 32#32, Scalar.addi (Scalar.muli (Scalar.muli 2#32 (Scf.iv (Scalar.muli 4#32 (Scf.iv 0#32 1#32 t)) 1#32 k)) 128#32) 64#32, Scalar.addi (Scalar.muli (Scalar.muli 2#32 (Scf.iv (Scalar.muli 4#32 (Scf.iv 0#32 1#32 t)) 1#32 k)) 128#32) 96#32, Scalar.addi (Scalar.muli (Scalar.addi (Scalar.muli 2#32 (Scf.iv (Scalar.muli 4#32 (Scf.iv 0#32 1#32 t)) 1#32 k)) 1#32) 128#32) 0#32, Scalar.addi (Scalar.muli (Scalar.addi (Scalar.muli 2#32 (Scf.iv (Scalar.muli 4#32 (Scf.iv 0#32 1#32 t)) 1#32 k)) 1#32) 128#32) 32#32, Scalar.addi (Scalar.muli (Scalar.addi (Scalar.muli 2#32 (Scf.iv (Scalar.muli 4#32 (Scf.iv 0#32 1#32 t)) 1#32 k)) 1#32) 128#32) 64#32, Scalar.addi (Scalar.muli (Scalar.addi (Scalar.muli 2#32 (Scf.iv (Scalar.muli 4#32 (Scf.iv 0#32 1#32 t)) 1#32 k)) 1#32) 128#32) 96#32] (fun n => match n with | ⟨0, _⟩ => row0_c t k 0 | ⟨1, _⟩ => row0_c t k 1 | ⟨2, _⟩ => row0_c t k 2 | ⟨3, _⟩ => row0_c t k 3 | ⟨4, _⟩ => (row0_d t k 0).trans (up4w _ _ _ rfl) | ⟨5, _⟩ => (row0_d t k 1).trans (up4w _ _ _ rfl) | ⟨6, _⟩ => (row0_d t k 2).trans (up4w _ _ _ rfl) | ⟨7, _⟩ => (row0_d t k 3).trans (up4w _ _ _ rfl)) ![blk X0 (k0_off12 t k 0#32) (k0_off12_inb t k 0), blk X0 (k0_off12 t k 32#32) (k0_off12_inb t k 1), blk X0 (k0_off12 t k 64#32) (k0_off12_inb t k 2), blk X0 (k0_off12 t k 96#32) (k0_off12_inb t k 3), blk X0 (k0_off13 t k 0#32) (k0_off13_inb t k 0), blk X0 (k0_off13 t k 32#32) (k0_off13_inb t k 1), blk X0 (k0_off13 t k 64#32) (k0_off13_inb t k 2), blk X0 (k0_off13 t k 96#32) (k0_off13_inb t k 3)] (fun n => match n with | ⟨0, _⟩ => blk_of X0 hX _ _ _ (off12 t k 0) | ⟨1, _⟩ => blk_of X0 hX _ _ _ (off12 t k 1) | ⟨2, _⟩ => blk_of X0 hX _ _ _ (off12 t k 2) | ⟨3, _⟩ => blk_of X0 hX _ _ _ (off12 t k 3) | ⟨4, _⟩ => blk_of X0 hX _ _ _ ((off13 t k 0).trans (up4 _ _ _ rfl)) | ⟨5, _⟩ => blk_of X0 hX _ _ _ ((off13 t k 1).trans (up4 _ _ _ rfl)) | ⟨6, _⟩ => blk_of X0 hX _ _ _ ((off13 t k 2).trans (up4 _ _ _ rfl)) | ⟨7, _⟩ => blk_of X0 hX _ _ _ ((off13 t k 3).trans (up4 _ _ _ rfl)))) fun m1 => ?_
  refine H w i ?_
  unfold Done at hd ⊢
  omega

end trips

end Cert.Proof.KernelIdeal
end
-- ==== Proof.Build.lean ====
/-
  The table of suppressions is built tile by tile.

  The inner loops of a tile, run one after the other, complete the tile's part of the table (`loop2`, `loop4`); the outer loop keeps
  that the tiles so far are complete (`tileLoop`), so behind it every word of the table is right.
-/
module
public import proofs.«01_k».proof.Proof.Step
public import proofs.«01_k».proof.Proof.Gen.KernelIdeal.Loops
@[expose] public section
noncomputable section
namespace Cert.Proof.KernelIdeal
open Cert.KernelIdeal Cert.KernelIdeal.Gen Cert.Proof.Rel Cert.Proof.Bits
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped Classical

variable {X : ℕ → Fin 5 → EReal}

local notation "𝕄" => MT nD τ sig Unit (Elt Ideal) ℕ (UR sig nD τ) ℕ

/-- The first `n` tiles are complete. -/
def Table (X : ℕ → Fin 5 → EReal) (arg7 : Memref sig .tc .vmem S160x5120 .i32) (n : ℕ) (f : BufTy.Contents (Elt Ideal) arg7.view.ty) : Prop :=
  ∀ w i, w < 32 * n → i < 1024 * n → Good X arg7 f w i

section loops
variable (𝒱 : Variants) (c : Dev nD) (bd : Option 𝒱.V) (arg0 : Memref sig .tc .vmem S5120x5 .f32) (harg0 : arg0.IsWhole) (arg1 : Memref sig .tc .vmem S1x5120 .f32) (harg1 : arg1.IsWhole) (arg2 : Memref sig .tc .vmem S1x5120 .f32) (harg2 : arg2.IsWhole) (arg3 : Memref sig .tc .vmem S1x5120 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x5120 .i32) (harg6 : arg6.IsWhole) (arg7 : Memref sig .tc .vmem S160x5120 .i32) (harg7 : arg7.IsWhole) (arg8 : Memref sig .tc .vmem S320x5120 .bf16) (harg8 : arg8.IsWhole) (arg9 : Memref sig .tc .vmem S160x1 .i32) (harg9 : arg9.IsWhole)
  (t : Fin k0_t1_loop.trips) (arg10 : BitVec 32) {x1 y1 x2 y2 s : Vec Ideal S1x1024 .f32} (X0 : BufTy.Contents (Elt Ideal) arg0.view.ty)

/-- The loop below the diagonal completes the tile up to the diagonal. -/
theorem loop2 (hT : TileOf X (1024 * t) x1 y1 x2 y2 s) (hX : ∀ (j : Fin 5120) (k : Fin 5), arg0.view.read (Elt Ideal) X0 (ix2 j k) = X j k)
    (init : BitVec 32) (G : BufTy.Contents (Elt Ideal) arg7.view.ty) (H : ∀ w i, Done t 0 0 w i → Good X arg7 G w i) (n : ℕ) (hn : n ≤ (k0_t2_loop t).trips) :
    ∀ w i, Done t n n w i → Good X arg7 (arg7.view.writes (Elt Ideal) G (st_k0_t2 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t arg10 x1 y1 x2 y2 s X0 init n).2) w i := by
  induction n with
  | zero => exact H
  | succ n ih =>
    intro w i hd
    rw [st_k0_t2_succ (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t arg10 x1 y1 x2 y2 s X0 init ⟨n, hn⟩, View.writes_append]
    exact step2 𝒱 c bd arg0 harg0 arg1 harg1 arg2 harg2 arg3 harg3 arg4 harg4 arg5 harg5 arg6 harg6 arg7 harg7 arg8 harg8 arg9 harg9 t arg10 X0 hT hX ⟨n, hn⟩ _ _ (ih (Nat.le_of_succ_le hn)) w i hd

/-- The loop on the diagonal completes the tile. -/
theorem loop4 (hT : TileOf X (1024 * t) x1 y1 x2 y2 s) (hX : ∀ (j : Fin 5120) (k : Fin 5), arg0.view.read (Elt Ideal) X0 (ix2 j k) = X j k)
    (init : BitVec 32) (G : BufTy.Contents (Elt Ideal) arg7.view.ty) (H : ∀ w i, Done t (4 * t) (4 * t) w i → Good X arg7 G w i) (n : ℕ) (hn : n ≤ (k0_t4_loop t).trips) :
    ∀ w i, Done t (4 * t + n) (4 * t) w i → Good X arg7 (arg7.view.writes (Elt Ideal) G (st_k0_t4 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t x1 y1 x2 y2 s (Scalar.muli 4#32 (Scf.iv 0#32 1#32 t)) X0 init n).2) w i := by
  induction n with
  | zero => exact H
  | succ n ih =>
    intro w i hd
    rw [st_k0_t4_succ (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t x1 y1 x2 y2 s _ X0 init ⟨n, hn⟩, View.writes_append]
    exact step4 𝒱 c bd arg0 harg0 arg1 harg1 arg2 harg2 arg3 harg3 arg4 harg4 arg5 harg5 arg6 harg6 arg7 harg7 arg8 harg8 arg9 harg9 t X0 hT hX ⟨n, hn⟩ _ _ (ih (Nat.le_of_succ_le hn)) w i hd

/-- The four loops of a tile, run in turn, complete it. -/
theorem tile_done (hT : TileOf X (1024 * t) x1 y1 x2 y2 s) (hX : ∀ (j : Fin 5120) (k : Fin 5), arg0.view.read (Elt Ideal) X0 (ix2 j k) = X j k)
    (v107 v117 i2 i3 i4 i5 arg10 : BitVec 32) (f : BufTy.Contents (Elt Ideal) arg7.view.ty) (hf : Table X arg7 t f) :
    Table X arg7 (t + 1) (arg7.view.writes (Elt Ideal) f ((st_k0_t5 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t x1 y1 x2 y2 s v117 X0 i5 (k0_t5_loop t).trips).2
      ++ ((st_k0_t4 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t x1 y1 x2 y2 s (Scalar.muli 4#32 (Scf.iv 0#32 1#32 t)) X0 i4 (k0_t4_loop t).trips).2 ++ ((st_k0_t3 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t arg10 x1 y1 x2 y2 s v107 X0 i3 (k0_t3_loop t).trips).2 ++ (st_k0_t2 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t arg10 x1 y1 x2 y2 s X0 i2 (k0_t2_loop t).trips).2)))) := by
  have e5 : (st_k0_t5 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t x1 y1 x2 y2 s v117 X0 i5 (k0_t5_loop t).trips).2 = [] := congrArg (fun n => (st_k0_t5 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t x1 y1 x2 y2 s v117 X0 i5 n).2) (trips5 t)
  have e3 : (st_k0_t3 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t arg10 x1 y1 x2 y2 s v107 X0 i3 (k0_t3_loop t).trips).2 = [] := congrArg (fun n => (st_k0_t3 (F := Ideal) 𝒱 c bd arg0 harg0 arg1 harg1 arg2 harg2 arg3 harg3 arg4 harg4 arg5 harg5 arg6 harg6 arg7 harg7 arg8 harg8 arg9 harg9 (k0_pay191 k0_pay189 k0_pay190 (Scalar.ofBits .f32 0x00000000#32)) k0_pay192 0#32 1#32 t arg10 x1 y1 x2 y2 s v107 X0 i3 n).2) (trips3 t)
  rw [e5, e3, List.nil_append, List.nil_append, View.writes_append]
  intro w i hw hi
  refine loop4 𝒱 c bd arg0 harg0 arg1 harg1 arg2 harg2 arg3 harg3 arg4 harg4 arg5 harg5 arg6 harg6 arg7 harg7 arg8 harg8 arg9 harg9 t X0 hT hX i4 _ (fun w i hd => ?_) _ le_rfl w i ?_
  · refine loop2 𝒱 c bd arg0 harg0 arg1 harg1 arg2 harg2 arg3 harg3 arg4 harg4 arg5 harg5 arg6 harg6 arg7 harg7 arg8 harg8 arg9 harg9 t arg10 X0 hT hX i2 f (fun w i hd => ?_) _ le_rfl w i ?_
    · refine hf w i ?_ ?_ <;> unfold Done at hd <;> omega
    · rw [trips2]; exact hd
  · rw [trips4]; unfold Done; omega

end loops

set_option maxHeartbeats 4000000 in
/-- Before tile `k` the tiles so far are complete. -/
@[sl_loop] def tileLoop (𝒱 : Variants) (c : Dev nD) (bd : Option 𝒱.V) (E : Set ℕ) (arg0 : Memref sig .tc .vmem S5120x5 .f32) (harg0 : arg0.IsWhole) (arg1 : Memref sig .tc .vmem S1x5120 .f32) (harg1 : arg1.IsWhole) (arg2 : Memref sig .tc .vmem S1x5120 .f32) (harg2 : arg2.IsWhole) (arg3 : Memref sig .tc .vmem S1x5120 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x5120 .i32) (harg6 : arg6.IsWhole) (arg7 : Memref sig .tc .vmem S160x5120 .i32) (harg7 : arg7.IsWhole) (arg8 : Memref sig .tc .vmem S320x5120 .bf16) (harg8 : arg8.IsWhole) (arg9 : Memref sig .tc .vmem S160x1 .i32) (harg9 : arg9.IsWhole)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty)
  (hX0 : ∀ (j : Fin 5120) (k : Fin 5), arg0.view.read (Elt Ideal) X0 (ix2 j k) = X j k)
  (hX1 : ∀ j : Fin 5120, arg1.view.read (Elt Ideal) X1 (ix2 0 j) = X j 0)
  (hX2 : ∀ j : Fin 5120, arg2.view.read (Elt Ideal) X2 (ix2 0 j) = X j 1)
  (hX3 : ∀ j : Fin 5120, arg3.view.read (Elt Ideal) X3 (ix2 0 j) = X j 2)
  (hX4 : ∀ j : Fin 5120, arg4.view.read (Elt Ideal) X4 (ix2 0 j) = X j 3)
  (hX5 : ∀ j : Fin 5120, arg5.view.read (Elt Ideal) X5 (ix2 0 j) = X j 4) :
    LoopInvTy_k0_t1 (F := Ideal) Unit ℕ (UR sig nD τ) ℕ 𝒱 c bd E arg0 harg0 arg1 harg1 arg2 harg2 arg3 harg3 arg4 harg4 arg5 harg5 arg6 harg6 arg7 harg7 arg8 harg8 arg9 harg9 k0_pay189 k0_pay190 (Scalar.ofBits .f32 0x00000000#32) where
  inv := fun n _ => iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ ∃ f, (arg7.view.loc (c : Thread nD τ) ↦[arg7.view.set]{fullShare} f) ∗ ⌜Table X arg7 n f⌝)
  step t acc := by
    unfold k0_t1_body
    iintro ⟨H0, H1, H2, H3, H4, H5, %f, H7, %hf⟩
    sl_exec
    sl_step
    isplitl [H0]; · iexact H0
    isplitl [H1]; · iexact H1
    isplitl [H2]; · iexact H2
    isplitl [H3]; · iexact H3
    isplitl [H4]; · iexact H4
    isplitl [H5]; · iexact H5
    iexists _
    isplitl [H7]; · iexact H7
    ipureintro
    exact tile_done 𝒱 c bd arg0 harg0 arg1 harg1 arg2 harg2 arg3 harg3 arg4 harg4 arg5 harg5 arg6 harg6 arg7 harg7 arg8 harg8 arg9 harg9 t X0 ⟨fun q => row_of X1 0 hX1 _ _ _ (k0_off1_eq t) q, fun q => row_of X2 1 hX2 _ _ _ (k0_off1_eq t) q, fun q => row_of X3 2 hX3 _ _ _ (k0_off1_eq t) q, fun q => row_of X4 3 hX4 _ _ _ (k0_off1_eq t) q, fun q => row_of X5 4 hX5 _ _ _ (k0_off1_eq t) q⟩ hX0 _ _ _ _ _ _ _ f hf

end Cert.Proof.KernelIdeal
end
-- ==== Proof.While.lean ====
/-
  The kernel's loop to a fixed point.

  One turn applies the rule twice and tells whether the second application changed anything. No change means a fixed point, which is
  the set of kept boxes; and behind as many applications as there are boxes nothing can change, so the loop ends.
-/
module
public import proofs.«01_k».proof.Proof.Hits
public import proofs.«01_k».proof.Proof.Build
public import Idealize.ShloMosaic.Lib.Tactic
@[expose] public section
noncomputable section
namespace Cert.Proof.KernelIdeal
open Cert.KernelIdeal Cert.KernelIdeal.Gen Cert.Proof.Rel Cert.Proof.Bits
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped Classical

local notation "𝕄" => MT nD τ sig Unit (Elt Ideal) ℕ (UR sig nD τ) ℕ

/-- The loop's turns are counted down. -/
abbrev 𝒱₀ : Variants := Variants.nat

variable (X : ℕ → Fin 5 → EReal) (rank : Fin 5120 → ℕ) (c : Dev nD)
  (arg7 : Memref sig .tc .vmem S160x5120 .i32) (harg7 : arg7.IsWhole) (arg9 : Memref sig .tc .vmem S160x1 .i32) (harg9 : arg9.IsWhole)
  (X7 : BufTy.Contents (Elt Ideal) arg7.view.ty)

/-- The table as it is, and kept words that are those of `P`. -/
def held (P : Fin 5120 → Prop) : sProp 𝕄 :=
  iprop((arg7.view.loc (c : Thread nD τ) ↦[arg7.view.set]{fullShare} X7) ∗ ∃ f, (arg9.view.loc (c : Thread nD τ) ↦[arg9.view.set]{fullShare} f) ∗ ⌜IsWords (arg9.view.read (Elt Ideal) f) P⌝)

/-- What calling the loop gives: from the words of `P`, those of the kept boxes. -/
def spec (P : Fin 5120 → Prop) : sWPT 𝕄 (BitVec 1) := do
  sWPT.consume (held c arg7 arg9 X7 P)
  let r ← sWPT.arbitrary
  sWPT.produce (held c arg7 arg9 X7 (Nms.keep (sup X) rank))
  pure r

theorem spec_apply (P : Fin 5120 → Prop) (K : BitVec 1 → sProp 𝕄) :
    spec X rank c arg7 arg9 X7 P K = iprop(held c arg7 arg9 X7 P ∗ ∀ r : BitVec 1, (held c arg7 arg9 X7 (Nms.keep (sup X) rank) -∗ K r)) := rfl

/-- What was stored over the whole column is what it holds. -/
theorem read_stored {arg9 : Memref sig .tc .vmem S160x1 .i32} (f : BufTy.Contents (Elt Ideal) arg9.view.ty) (inb : ∀ a, (![0, 0] : Fin 2 → ℕ) a + (![160, 1] : Fin 2 → ℕ) a ≤ S160x1.size a) (v : IVec S160x1 32)
    (L : List (View.Piece (Elt Ideal) S160x1 .i32)) (w : Fin 160) :
    arg9.view.read (Elt Ideal) (arg9.view.writes (Elt Ideal) f (⟨Rect.unit (s := S160x1) ![0, 0] ![160, 1] inb, v⟩ :: L)) (ix2 w 0) = v (ix2 w 0) :=
  View.read_writes_cons_unit_of_mem arg9.view f inb v L (ix2 w 0) (ix2 w 0) rfl
    (fun a => match a with
      | ⟨0, _⟩ => by show (w : ℕ) = 0 + w; omega
      | ⟨1, _⟩ => by show 0 = 0 + 0; omega)

/-- Loading the whole column reads it. -/
theorem load_all {arg9 : Memref sig .tc .vmem S160x1 .i32} (f : BufTy.Contents (Elt Ideal) arg9.view.ty) (inb : ∀ a, (![0, 0] : Fin 2 → ℕ) a + (![160, 1] : Fin 2 → ℕ) a ≤ S160x1.size a) (w : Fin 160) :
    (View.readAt (Elt Ideal) arg9.view (Rect.unit (s := S160x1) ![0, 0] ![160, 1] inb).toLoadRect f : Vec Ideal S160x1 .i32) (ix2 w 0) = arg9.view.read (Elt Ideal) f (ix2 w 0) := by
  show arg9.view.read (Elt Ideal) f _ = _
  congr 1
  funext a
  apply Fin.ext
  fin_cases a
  · show 0 + 1 * (w : ℕ) = w; omega
  · show 0 + 1 * 0 = 0; omega

theorem IsWords.congr {v v' : IVec S160x1 32} {P P' : Fin 5120 → Prop} (h : IsWords v P) (e : ∀ w : Fin 160, v' (ix2 w 0) = v (ix2 w 0)) (hP : ∀ i, P i ↔ P' i) : IsWords v' P' := by
  intro w b hb
  rw [e, h w b hb]
  exact decide_eq_decide.mpr (hP _)

/-- The loop's body meets it: entered with the outcome of `n` applications, either finished or with enough turns left. -/
theorem body_meets_spec (E : Set ℕ) (hS : ∀ a b, sup X a b → rank a < rank b) (hN : ∀ b, rank b < 5120)
    (hT : ∀ w i, w < 160 → i < 5120 → Good X arg7 X7 w i) (v67 : Vec Ideal S320x5120 .bf16) (hv : ∀ (r : Fin 320) (k : Fin 5120), v67 (ix2 r k) = ((weight 160 k r : ℕ) : EReal)) :
    ∀ (v n : ℕ) (go : BitVec 1), (go ≠ 1#1 → ∀ b, Nms.iter (sup X) n b ↔ Nms.keep (sup X) rank b) → (go = 1#1 → 5120 < n + 2 * v ∧ 0 < v) → ∀ K,
      spec X rank c arg7 arg9 X7 (Nms.iter (sup X) n) K
        ⊢ wp frame (wpE (defs₀ (F := Ideal)) 𝒱₀ (c : Thread nD τ) (some v)) E (defs₀ (F := Ideal) .tc 1 ⟨arg7, harg7, arg9, harg9, v67, go⟩) K := by
  intro v
  induction v with
  | zero =>
    intro n go h0 h1 K
    have hgo : ¬ go = 1#1 := fun h => absurd (h1 h).2 (lt_irrefl _)
    rw [spec_apply]
    show _ ⊢ wp frame (wpE (defs₀ (F := Ideal)) 𝒱₀ (c : Thread nD τ) (some 0)) E (cc0_while1 arg7 harg7 arg9 harg9 v67 go) K
    simp only [cc0_while1_eq_skeleton]; unfold cc0_while1_skel
    simp only [hgo, ↓reduceIte, Prog.pure_eq_ret]
    iintro ⟨H, Hk⟩
    rw [wp_ret]; imodintro
    iapply Hk
    rw [show Nms.iter (sup X) n = Nms.keep (sup X) rank from funext fun b => propext (h0 hgo b)]
    iexact H
  | succ v ih =>
    intro n go h0 h1 K
    by_cases hgo : go = 1#1
    · rw [spec_apply]
      show _ ⊢ wp frame (wpE (defs₀ (F := Ideal)) 𝒱₀ (c : Thread nD τ) (some (v + 1))) E (cc0_while1 arg7 harg7 arg9 harg9 v67 go) K
      simp only [cc0_while1_eq_skeleton]; unfold cc0_while1_skel
      simp only [hgo, ↓reduceIte]
      unfold held
      iintro ⟨⟨H7, %f, H9, %hf⟩, Hk⟩
      sl_exec
      unfold body_meets_spec.sl.r body_meets_spec.sl.v129 body_meets_spec.sl.H9_1
      -- the words behind the first application, and behind the second
      have w1 : IsWords (k0_pay199 (F := Ideal) v67 (st_k0_t6 (F := Ideal) 𝒱₀ c (some (v + 1)) arg7 harg7 arg9 harg9 v67 1#1 X7 f k0_pay197 k0_t6_loop.trips)) (Nms.iter (sup X) (n + 1)) :=
        (packed_bit v67 hv (st_k0_t6 (F := Ideal) 𝒱₀ c (some (v + 1)) arg7 harg7 arg9 harg9 v67 1#1 X7 f k0_pay197 k0_t6_loop.trips)).congr
          (fun w => by pointwise [k0_pay199, k0_pay2, k0_pay202]) (fun q => hits6 𝒱₀ c _ harg7 harg9 v67 _ hT hf q)
      generalize hv1 : k0_pay199 (F := Ideal) v67 (st_k0_t6 (F := Ideal) 𝒱₀ c (some (v + 1)) arg7 harg7 arg9 harg9 v67 1#1 X7 f k0_pay197 (Scf.trips k0_t6_loop.lb k0_t6_loop.ub k0_t6_loop.st)) = v1
      replace w1 : IsWords v1 (Nms.iter (sup X) (n + 1)) := by rw [← hv1]; exact w1
      have hf1 := w1.congr (fun w => read_stored (arg9 := arg9) arg9.view.junk inb_S160x1_S160x1_0_0 v1 [] w) (fun _ => Iff.rfl)
      generalize hh : st_k0_t7 (F := Ideal) 𝒱₀ c (some (v + 1)) arg7 harg7 arg9 harg9 v67 1#1 X7 (arg9.view.writes (Elt Ideal) arg9.view.junk [⟨Rect.unit (s := S160x1) ![0, 0] S160x1.size inb_S160x1_S160x1_0_0, v1⟩]) k0_pay200 (Scf.trips k0_t7_loop.lb k0_t7_loop.ub k0_t7_loop.st) = h2
      have w2 : IsWords (k0_pay2 (F := Ideal) v67 (k0_pay202 h2)) (Nms.iter (sup X) (n + 2)) :=
        (packed_bit v67 hv h2).congr (fun w => rfl) (fun q => by rw [← hh]; exact hits7 𝒱₀ c _ harg7 harg9 v67 _ hT hf1 q)
      have wv : IsWords (arg9.view.readCov [⟨Rect.unit (s := S160x1) ![0, 0] S160x1.size inb_S160x1_S160x1_0_0, v1⟩] (Rect.unit (s := S160x1) ![0, 0] ![160, 1] inb_S160x1_S160x1_0_0).toLoadRect : Vec Ideal S160x1 .i32) (Nms.iter (sup X) (n + 1)) :=
        hf1.congr (fun w => load_all _ _ w) (fun _ => Iff.rfl)
      generalize hgo' : Scalar.cmpf (F := Ideal) .ogt (k0_pay3 (F := Ideal) v67 (k0_pay202 h2) (arg9.view.readCov [⟨Rect.unit (s := S160x1) ![0, 0] S160x1.size inb_S160x1_S160x1_0_0, v1⟩] (Rect.unit (s := S160x1) ![0, 0] ![160, 1] inb_S160x1_S160x1_0_0).toLoadRect : Vec Ideal S160x1 .i32)) (FloatOps.ofBits (F := Ideal) .f32 0#32) = go'
      have hchg : go' = 1#1 ↔ ¬ ∀ b, Nms.iter (sup X) (n + 2) b ↔ Nms.iter (sup X) (n + 1) b := by
        rw [← w2.unique wv, not_forall, ← hgo']
        refine Iff.trans ?_ (changed_iff v67 (k0_pay202 h2) _)
        have z : FloatOps.ofBits (F := Ideal) .f32 0#32 = (0 : EReal) := by simp [Ideal.ofBits, Ideal.ieee]
        rw [z]
        show BitVec.ofBool (decide ((0 : EReal) < _)) = 1#1 ↔ _
        by_cases h : (0 : EReal) < k0_pay3 (F := Ideal) v67 (k0_pay202 h2) (arg9.view.readCov [⟨Rect.unit (s := S160x1) ![0, 0] S160x1.size inb_S160x1_S160x1_0_0, v1⟩] (Rect.unit (s := S160x1) ![0, 0] ![160, 1] inb_S160x1_S160x1_0_0).toLoadRect : Vec Ideal S160x1 .i32)
        · rw [decide_eq_true h]; exact ⟨fun _ => h, fun _ => rfl⟩
        · rw [decide_eq_false h]; exact ⟨fun e => absurd e (by decide), fun e => absurd e h⟩
      have a1 : go' ≠ 1#1 → ∀ b, Nms.iter (sup X) (n + 2) b ↔ Nms.keep (sup X) rank b := by
        intro h
        have hfix : ∀ b, Nms.iter (sup X) (n + 2) b ↔ Nms.iter (sup X) (n + 1) b := not_not.mp (fun hn => h (hchg.mpr hn))
        exact Nms.eq_keep_of_fixed hS (fun b => Nms.update_congr hS (n := rank b) (fun a _ => (hfix a).symm) b (Nat.lt_succ_self _))
      have a2 : go' = 1#1 → 5120 < n + 2 + 2 * v ∧ 0 < v := by
        intro h
        have : ¬ 5120 ≤ n + 1 := fun hle => hchg.mp h (fun b => Nms.iter_fixed hS hN hle b)
        have := (h1 hgo).1
        omega
      iapply (wp_call_spec 𝒱₀ (c : Thread nD τ) (some (v + 1)) E (spec X rank c arg7 arg9 X7 (Nms.iter (sup X) (n + 2))) v
        (fun u hu => by cases hu; exact Nat.lt_succ_self v)
        (ih (n + 2) go' a1 a2))
      rw [spec_apply]; unfold held
      isplitl [H7 H9]
      · isplitl [H7]; · iexact H7
        iexists _
        isplitl [H9]; · iexact H9
        ipureintro
        exact w2.congr (fun w => (read_stored (arg9 := arg9) _ _ _ _ w).trans (by pointwise [k0_pay4])) (fun _ => Iff.rfl)
      iintro %r H
      rw [wp_ret]; imodintro
      iapply Hk
      iexact H
    · rw [spec_apply]
      show _ ⊢ wp frame (wpE (defs₀ (F := Ideal)) 𝒱₀ (c : Thread nD τ) (some (v + 1))) E (cc0_while1 arg7 harg7 arg9 harg9 v67 go) K
      simp only [cc0_while1_eq_skeleton]; unfold cc0_while1_skel
      simp only [hgo, ↓reduceIte, Prog.pure_eq_ret]
      iintro ⟨H, Hk⟩
      rw [wp_ret]; imodintro
      iapply Hk
      rw [show Nms.iter (sup X) n = Nms.keep (sup X) rank from funext fun b => propext (h0 hgo b)]
      iexact H

end Cert.Proof.KernelIdeal
end
-- ==== Proof.Kernel.lean ====
/-
  One run of the kernel's body.

  Handed the padded boxes by columns and by rows, it leaves the flags of the kept boxes in its result.
-/
module
public import proofs.«01_k».proof.Proof.While
@[expose] public section
noncomputable section
namespace Cert.Proof.KernelIdeal
open Cert.KernelIdeal Cert.KernelIdeal.Gen Cert.Proof.Rel Cert.Proof.Bits
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped Classical

local notation "𝕄" => MT nD τ sig Unit (Elt Ideal) ℕ (UR sig nD τ) ℕ

variable (X : ℕ → Fin 5 → EReal) (rank : Fin 5120 → ℕ) (c : Dev nD)
  (arg0 : Memref sig .tc .vmem S5120x5 .f32) (harg0 : arg0.IsWhole) (arg1 : Memref sig .tc .vmem S1x5120 .f32) (harg1 : arg1.IsWhole) (arg2 : Memref sig .tc .vmem S1x5120 .f32) (harg2 : arg2.IsWhole) (arg3 : Memref sig .tc .vmem S1x5120 .f32) (harg3 : arg3.IsWhole) (arg4 : Memref sig .tc .vmem S1x5120 .f32) (harg4 : arg4.IsWhole) (arg5 : Memref sig .tc .vmem S1x5120 .f32) (harg5 : arg5.IsWhole) (arg6 : Memref sig .tc .vmem S1x5120 .i32) (harg6 : arg6.IsWhole) (arg7 : Memref sig .tc .vmem S160x5120 .i32) (harg7 : arg7.IsWhole) (arg8 : Memref sig .tc .vmem S320x5120 .bf16) (harg8 : arg8.IsWhole) (arg9 : Memref sig .tc .vmem S160x1 .i32) (harg9 : arg9.IsWhole)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty)

/-- The flags of a set of boxes. -/
def flags (P : Fin 5120 → Prop) : IVec S1x5120 32 := fun j => if P (j 1) then 1#32 else 0#32

/-- The flag computed at the end is the kept box's. -/
theorem flag_value (v : IVec S1x5120 32) {P : Fin 5120 → Prop} (h : ∀ q, v (ix2 0 q) = 0#32 ↔ P q) (q : Fin 5120) :
    k0_pay1 (k0_pay196 v) (ix2 0 q) = flags P (ix2 0 q) := by
  pointwise [k0_pay1, k0_pay196]
  show _ = if P q then 1#32 else 0#32
  by_cases hq : P q
  · rw [if_pos hq, (h q).mpr hq]; rfl
  · rw [if_neg hq]
    show BitVec.setWidth 32 (BitVec.ofBool (v (ix2 0 q) == 0#32)) = 0#32
    rw [beq_eq_false_iff_ne.mpr (fun e => hq ((h q).mp e))]; rfl

/-- What was stored over the whole of the weights' buffer reads back. -/
theorem loaded (v : Vec Ideal S320x5120 .bf16) (r : Fin 320) (k : Fin 5120) :
    (View.readCov arg8.view [⟨Rect.unit (s := S320x5120) ![0, 0] S320x5120.size inb_S320x5120_S320x5120_0_0, v⟩] (Rect.unit (s := S320x5120) ![0, 0] ![320, 5120] inb_S320x5120_S320x5120_0_0).toLoadRect : Vec Ideal S320x5120 .bf16) (ix2 r k) = v (ix2 r k) := by
  have e1 : (View.readCov arg8.view [⟨Rect.unit (s := S320x5120) ![0, 0] S320x5120.size inb_S320x5120_S320x5120_0_0, v⟩] (Rect.unit (s := S320x5120) ![0, 0] ![320, 5120] inb_S320x5120_S320x5120_0_0).toLoadRect : Vec Ideal S320x5120 .bf16) (ix2 r k)
      = arg8.view.read (Elt Ideal) (arg8.view.writes (Elt Ideal) arg8.view.junk [⟨Rect.unit (s := S320x5120) ![0, 0] ![320, 5120] inb_S320x5120_S320x5120_0_0, v⟩]) (ix2 r k) := by
    show arg8.view.read (Elt Ideal) _ _ = _
    congr 1
    funext a
    apply Fin.ext
    fin_cases a
    · show 0 + 1 * (r : ℕ) = r; omega
    · show 0 + 1 * (k : ℕ) = k; omega
  exact e1.trans (View.read_writes_cons_unit_of_mem arg8.view _ inb_S320x5120_S320x5120_0_0 v [] (ix2 r k) (ix2 r k) rfl
    (fun a => match a with
      | ⟨0, _⟩ => by show (r : ℕ) = 0 + r; omega
      | ⟨1, _⟩ => by show (k : ℕ) = 0 + k; omega))

/-- The last walk finds the boxes no kept box suppresses. -/
theorem hits8 (𝒱 : Variants) (bd : Option 𝒱.V) {X7 : BufTy.Contents (Elt Ideal) arg7.view.ty} {X9 : BufTy.Contents (Elt Ideal) arg9.view.ty} (v37 : IVec S16x256 1) (v42 : FVec Ideal S16x256 .f32) (cst_7 : Ideal .f32)
    (hT : ∀ w i, w < 160 → i < 5120 → Good X arg7 X7 w i) {P : Fin 5120 → Prop} (hP : IsWords (arg9.view.read (Elt Ideal) X9) P) (q : Fin 5120) :
    st_k0_t8 (F := Ideal) 𝒱 c bd arg0 harg0 arg1 harg1 arg2 harg2 arg3 harg3 arg4 harg4 arg5 harg5 arg6 harg6 arg7 harg7 arg8 harg8 arg9 harg9 v37 v42 cst_7 X7 X9 k0_pay194 k0_t8_loop.trips (ix2 0 q) = 0#32 ↔ Nms.update (sup X) P q := by
  have hT5 : k0_t8_loop.trips = 5 := by decide
  rw [walk hT5 (st_k0_t8 (F := Ideal) 𝒱 c bd arg0 harg0 arg1 harg1 arg2 harg2 arg3 harg3 arg4 harg4 arg5 harg5 arg6 harg6 arg7 harg7 arg8 harg8 arg9 harg9 v37 v42 cst_7 X7 X9 k0_pay194) k0_off22 k0_off23 k0_off22_inb k0_off23_inb k0_off22_eq k0_off23_eq
    (fun q => by rw [st_k0_t8_zero]; rfl)
    (fun k => by rw [st_k0_t8_succ]; unfold tripR_k0_t8 trip_k0_t8; rfl) q _ le_rfl, hT5]
  exact meets_iff hT hP q

/-- The body's run: the flags of the kept boxes are left in the result, the operands as they were. -/
theorem body_run (hS : ∀ a b, sup X a b → rank a < rank b) (hN : ∀ b, rank b < 5120) (hX0 : ∀ (j : Fin 5120) (k : Fin 5), arg0.view.read (Elt Ideal) X0 (ix2 j k) = X j k) (hX1 : ∀ j : Fin 5120, arg1.view.read (Elt Ideal) X1 (ix2 0 j) = X j 0) (hX2 : ∀ j : Fin 5120, arg2.view.read (Elt Ideal) X2 (ix2 0 j) = X j 1) (hX3 : ∀ j : Fin 5120, arg3.view.read (Elt Ideal) X3 (ix2 0 j) = X j 2) (hX4 : ∀ j : Fin 5120, arg4.view.read (Elt Ideal) X4 (ix2 0 j) = X j 3) (hX5 : ∀ j : Fin 5120, arg5.view.read (Elt Ideal) X5 (ix2 0 j) = X j 4)
    (G6 : BufTy.Contents (Elt Ideal) arg6.view.ty) (G7 : BufTy.Contents (Elt Ideal) arg7.view.ty) (G8 : BufTy.Contents (Elt Ideal) arg8.view.ty) (G9 : BufTy.Contents (Elt Ideal) arg9.view.ty) (K : PUnit → sProp 𝕄) :
    iprop(((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} G6) ∗ (arg7.view.loc (c : Thread nD τ) ↦[arg7.view.set]{fullShare} G7) ∗ (arg8.view.loc (c : Thread nD τ) ↦[arg8.view.set]{fullShare} G8) ∗ (arg9.view.loc (c : Thread nD τ) ↦[arg9.view.set]{fullShare} G9)) ∗
      (((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜∀ q : Fin 5120, arg6.view.read (Elt Ideal) f (ix2 0 q) = flags (Nms.keep (sup X) rank) (ix2 0 q)⌝) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ K ⟨⟩))
      ⊢ wp frame (wpE (defs₀ (F := Ideal)) 𝒱₀ (c : Thread nD τ) none) Set.univ (cc0__nms_kernel (F := Ideal) arg0 harg0 arg1 harg1 arg2 harg2 arg3 harg3 arg4 harg4 arg5 harg5 arg6 harg6 arg7 harg7 arg8 harg8 arg9 harg9) K := by
  simp only [cc0__nms_kernel_eq_skeleton]; unfold cc0__nms_kernel_skel
  let L := tileLoop (X := X) 𝒱₀ c none Set.univ arg0 harg0 arg1 harg1 arg2 harg2 arg3 harg3 arg4 harg4 arg5 harg5 arg6 harg6 arg7 harg7 arg8 harg8 arg9 harg9 X0 X1 X2 X3 X4 X5 hX0 hX1 hX2 hX3 hX4 hX5
  have hT0 : Table X arg7 0 G7 := fun w i h => absurd h (by omega)
  iintro ⟨⟨H0, H1, H2, H3, H4, H5, H6, H7, H8, H9⟩, Hk⟩
  sl_exec
  unfold body_run.sl.v67 body_run.sl.H8_1
  have hv := fun r k => (loaded (arg8 := arg8) (k0_pay188 (F := Ideal)) r k).trans (wt_apply r k)
  have hT5 : k0_t1_loop.trips = 5 := by decide
  have hT : ∀ w i, w < 160 → i < 5120 → Good X arg7 fL0 w i := fun w i hw hi =>
    hL7 w i (by show w < 32 * k0_t1_loop.trips; rw [hT5]; omega) (by show i < 1024 * k0_t1_loop.trips; rw [hT5]; omega)
  have h0w := allWords.congr (fun w => read_stored (arg9 := arg9) G9 inb_S160x1_S160x1_0_0 k0_pay193 [] w) (fun _ => Iff.rfl)
  generalize (View.readCov arg8.view [⟨Rect.unit (s := S320x5120) ![0, 0] S320x5120.size inb_S320x5120_S320x5120_0_0, k0_pay188 (F := Ideal)⟩] (Rect.unit (s := S320x5120) ![0, 0] ![320, 5120] inb_S320x5120_S320x5120_0_0).toLoadRect : Vec Ideal S320x5120 .bf16) = v67 at hv ⊢
  iapply (wp_call_spec 𝒱₀ (c : Thread nD τ) none Set.univ (spec X rank c arg7 arg9 fL0 (Nms.iter (sup X) 0)) 2562
    (fun u hu => nomatch hu)
    (body_meets_spec X rank c arg7 harg7 arg9 harg9 fL0 Set.univ hS hN hT v67 hv 2562 0 1#1 (fun h => absurd rfl h) (fun _ => ⟨by norm_num, by norm_num⟩)))
  rw [spec_apply]; unfold held
  isplitl [H7 H9]
  · isplitl [H7]; · iexact H7
    iexists _
    isplitl [H9]; · iexact H9
    ipureintro
    exact h0w
  iintro %r ⟨H7, %f9, H9, %h9⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _
    isplitl [H6]; · iexact H6
    ipureintro
    intro q
    unfold body_run.sl.r
    refine (View.read_writes_cons_unit_of_mem arg6.view G6 inb_S1x5120_S1x5120_0_0 _ [] (ix2 0 q) (ix2 0 q) rfl
      (fun a => match a with
        | ⟨0, _⟩ => by show 0 = 0 + 0; omega
        | ⟨1, _⟩ => by show (q : ℕ) = 0 + q; omega)).trans ?_
    exact flag_value _ (fun q => (hits8 X c arg0 harg0 arg1 harg1 arg2 harg2 arg3 harg3 arg4 harg4 arg5 harg5 arg6 harg6 arg7 harg7 arg8 harg8 arg9 harg9 𝒱₀ none _ _ _ hT h9 q).trans (Nms.keep_fixed hS q).symm) q
  isplitl [H7]; · iexists _; iexact H7
  isplitl [H8]; · iexists _; iexact H8
  iexists _; iexact H9

end Cert.Proof.KernelIdeal
end
-- ==== Proof.Order.lean ====
/-
  The order of the boxes.

  A box's rank is the number of boxes before it. A suppressor has the smaller rank, and ranks stay below the number of boxes.
-/
module
public import proofs.«01_k».proof.Proof.Mask
public import Mathlib.Data.Fintype.Card
@[expose] public section
noncomputable section
namespace Cert.Proof.Rel
open scoped Classical

theorem before_trans (X : ℕ → Fin 5 → EReal) {a b c : ℕ} (h : before X a b) (h' : before X b c) : before X a c := by
  unfold before at *
  rcases h with h | ⟨h, hl⟩ <;> rcases h' with h' | ⟨h', hl'⟩
  · exact .inl (h'.trans h)
  · exact .inl (h' ▸ h)
  · exact .inl (h ▸ h')
  · exact .inr ⟨h.trans h', by omega⟩

theorem before_irrefl (X : ℕ → Fin 5 → EReal) (a : ℕ) : ¬ before X a a := by
  unfold before; simp

/-- The number of boxes, of the first `N`, before a box. -/
def rankOf (X : ℕ → Fin 5 → EReal) (N : ℕ) (b : Fin N) : ℕ := (Finset.univ.filter fun a : Fin N => before X a b).card

theorem rankOf_lt (X : ℕ → Fin 5 → EReal) (N : ℕ) (b : Fin N) : rankOf X N b < N := by
  have h : (Finset.univ.filter fun a : Fin N => before X a b) ⊂ Finset.univ :=
    Finset.filter_ssubset.mpr ⟨b, Finset.mem_univ _, before_irrefl X b⟩
  simpa [rankOf] using Finset.card_lt_card h

theorem rankOf_mono (X : ℕ → Fin 5 → EReal) (N : ℕ) {a b : Fin N} (h : before X a b) : rankOf X N a < rankOf X N b := by
  refine Finset.card_lt_card (Finset.ssubset_iff_subset_ne.mpr ⟨fun c hc => ?_, fun e => ?_⟩)
  · exact Finset.mem_filter.mpr ⟨Finset.mem_univ _, before_trans X (Finset.mem_filter.mp hc).2 h⟩
  · have : a ∈ (Finset.univ.filter fun c : Fin N => before X c a) := e ▸ Finset.mem_filter.mpr ⟨Finset.mem_univ _, h⟩
    exact before_irrefl X a (Finset.mem_filter.mp this).2

end Cert.Proof.Rel
end
-- ==== Proof.Inputs.lean ====
/-
  What the host hands the kernel.

  The boxes' corners and scores, padded from 5000 to 5120 boxes: the corners by zero, the scores by minus infinity. The
  kernel gets the table of them once by rows and once each column by itself.
-/
module
public import proofs.«01_k».proof.Proof.Order
public import proofs.«01_k».proof.Proof.Gen.KernelIdeal.Launch
public import Idealize.ShloMosaic.Lib.StableHlo.ReadAt
public import Idealize.ShloMosaic.Lib.KernelVsHost
@[expose] public section
noncomputable section
namespace Cert.Proof.KernelIdeal
open Cert.KernelIdeal Cert.KernelIdeal.Gen Cert.Proof.Rel
open Idealize.ShloMosaic Idealize.ShloMosaic.TcCoe Idealize.ShloMosaic.Tactic
open Idealize.SL Idealize.SL.Sem
open scoped Classical

/-- The table of the boxes: left, top, right, bottom and score; from box 5000 on the padding. -/
def boxes (A : FVec Ideal S5000x4 .f32) (S : FVec Ideal S5000 .f32) : ℕ → Fin 5 → EReal := fun j =>
  if h : j < 5000 then ![A (ix2 ⟨j, h⟩ 0), A (ix2 ⟨j, h⟩ 3), A (ix2 ⟨j, h⟩ 2), A (ix2 ⟨j, h⟩ 1), S (ix1 ⟨j, h⟩)]
  else ![0, 0, 0, 0, ⊥]

variable (m : (ℓ : Loc nD τ sig) → Buf (Elt Ideal) ℓ)

/-- The host's operations before the kernel. -/
abbrev before0 : List (List (HloOp τ sig (Elt Ideal))) := [hostOps0, hostOps0_1, hostOps0_2, hostOps0_3, hostOps0_4]
/-- The buffers as the kernel finds them. -/
def V₀ (c : Dev nD) : Valuation τ sig (Elt Ideal) := StableHlo.after before0.flatten (fun b => m (c, b))
/-- The table of core `c`'s boxes. -/
abbrev tab (c : Dev nD) : ℕ → Fin 5 → EReal := boxes (m ((c : Thread nD τ).loc main_arg0)) (m ((c : Thread nD τ).loc main_arg1))

theorem zero_pad : (FloatOps.sitofp (F := Ideal) FTy.f32 (0#32 : BitVec 32) : EReal) = 0 := by
  show (((0 : ℤ) : ℝ) : EReal) = 0
  simp

theorem bot_pad : (FloatOps.ofBits (F := Ideal) FTy.f32 0xFF800000#32 : EReal) = ⊥ := by
  show Ideal.ofBits .f32 0xFF800000#32 = ⊥
  simp [Ideal.ofBits, Ideal.ieee]

/-- The column of left edges. -/
theorem col_0 (c : Dev nD) (j : Fin 5120) : (V₀ m c (Proc.devRef .tc main_v16) : FVec Ideal S1x5120 .f32) (ix2 0 j) = tab m c j 0 := by
  unfold V₀ before0
  simp only [List.flatten_cons, List.flatten_nil, List.append_nil, List.cons_append, List.nil_append]
  after_reads_at
  unfold tab boxes
  split
  · rfl
  · exact zero_pad

/-- The column of top edges. -/
theorem col_1 (c : Dev nD) (j : Fin 5120) : (V₀ m c (Proc.devRef .tc main_v17) : FVec Ideal S1x5120 .f32) (ix2 0 j) = tab m c j 1 := by
  unfold V₀ before0
  simp only [List.flatten_cons, List.flatten_nil, List.append_nil, List.cons_append, List.nil_append]
  after_reads_at
  unfold tab boxes
  split
  · rfl
  · exact zero_pad

/-- The column of right edges. -/
theorem col_2 (c : Dev nD) (j : Fin 5120) : (V₀ m c (Proc.devRef .tc main_v18) : FVec Ideal S1x5120 .f32) (ix2 0 j) = tab m c j 2 := by
  unfold V₀ before0
  simp only [List.flatten_cons, List.flatten_nil, List.append_nil, List.cons_append, List.nil_append]
  after_reads_at
  unfold tab boxes
  split
  · rfl
  · exact zero_pad

/-- The column of bottom edges. -/
theorem col_3 (c : Dev nD) (j : Fin 5120) : (V₀ m c (Proc.devRef .tc main_v19) : FVec Ideal S1x5120 .f32) (ix2 0 j) = tab m c j 3 := by
  unfold V₀ before0
  simp only [List.flatten_cons, List.flatten_nil, List.append_nil, List.cons_append, List.nil_append]
  after_reads_at
  unfold tab boxes
  split
  · rfl
  · exact zero_pad

/-- The column of scores. -/
theorem col_4 (c : Dev nD) (j : Fin 5120) : (V₀ m c (Proc.devRef .tc main_v20) : FVec Ideal S1x5120 .f32) (ix2 0 j) = tab m c j 4 := by
  unfold V₀ before0
  simp only [List.flatten_cons, List.flatten_nil, List.append_nil, List.cons_append, List.nil_append]
  after_reads_at
  unfold tab boxes
  split
  · rfl
  · exact bot_pad

/-- The table by rows. -/
theorem rows_table (c : Dev nD) (j : Fin 5120) (k : Fin 5) : (V₀ m c (Proc.devRef .tc main_v15) : FVec Ideal S5120x5 .f32) (ix2 j k) = tab m c j k := by
  unfold V₀ before0
  simp only [List.flatten_cons, List.flatten_nil, List.append_nil, List.cons_append, List.nil_append]
  fin_cases k
  · after_reads_at
    rw [StableHlo.unary_result]
    after_reads_at
    unfold tab boxes
    split
    · rfl
    · exact zero_pad
  · after_reads_at
    rw [StableHlo.unary_result]
    after_reads_at
    unfold tab boxes
    split
    · rfl
    · exact zero_pad
  · after_reads_at
    rw [StableHlo.unary_result]
    after_reads_at
    unfold tab boxes
    split
    · rfl
    · exact zero_pad
  · after_reads_at
    rw [StableHlo.unary_result]
    after_reads_at
    unfold tab boxes
    split
    · rfl
    · exact zero_pad
  · after_reads_at
    rw [StableHlo.unary_result]
    after_reads_at
    unfold tab boxes
    split
    · rfl
    · exact bot_pad

end Cert.Proof.KernelIdeal
end
-- ==== Proof.Run.lean ====
/-
  The kernel's program from launch to end.

  The host pads and stacks the boxes, the kernel runs once, and the host cuts its row of flags to the 5000 boxes. The
  run ends with the flags of the kept boxes in the result, the arguments as they were and every counter at zero.
-/
module
public import proofs.«01_k».proof.Proof.Kernel
public import proofs.«01_k».proof.Proof.Inputs
public import proofs.«01_k».proof.Proof.Gen.KernelIdeal.Points
public import Idealize.ShloMosaic.Lib.Pipeline.FrameSuffix
public import Idealize.ShloMosaic.Lib.Pipeline.Value
@[expose] public section
noncomputable section
namespace Cert.Proof.KernelIdeal
open Cert.KernelIdeal Cert.KernelIdeal.Gen Cert.Proof.Rel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open scoped Classical

local notation "𝕄" => MT nD τ sig Unit (Elt Ideal) ℕ (UR sig nD τ) ℕ

variable (m : (ℓ : Loc nD τ sig) → Buf (Elt Ideal) ℓ) (ρ : Dev nD → PrngReg)

/-- The boxes that are kept, of the 5120. -/
abbrev kept0 (c : Dev nD) : Fin 5120 → Prop := Nms.keep (sup (tab m c)) (rankOf (tab m c) 5120)
/-- The flags of the kept boxes. -/
def outs (c : Dev nD) : Vec Ideal S1x5120 .i32 := flags (kept0 m c)

/-- The proof data of the one launch: the arrays as the host left them, the inputs unchanged and the result at the flags. -/
def dats (_ : Fin 1) (c : Dev nD) : Dat τ (Elt Ideal) Unit ℕ (UR sig nD τ) ℕ (cfg0 (F := Ideal)) c where
  A w := V₀ m c (Proc.devRef .tc (Pipeline.arrRef (cfg0 (F := Ideal)).spec w))
  after w _ := match w with
    | ⟨0, _⟩ => V₀ m c (Proc.devRef .tc main_v15)
    | ⟨1, _⟩ => V₀ m c (Proc.devRef .tc main_v16)
    | ⟨2, _⟩ => V₀ m c (Proc.devRef .tc main_v17)
    | ⟨3, _⟩ => V₀ m c (Proc.devRef .tc main_v18)
    | ⟨4, _⟩ => V₀ m c (Proc.devRef .tc main_v19)
    | ⟨5, _⟩ => V₀ m c (Proc.devRef .tc main_v20)
    | ⟨6, _⟩ => outs m c
  Φ _ := Pipeline.ΦA (cfg0 (F := Ideal)).spec c
  q _ := fullShare
  owed _ := 0

theorem share_eq (c : Dev nD) (w : Fin (cfg0 (F := Ideal)).W) : (dats m 0 c).share w = fullShare := by
  unfold Dat.share; split <;> rfl

theorem bigSep_W (Φ : Fin (cfg0 (F := Ideal)).W → sProp 𝕄) :
    bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) := bigSep_W0 Φ

theorem after_0 (c : Dev nD) (t : Fin (cfg0 (F := Ideal)).N) : (dats m 0 c).after 0 t = V₀ m c (Proc.devRef .tc main_v15) := by dsimp only [dats]
theorem after_1 (c : Dev nD) (t : Fin (cfg0 (F := Ideal)).N) : (dats m 0 c).after 1 t = V₀ m c (Proc.devRef .tc main_v16) := by dsimp only [dats]
theorem after_2 (c : Dev nD) (t : Fin (cfg0 (F := Ideal)).N) : (dats m 0 c).after 2 t = V₀ m c (Proc.devRef .tc main_v17) := by dsimp only [dats]
theorem after_3 (c : Dev nD) (t : Fin (cfg0 (F := Ideal)).N) : (dats m 0 c).after 3 t = V₀ m c (Proc.devRef .tc main_v18) := by dsimp only [dats]
theorem after_4 (c : Dev nD) (t : Fin (cfg0 (F := Ideal)).N) : (dats m 0 c).after 4 t = V₀ m c (Proc.devRef .tc main_v19) := by dsimp only [dats]
theorem after_5 (c : Dev nD) (t : Fin (cfg0 (F := Ideal)).N) : (dats m 0 c).after 5 t = V₀ m c (Proc.devRef .tc main_v20) := by dsimp only [dats]
theorem after_6 (c : Dev nD) (t : Fin (cfg0 (F := Ideal)).N) : (dats m 0 c).after 6 t = outs m c := by dsimp only [dats]

/-- The input's staging buffer holds the whole array once fetched. -/
theorem fetched_0 (c : Dev nD) (d : ((cfg0 (F := Ideal)).win 0).block.Idx → Elt Ideal ((cfg0 (F := Ideal)).win 0).elt) : (dats m 0 c).fetched 0 t0_0 d = V₀ m c (Proc.devRef .tc main_v15) := by
  have hz' : (fun a => win0_0.index t0_0 a * main_v15.ty.shape.size a) = fun _ => 0 := funext fun a => by fin_cases a <;> decide
  have h := Memref.read_access_unit_zero (Elt Ideal) main_v15 hz' (fun a => by rw [congrFun hz' a]; simp) (V₀ m c (Proc.devRef .tc main_v15))
  generalize hV : V₀ m c (Proc.devRef .tc main_v15) = V at h ⊢
  refine Eq.trans ?_ h
  rw [← hV]
  rfl

/-- The input's staging buffer holds the whole array once fetched. -/
theorem fetched_1 (c : Dev nD) (d : ((cfg0 (F := Ideal)).win 1).block.Idx → Elt Ideal ((cfg0 (F := Ideal)).win 1).elt) : (dats m 0 c).fetched 1 t0_0 d = V₀ m c (Proc.devRef .tc main_v16) := by
  have hz' : (fun a => win0_1.index t0_0 a * main_v16.ty.shape.size a) = fun _ => 0 := funext fun a => by fin_cases a <;> decide
  have h := Memref.read_access_unit_zero (Elt Ideal) main_v16 hz' (fun a => by rw [congrFun hz' a]; simp) (V₀ m c (Proc.devRef .tc main_v16))
  generalize hV : V₀ m c (Proc.devRef .tc main_v16) = V at h ⊢
  refine Eq.trans ?_ h
  rw [← hV]
  rfl

/-- The input's staging buffer holds the whole array once fetched. -/
theorem fetched_2 (c : Dev nD) (d : ((cfg0 (F := Ideal)).win 2).block.Idx → Elt Ideal ((cfg0 (F := Ideal)).win 2).elt) : (dats m 0 c).fetched 2 t0_0 d = V₀ m c (Proc.devRef .tc main_v17) := by
  have hz' : (fun a => win0_2.index t0_0 a * main_v17.ty.shape.size a) = fun _ => 0 := funext fun a => by fin_cases a <;> decide
  have h := Memref.read_access_unit_zero (Elt Ideal) main_v17 hz' (fun a => by rw [congrFun hz' a]; simp) (V₀ m c (Proc.devRef .tc main_v17))
  generalize hV : V₀ m c (Proc.devRef .tc main_v17) = V at h ⊢
  refine Eq.trans ?_ h
  rw [← hV]
  rfl

/-- The input's staging buffer holds the whole array once fetched. -/
theorem fetched_3 (c : Dev nD) (d : ((cfg0 (F := Ideal)).win 3).block.Idx → Elt Ideal ((cfg0 (F := Ideal)).win 3).elt) : (dats m 0 c).fetched 3 t0_0 d = V₀ m c (Proc.devRef .tc main_v18) := by
  have hz' : (fun a => win0_3.index t0_0 a * main_v18.ty.shape.size a) = fun _ => 0 := funext fun a => by fin_cases a <;> decide
  have h := Memref.read_access_unit_zero (Elt Ideal) main_v18 hz' (fun a => by rw [congrFun hz' a]; simp) (V₀ m c (Proc.devRef .tc main_v18))
  generalize hV : V₀ m c (Proc.devRef .tc main_v18) = V at h ⊢
  refine Eq.trans ?_ h
  rw [← hV]
  rfl

/-- The input's staging buffer holds the whole array once fetched. -/
theorem fetched_4 (c : Dev nD) (d : ((cfg0 (F := Ideal)).win 4).block.Idx → Elt Ideal ((cfg0 (F := Ideal)).win 4).elt) : (dats m 0 c).fetched 4 t0_0 d = V₀ m c (Proc.devRef .tc main_v19) := by
  have hz' : (fun a => win0_4.index t0_0 a * main_v19.ty.shape.size a) = fun _ => 0 := funext fun a => by fin_cases a <;> decide
  have h := Memref.read_access_unit_zero (Elt Ideal) main_v19 hz' (fun a => by rw [congrFun hz' a]; simp) (V₀ m c (Proc.devRef .tc main_v19))
  generalize hV : V₀ m c (Proc.devRef .tc main_v19) = V at h ⊢
  refine Eq.trans ?_ h
  rw [← hV]
  rfl

/-- The input's staging buffer holds the whole array once fetched. -/
theorem fetched_5 (c : Dev nD) (d : ((cfg0 (F := Ideal)).win 5).block.Idx → Elt Ideal ((cfg0 (F := Ideal)).win 5).elt) : (dats m 0 c).fetched 5 t0_0 d = V₀ m c (Proc.devRef .tc main_v20) := by
  have hz' : (fun a => win0_5.index t0_0 a * main_v20.ty.shape.size a) = fun _ => 0 := funext fun a => by fin_cases a <;> decide
  have h := Memref.read_access_unit_zero (Elt Ideal) main_v20 hz' (fun a => by rw [congrFun hz' a]; simp) (V₀ m c (Proc.devRef .tc main_v20))
  generalize hV : V₀ m c (Proc.devRef .tc main_v20) = V at h ⊢
  refine Eq.trans ?_ h
  rw [← hV]
  rfl

/-- The body's run on the launch's own buffers. -/
theorem body_whole (X : ℕ → Fin 5 → EReal) (rank : Fin 5120 → ℕ) (c : Dev nD) (hS : ∀ a b, sup X a b → rank a < rank b) (hN : ∀ b, rank b < 5120)
    (X0 : cc0_stg0_0.ty.Contents (Elt Ideal)) (X1 : cc0_stg1_0.ty.Contents (Elt Ideal)) (X2 : cc0_stg2_0.ty.Contents (Elt Ideal)) (X3 : cc0_stg3_0.ty.Contents (Elt Ideal)) (X4 : cc0_stg4_0.ty.Contents (Elt Ideal)) (X5 : cc0_stg5_0.ty.Contents (Elt Ideal)) (hX0 : ∀ (j : Fin 5120) (k : Fin 5), X0 (ix2 j k) = X j k) (hX1 : ∀ j : Fin 5120, X1 (ix2 0 j) = X j 0) (hX2 : ∀ j : Fin 5120, X2 (ix2 0 j) = X j 1) (hX3 : ∀ j : Fin 5120, X3 (ix2 0 j) = X j 2) (hX4 : ∀ j : Fin 5120, X4 (ix2 0 j) = X j 3) (hX5 : ∀ j : Fin 5120, X5 (ix2 0 j) = X j 4)
    (G6 : cc0_stg6_0.ty.Contents (Elt Ideal)) (G7 : cc0_scratch0.ty.Contents (Elt Ideal)) (G8 : cc0_scratch1.ty.Contents (Elt Ideal)) (G9 : cc0_scratch2.ty.Contents (Elt Ideal)) (K : PUnit → sProp 𝕄) :
    iprop((((c : Thread nD τ).loc cc0_stg0_0 ↦{fullShare} X0) ∗ ((c : Thread nD τ).loc cc0_stg1_0 ↦{fullShare} X1) ∗ ((c : Thread nD τ).loc cc0_stg2_0 ↦{fullShare} X2) ∗ ((c : Thread nD τ).loc cc0_stg3_0 ↦{fullShare} X3) ∗ ((c : Thread nD τ).loc cc0_stg4_0 ↦{fullShare} X4) ∗ ((c : Thread nD τ).loc cc0_stg5_0 ↦{fullShare} X5) ∗ ((c : Thread nD τ).loc cc0_stg6_0 ↦{fullShare} G6) ∗ ((c : Thread nD τ).loc cc0_scratch0 ↦{fullShare} G7) ∗ ((c : Thread nD τ).loc cc0_scratch1 ↦{fullShare} G8) ∗ ((c : Thread nD τ).loc cc0_scratch2 ↦{fullShare} G9)) ∗
      ((((c : Thread nD τ).loc cc0_stg0_0 ↦{fullShare} X0) ∗ ((c : Thread nD τ).loc cc0_stg1_0 ↦{fullShare} X1) ∗ ((c : Thread nD τ).loc cc0_stg2_0 ↦{fullShare} X2) ∗ ((c : Thread nD τ).loc cc0_stg3_0 ↦{fullShare} X3) ∗ ((c : Thread nD τ).loc cc0_stg4_0 ↦{fullShare} X4) ∗ ((c : Thread nD τ).loc cc0_stg5_0 ↦{fullShare} X5) ∗ (∃ f : Buf (Elt Ideal) ((c : Thread nD τ).loc cc0_stg6_0), ((c : Thread nD τ).loc cc0_stg6_0 ↦{fullShare} f) ∗ ⌜∀ q : Fin 5120, f (ix2 0 q) = flags (Nms.keep (sup X) rank) (ix2 0 q)⌝) ∗ (∃ f : Buf (Elt Ideal) ((c : Thread nD τ).loc cc0_scratch0), ((c : Thread nD τ).loc cc0_scratch0 ↦{fullShare} f)) ∗ (∃ f : Buf (Elt Ideal) ((c : Thread nD τ).loc cc0_scratch1), ((c : Thread nD τ).loc cc0_scratch1 ↦{fullShare} f)) ∗ (∃ f : Buf (Elt Ideal) ((c : Thread nD τ).loc cc0_scratch2), ((c : Thread nD τ).loc cc0_scratch2 ↦{fullShare} f))) -∗ K ⟨⟩))
      ⊢ wp frame (wpE (defs₀ (F := Ideal)) 𝒱₀ (c : Thread nD τ) none) Set.univ (cc0__nms_kernel (F := Ideal) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _)) K := by
  have h := body_run X rank c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _)
    X0 X1 X2 X3 X4 X5 hS hN hX0 hX1 hX2 hX3 hX4 hX5 G6 G7 G8 G9 K
  simpa only [Memref.view_whole, View.read_whole, View.set_whole] using h

/-- The body meets its specification at the one point. -/
theorem body_obligation (c : Dev nD) :
    BodyObligation (dats m 0 c) (defs₀ (F := Ideal)) 𝒱₀ () Set.univ := fun t => by
  rw [fin_N0 t]
  rw [bigSep_W, bigSep_W]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl, show stage0_6 0 = Memref.whole cc0_stg6_0 from rfl]
  rw [after_0, after_1, after_2, after_3, after_4, after_5, after_6]
  rw [show (dats m 0 c).Φ (t0_0 : Fin (cfg0 (F := Ideal)).N).succ = Pipeline.ΦA (cfg0 (F := Ideal)).spec c from rfl,
    show (dats m 0 c).Φ (t0_0 : Fin (cfg0 (F := Ideal)).N).castSucc = Pipeline.ΦA (cfg0 (F := Ideal)).spec c from rfl]
  unfold Pipeline.ΦA
  rw [show Pipeline.scopedRest (Ix := Unit) (Name := ℕ) (U := UR sig nD τ) (Lvl := ℕ) (Val := Elt Ideal) (cfg0 (F := Ideal)).spec c = _ from scopedRest0_eq c]
  iintro ⟨⟨⟨⟨%g7, H7⟩, ⟨%g8, H8⟩, ⟨%g9, H9⟩⟩, Hp⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩⟩
  have e0 : f0 = V₀ m c (Proc.devRef .tc main_v15) := by rw [h0]; unfold Dat.before; rw [if_pos (fetch0_0 t0_0)]; exact fetched_0 m c d0
  have e1 : f1 = V₀ m c (Proc.devRef .tc main_v16) := by rw [h1]; unfold Dat.before; rw [if_pos (fetch0_1 t0_0)]; exact fetched_1 m c d1
  have e2 : f2 = V₀ m c (Proc.devRef .tc main_v17) := by rw [h2]; unfold Dat.before; rw [if_pos (fetch0_2 t0_0)]; exact fetched_2 m c d2
  have e3 : f3 = V₀ m c (Proc.devRef .tc main_v18) := by rw [h3]; unfold Dat.before; rw [if_pos (fetch0_3 t0_0)]; exact fetched_3 m c d3
  have e4 : f4 = V₀ m c (Proc.devRef .tc main_v19) := by rw [h4]; unfold Dat.before; rw [if_pos (fetch0_4 t0_0)]; exact fetched_4 m c d4
  have e5 : f5 = V₀ m c (Proc.devRef .tc main_v20) := by rw [h5]; unfold Dat.before; rw [if_pos (fetch0_5 t0_0)]; exact fetched_5 m c d5
  subst e0 e1 e2 e3 e4 e5
  have hb := body_whole (tab m c) (rankOf (tab m c) 5120) c (fun a b h => rankOf_mono _ _ h.2) (rankOf_lt _ _)
    _ _ _ _ _ _ (fun j k => rows_table m c j k) (fun j => col_0 m c j) (fun j => col_1 m c j) (fun j => col_2 m c j) (fun j => col_3 m c j) (fun j => col_4 m c j)
    f6 g7 g8 g9
  generalize V₀ m c (Proc.devRef .tc main_v15) = W0 at hb ⊢
  generalize V₀ m c (Proc.devRef .tc main_v16) = W1 at hb ⊢
  generalize V₀ m c (Proc.devRef .tc main_v17) = W2 at hb ⊢
  generalize V₀ m c (Proc.devRef .tc main_v18) = W3 at hb ⊢
  generalize V₀ m c (Proc.devRef .tc main_v19) = W4 at hb ⊢
  generalize V₀ m c (Proc.devRef .tc main_v20) = W5 at hb ⊢
  iapply (hb _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, ⟨%f, H6, %hf⟩, H7, H8, H9⟩
  have e6 : f = outs m c := funext fun j => by
    obtain ⟨a, q, rfl⟩ : ∃ (a : Fin 1) (q : Fin 5120), j = ix2 a q := ⟨j 0, j 1, funext fun x => by fin_cases x <;> rfl⟩
    obtain rfl : a = 0 := Subsingleton.elim _ _
    exact hf q
  subst e6
  isplitl [H7 H8 H9 Hp]
  · isplitl [H7 H8 H9]
    · isplitl [H7]; · iexact H7
      isplitl [H8]; · iexact H8
      iexact H9
    iexact Hp
  isplitl [Ho]; · iexact Ho
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  iexists _; isplitr; · (ipureintro; rfl)
  iexact H6

/-- What the launch writes back is the row of flags. -/
theorem flushed_eq (c : Dev nD) (t : Fin (cfg0 (F := Ideal)).N) :
    (dats m 0 c).flushed 6 t = (((cfg0 (F := Ideal)).win 6).blk t).view.read (Elt Ideal) (outs m c) := by
  obtain rfl := fin_N0 t
  show ((cfg0 (F := Ideal)).win 6).cut (grid0.coords t0_0) ((dats m 0 c).after 6 t0_0) = _
  rw [after_6]
  have hz' : (fun a => win0_6.index t0_0 a * main_v21.ty.shape.size a) = fun _ => 0 := funext fun a => by fin_cases a <;> decide
  exact (Memref.read_access_unit_zero (Elt Ideal) main_v21 hz' (fun a => by rw [congrFun hz' a]; simp) (outs m c)).symm

/-- The launch's result array ends at the row of flags. -/
theorem final_o (c : Dev nD) : (dats m 0 c).arrAt 6 (cfg0 (F := Ideal)).N = outs m c :=
  (dats m 0 c).arrAt_eq_of_cover 6 (outs m c) (fun t _ => flushed_eq m c t) fun i =>
    ⟨t0_0, flush0_6 t0_0, by
      show i ∈ ((View.whole main_v21).slice (win0_6.rect t0_0)).set
      rw [View.set_slice_whole, Rect.mem_set_unit]
      intro a
      have h0 : (i 0 : Nat) < 1 := (i 0).isLt
      have h1 : (i 1 : Nat) < 5120 := (i 1).isLt
      match a with
      | ⟨0, _⟩ => show win0_6.index t0_0 0 * win0_6.size 0 ≤ (i 0 : Nat) ∧ (i 0 : Nat) < win0_6.index t0_0 0 * win0_6.size 0 + win0_6.xsize (grid0.coords t0_0) 0
                  rw [show win0_6.index t0_0 0 * win0_6.size 0 = 0 from by decide +kernel, show win0_6.xsize (grid0.coords t0_0) 0 = 1 from by decide +kernel]; omega
      | ⟨1, _⟩ => show win0_6.index t0_0 1 * win0_6.size 1 ≤ (i 1 : Nat) ∧ (i 1 : Nat) < win0_6.index t0_0 1 * win0_6.size 1 + win0_6.xsize (grid0.coords t0_0) 1
                  rw [show win0_6.index t0_0 1 * win0_6.size 1 = 0 from by decide +kernel, show win0_6.xsize (grid0.coords t0_0) 1 = 5120 from by decide +kernel]; omega⟩

/-- The result: a one for each of the 5000 boxes that is kept. -/
def result (c : Dev nD) : Vec Ideal S5000 .i32 := fun j => if kept0 m c ⟨(j 0 : ℕ), lt_trans (j 0).isLt (by decide)⟩ then 1#32 else 0#32

/-- The host's lines leave the first argument as it was. -/
theorem arg0_kept (c : Dev nD) : V₀ m c (Proc.devRef .tc main_arg0) = m ((c.tc : Thread nD τ).loc main_arg0) := by
  unfold V₀ before0
  simp only [List.flatten_cons, List.flatten_nil, List.append_nil, List.cons_append, List.nil_append]
  after_results

/-- The host's lines leave the second argument as it was. -/
theorem arg1_kept (c : Dev nD) : V₀ m c (Proc.devRef .tc main_arg1) = m ((c.tc : Thread nD τ).loc main_arg1) := by
  unfold V₀ before0
  simp only [List.flatten_cons, List.flatten_nil, List.append_nil, List.cons_append, List.nil_append]
  after_results

/-- What the core's buffers hold after the launch. -/
abbrev W₁ (c : Dev nD) : Valuation τ sig (Elt Ideal) :=
  Pipeline.withArrays (cfg0 (F := Ideal)).spec c (V₀ m c) fun w => (dats m 0 c).arrAt w (cfg0 (F := Ideal)).N

/-- The result array after the launch. -/
theorem W₁_out (c : Dev nD) : W₁ m c (Proc.devRef .tc main_v21) = outs m c :=
  (Pipeline.withArrays_arr (cfg0 (F := Ideal)).spec launch0.win.arr_inj c (V₀ m c) (fun w => (dats m 0 c).arrAt w (cfg0 (F := Ideal)).N) (6 : Fin 7)).trans (final_o m c)

theorem W₁_arg0 (c : Dev nD) : W₁ m c (Proc.devRef .tc main_arg0) = m ((c.tc : Thread nD τ).loc main_arg0) :=
  (Pipeline.withArrays_of_ne (cfg0 (F := Ideal)).spec c (V₀ m c) _ main_arg0 (show ∀ w : Fin 7, Pipeline.arrRef spec0 w ≠ main_arg0 by decide)).trans (arg0_kept m c)

theorem W₁_arg1 (c : Dev nD) : W₁ m c (Proc.devRef .tc main_arg1) = m ((c.tc : Thread nD τ).loc main_arg1) :=
  (Pipeline.withArrays_of_ne (cfg0 (F := Ideal)).spec c (V₀ m c) _ main_arg1 (show ∀ w : Fin 7, Pipeline.arrRef spec0 w ≠ main_arg1 by decide)).trans (arg1_kept m c)

/-- The last lines cut the row of flags to the 5000 boxes. -/
theorem tail_out (c : Dev nD) : Pipeline.afterTail₀ cfgs (dats m) 0 (V₀ m) [hostOps1] c main_v23 = result m c := by
  unfold Pipeline.afterTail₀
  have e := W₁_out m c
  show StableHlo.after hostOps1 (W₁ m c) (Proc.devRef .tc main_v23) = _
  generalize W₁ m c = W at e ⊢
  funext j
  obtain ⟨j, rfl⟩ : ∃ a : Fin 5000, j = ix1 a := ⟨j 0, ValueIdx.eq_ix1 j⟩
  after_reads_at

  rw [e]
  rfl

theorem tail_arg0 (c : Dev nD) : Pipeline.afterTail₀ cfgs (dats m) 0 (V₀ m) [hostOps1] c main_arg0 = m ((c.tc : Thread nD τ).loc main_arg0) := by
  unfold Pipeline.afterTail₀
  have e := W₁_arg0 m c
  show StableHlo.after hostOps1 (W₁ m c) (Proc.devRef .tc main_arg0) = _
  generalize W₁ m c = W at e ⊢
  rw [← e]
  after_results

theorem tail_arg1 (c : Dev nD) : Pipeline.afterTail₀ cfgs (dats m) 0 (V₀ m) [hostOps1] c main_arg1 = m ((c.tc : Thread nD τ).loc main_arg1) := by
  unfold Pipeline.afterTail₀
  have e := W₁_arg1 m c
  show StableHlo.after hostOps1 (W₁ m c) (Proc.devRef .tc main_arg1) = _
  generalize W₁ m c = W at e ⊢
  rw [← e]
  after_results

/-- Every run of the program ends with the flags of the kept boxes, the arguments and the counters as at the start. -/
theorem run_main : θ_run (defs (F := Ideal)) (onTc (τ := τ) (main (F := Ideal))) ⟨m, fun _ => 0, ρ⟩ (fun r =>
    (∀ c : Dev nD, r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine Pipeline.θ_run_frame_around_track cfgs (dats m) 0 launch0 (defs₀ (F := Ideal)) 𝒱₀ m ρ main
    (fun c => (body_obligation m c).loose) (share_eq m) (fun _ _ => rfl) (V₀ m) [hostOps1] ?_ ?_ ?_
    (Pipeline.hmain_around cfgs 0 (defs₀ (F := Ideal)) 𝒱₀ m main before0 [hostOps1] ⟨hostOps0_sub, hostOps0_1_sub, hostOps0_2_sub, hostOps0_3_sub, hostOps0_4_sub⟩ ?_ main_chain) (fun _ _ => rfl) (fun _ => BI.Entails.refl _) (fun _ => BI.Entails.refl _) _ ?_
  · intro ops ho op h
    obtain rfl := List.mem_singleton.mp ho
    rw [Pipeline.tailRefs_none _ (show ∀ w : Fin 7, (Pipeline.arrRef spec0 w).isScoped = false by decide)]
    exact Pipeline.sub_ucRefs _ (List.forall_iff_forall_mem.mp hostOps1_sub op h)
  · intro ops ho op h
    obtain rfl := List.mem_singleton.mp ho
    have : (hostOps1 : List (HloOp τ sig (Elt Ideal))).Forall fun op => op.fresh = ∅ := ⟨rfl, rfl⟩
    exact List.forall_iff_forall_mem.mp this op h
  · intro ops ho op h
    obtain rfl := List.mem_singleton.mp ho
    have : (hostOps1 : List (HloOp τ sig (Elt Ideal))).Forall fun op => ∀ w : Fin 7, Proc.devRef .tc (Pipeline.arrRef spec0 w) ∉ op.writes :=
      ⟨show ∀ w : Fin 7, Proc.devRef .tc (Pipeline.arrRef spec0 w) ∉ ({Proc.devRef .tc main_v22} : Finset (DevRef τ sig)) by decide,
       show ∀ w : Fin 7, Proc.devRef .tc (Pipeline.arrRef spec0 w) ∉ ({Proc.devRef .tc main_v23} : Finset (DevRef τ sig)) by decide⟩
    exact List.forall_iff_forall_mem.mp this op h
  · exact ⟨rfl, ⟨rfl, rfl⟩, rfl, ⟨rfl, rfl⟩, by repeat' constructor⟩
  · rintro r ⟨h, hz⟩
    refine ⟨fun c => ⟨((h c).2 main_v23 (by decide)).trans (tail_out m c), ((h c).2 main_arg0 (by decide)).trans (tail_arg0 m c), ((h c).2 main_arg1 (by decide)).trans (tail_arg1 m c)⟩, hz⟩

end Cert.Proof.KernelIdeal
end
-- ==== Proof.RefOps.lean ====
/-
  The operations of the reference, stretch by stretch.

  Before its loop the reference sorts the negated scores and gathers the boxes; each trip of the loop picks a box,
  compares all boxes with it and marks; afterwards the marks go back to the boxes' places. Each stretch of operations
  is listed here, and the program and its loop's body are shown to be these stretches in a row.
-/
module
public import proofs.«01_k».proof.Proof.Gen.ReferenceIdeal
public import Idealize.ShloMosaic.Lib.Pipeline.Regions
public import Idealize.ShloMosaic.Lib.StableHlo.RunLoop
@[expose] public section
noncomputable section
namespace Cert.Proof.ReferenceIdeal
open Cert.ReferenceIdeal Cert.ReferenceIdeal.Gen
open Idealize.ShloMosaic Idealize.ShloMosaic.TcCoe
open Idealize.SL.Sem

variable {F : FTy → Type} [FloatOps F]

/-- The negation of the scores. -/
abbrev negOps : List (HloOp τ sig (Elt F)) :=
  [ StableHlo.unary main_arg1 main_v0 (Host.negf : (⟨S5000, .f32⟩ : BufTy).Contents (Elt F) → (⟨S5000, .f32⟩ : BufTy).Contents (Elt F)) ]

/-- These operations name buffers of the TensorCore only. -/
theorem negOps_sub : (negOps : List (HloOp τ sig (Elt F))).Forall fun op => op.bufs ⊆ StableHlo.tcRefs τ sig :=
  StableHlo.unary_bufs_sub ..

/-- The sort of the positions by the negated scores. -/
abbrev sortOps : List (HloOp τ sig (Elt F)) :=
  [ StableHlo.TRef.nullary (.of main_call0_v0 : StableHlo.TRef sig ⟨S5000, .i32⟩) (iotaInDim S5000 32 0),
    StableHlo.TRef.binary (.of main_v0 : StableHlo.TRef sig ⟨S5000, .f32⟩) (.of main_call0_v0 : StableHlo.TRef sig ⟨S5000, .i32⟩) (.of main_call0_v1_0 : StableHlo.TRef sig ⟨S5000, .f32⟩) (fun x y => (Host.sort2 S5000 0 comparator_f32_i32_d0 x y).1),
    StableHlo.TRef.binary (.of main_v0 : StableHlo.TRef sig ⟨S5000, .f32⟩) (.of main_call0_v0 : StableHlo.TRef sig ⟨S5000, .i32⟩) (.of main_v1 : StableHlo.TRef sig ⟨S5000, .i32⟩) (fun x y => (Host.sort2 S5000 0 comparator_f32_i32_d0 x y).2) ]

/-- These operations name buffers of the TensorCore only. -/
theorem sortOps_sub : (sortOps : List (HloOp τ sig (Elt F))).Forall fun op => op.bufs ⊆ StableHlo.tcRefs τ sig :=
  ⟨StableHlo.nullary_bufs_sub .., StableHlo.binary_bufs_sub .., StableHlo.binary_bufs_sub ..⟩

/-- The gather of the boxes in sorted order, their columns, areas, and the carried values. -/
abbrev colOps : List (HloOp τ sig (Elt F)) :=
  [ StableHlo.nullary main_c (constantI S_ 32 0#32),
    StableHlo.unary main_c main_v2 (broadcastInDim S5000 ![] bcast_S_S5000 : (⟨S_, .i32⟩ : BufTy).Contents (Elt F) → (⟨S5000, .i32⟩ : BufTy).Contents (Elt F)),
    StableHlo.binary main_v1 main_v2 main_v3 (cmpi .slt : (⟨S5000, .i32⟩ : BufTy).Contents (Elt F) → (⟨S5000, .i32⟩ : BufTy).Contents (Elt F) → (⟨S5000, .i1⟩ : BufTy).Contents (Elt F)),
    StableHlo.nullary main_c_0 (constantI S_ 32 5000#32),
    StableHlo.unary main_c_0 main_v4 (broadcastInDim S5000 ![] bcast_S_S5000 : (⟨S_, .i32⟩ : BufTy).Contents (Elt F) → (⟨S5000, .i32⟩ : BufTy).Contents (Elt F)),
    StableHlo.binary main_v1 main_v4 main_v5 (addi : (⟨S5000, .i32⟩ : BufTy).Contents (Elt F) → (⟨S5000, .i32⟩ : BufTy).Contents (Elt F) → (⟨S5000, .i32⟩ : BufTy).Contents (Elt F)),
    StableHlo.ternary main_v3 main_v5 main_v1 main_v6 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v6 main_v7 (broadcastInDim S5000x1 ![0] bcast_S5000_S5000x1_0 : (⟨S5000, .i32⟩ : BufTy).Contents (Elt F) → (⟨S5000x1, .i32⟩ : BufTy).Contents (Elt F)),
    StableHlo.binary main_arg0 main_v7 main_v8 ((fun x i => Host.gather gather_S5000x4_S5000x1_S5000x4_1_0_n_n_0_1_14 x i) : (⟨S5000x4, .f32⟩ : BufTy).Contents (Elt F) → (⟨S5000x1, .i32⟩ : BufTy).Contents (Elt F) → (⟨S5000x4, .f32⟩ : BufTy).Contents (Elt F)),
    StableHlo.unary main_v8 main_v9 ((extractStridedSlice S5000x1 ![0, 0] · slices_S5000x4_S5000x1_0_0) : (⟨S5000x4, .f32⟩ : BufTy).Contents (Elt F) → (⟨S5000x1, .f32⟩ : BufTy).Contents (Elt F)),
    StableHlo.reshape main_v9 main_v10 (rfl : (.f32 : EltTy) = .f32) shapeCasts_S5000x1_S5000,
    StableHlo.unary main_v8 main_v11 ((extractStridedSlice S5000x1 ![0, 3] · slices_S5000x4_S5000x1_0_3) : (⟨S5000x4, .f32⟩ : BufTy).Contents (Elt F) → (⟨S5000x1, .f32⟩ : BufTy).Contents (Elt F)),
    StableHlo.reshape main_v11 main_v12 (rfl : (.f32 : EltTy) = .f32) shapeCasts_S5000x1_S5000,
    StableHlo.unary main_v8 main_v13 ((extractStridedSlice S5000x1 ![0, 2] · slices_S5000x4_S5000x1_0_2) : (⟨S5000x4, .f32⟩ : BufTy).Contents (Elt F) → (⟨S5000x1, .f32⟩ : BufTy).Contents (Elt F)),
    StableHlo.reshape main_v13 main_v14 (rfl : (.f32 : EltTy) = .f32) shapeCasts_S5000x1_S5000,
    StableHlo.unary main_v8 main_v15 ((extractStridedSlice S5000x1 ![0, 1] · slices_S5000x4_S5000x1_0_1) : (⟨S5000x4, .f32⟩ : BufTy).Contents (Elt F) → (⟨S5000x1, .f32⟩ : BufTy).Contents (Elt F)),
    StableHlo.reshape main_v15 main_v16 (rfl : (.f32 : EltTy) = .f32) shapeCasts_S5000x1_S5000,
    StableHlo.binary main_v14 main_v10 main_v17 (subf : (⟨S5000, .f32⟩ : BufTy).Contents (Elt F) → (⟨S5000, .f32⟩ : BufTy).Contents (Elt F) → (⟨S5000, .f32⟩ : BufTy).Contents (Elt F)),
    StableHlo.binary main_v16 main_v12 main_v18 (subf : (⟨S5000, .f32⟩ : BufTy).Contents (Elt F) → (⟨S5000, .f32⟩ : BufTy).Contents (Elt F) → (⟨S5000, .f32⟩ : BufTy).Contents (Elt F)),
    StableHlo.binary main_v17 main_v18 main_v19 (mulf : (⟨S5000, .f32⟩ : BufTy).Contents (Elt F) → (⟨S5000, .f32⟩ : BufTy).Contents (Elt F) → (⟨S5000, .f32⟩ : BufTy).Contents (Elt F)),
    StableHlo.nullary main_c_1 (constantI S_ 1 0#1),
    StableHlo.unary main_c_1 main_v20 (broadcastInDim S5000 ![] bcast_S_S5000 : (⟨S_, .i1⟩ : BufTy).Contents (Elt F) → (⟨S5000, .i1⟩ : BufTy).Contents (Elt F)),
    StableHlo.nullary main_c_2 (constantI S_ 1 0#1),
    StableHlo.unary main_c_2 main_v21 (broadcastInDim S5000 ![] bcast_S_S5000 : (⟨S_, .i1⟩ : BufTy).Contents (Elt F) → (⟨S5000, .i1⟩ : BufTy).Contents (Elt F)),
    StableHlo.unary main_v10 main_v22_0 id,
    StableHlo.unary main_v12 main_v22_1 id,
    StableHlo.unary main_v14 main_v22_2 id,
    StableHlo.unary main_v16 main_v22_3 id,
    StableHlo.unary main_v19 main_v22_4 id,
    StableHlo.unary main_v20 main_v22_5 id,
    StableHlo.unary main_v21 main_v22_6 id ]

/-- These operations name buffers of the TensorCore only. -/
theorem colOps_sub : (colOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The test: is some position not yet suppressed? -/
abbrev condOps : List (HloOp τ sig (Elt F)) :=
  [ StableHlo.unary main_v22_5 main_while0c_v32 (noti : (⟨S5000, .i1⟩ : BufTy).Contents (Elt F) → (⟨S5000, .i1⟩ : BufTy).Contents (Elt F)),
    StableHlo.nullary main_while0c_c_12 (constantI S_ 1 0#1),
    StableHlo.binary main_while0c_v32 main_while0c_c_12 main_while0c_v33 ((fun x v => Host.reduce IntOp.ori x v reducesTo_S5000_S_d0 h_S_) : (⟨S5000, .i1⟩ : BufTy).Contents (Elt F) → (⟨S_, .i1⟩ : BufTy).Contents (Elt F) → (⟨S_, .i1⟩ : BufTy).Contents (Elt F)) ]

/-- These operations name buffers of the TensorCore only. -/
theorem condOps_sub : (condOps : List (HloOp τ sig (Elt F))).Forall fun op => op.bufs ⊆ StableHlo.tcRefs τ sig :=
  ⟨StableHlo.unary_bufs_sub .., StableHlo.nullary_bufs_sub .., StableHlo.binary_bufs_sub ..⟩

/-- The positions not yet suppressed. -/
abbrev notOps : List (HloOp τ sig (Elt F)) :=
  [ StableHlo.unary main_v22_5 main_while0b_v32 (noti : (⟨S5000, .i1⟩ : BufTy).Contents (Elt F) → (⟨S5000, .i1⟩ : BufTy).Contents (Elt F)) ]

/-- These operations name buffers of the TensorCore only. -/
theorem notOps_sub : (notOps : List (HloOp τ sig (Elt F))).Forall fun op => op.bufs ⊆ StableHlo.tcRefs τ sig :=
  StableHlo.unary_bufs_sub ..

/-- The choice of the first of them. -/
abbrev pickOps : List (HloOp τ sig (Elt F)) :=
  [ StableHlo.TRef.nullary (.of main_while0b_call1_v0 : StableHlo.TRef sig ⟨S5000, .i32⟩) (iotaInDim S5000 32 0),
    StableHlo.TRef.nullary (.of main_while0b_call1_c : StableHlo.TRef sig ⟨S_, .i1⟩) (constantI S_ 1 0#1),
    StableHlo.TRef.nullary (.of main_while0b_call1_c_0 : StableHlo.TRef sig ⟨S_, .i32⟩) (constantI S_ 32 0#32),
    StableHlo.TRef.quaternary (.of main_while0b_v32 : StableHlo.TRef sig ⟨S5000, .i1⟩) (.of main_while0b_call1_v0 : StableHlo.TRef sig ⟨S5000, .i32⟩) (.of main_while0b_call1_c : StableHlo.TRef sig ⟨S_, .i1⟩) (.of main_while0b_call1_c_0 : StableHlo.TRef sig ⟨S_, .i32⟩) (.of main_while0b_call1_v1_0 : StableHlo.TRef sig ⟨S_, .i1⟩) (fun x y u v j => (Host.reduce2 reducer_argmax_i1_i32 x y u v reducesTo_S5000_S_d0 h_S_ j).1),
    StableHlo.TRef.quaternary (.of main_while0b_v32 : StableHlo.TRef sig ⟨S5000, .i1⟩) (.of main_while0b_call1_v0 : StableHlo.TRef sig ⟨S5000, .i32⟩) (.of main_while0b_call1_c : StableHlo.TRef sig ⟨S_, .i1⟩) (.of main_while0b_call1_c_0 : StableHlo.TRef sig ⟨S_, .i32⟩) (.of main_while0b_v33 : StableHlo.TRef sig ⟨S_, .i32⟩) (fun x y u v j => (Host.reduce2 reducer_argmax_i1_i32 x y u v reducesTo_S5000_S_d0 h_S_ j).2) ]

/-- These operations name buffers of the TensorCore only. -/
theorem pickOps_sub : (pickOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The greater of the left edges of every position and of the chosen one. -/
abbrev leftOps : List (HloOp τ sig (Elt F)) :=
  [ StableHlo.nullary main_while0b_c_12 (constantI S_ 32 0#32),
    StableHlo.binary main_while0b_v33 main_while0b_c_12 main_while0b_v34 (cmpi .slt : (⟨S_, .i32⟩ : BufTy).Contents (Elt F) → (⟨S_, .i32⟩ : BufTy).Contents (Elt F) → (⟨S_, .i1⟩ : BufTy).Contents (Elt F)),
    StableHlo.nullary main_while0b_c_13 (constantI S_ 32 5000#32),
    StableHlo.binary main_while0b_v33 main_while0b_c_13 main_while0b_v35 (addi : (⟨S_, .i32⟩ : BufTy).Contents (Elt F) → (⟨S_, .i32⟩ : BufTy).Contents (Elt F) → (⟨S_, .i32⟩ : BufTy).Contents (Elt F)),
    StableHlo.ternary main_while0b_v34 main_while0b_v35 main_while0b_v33 main_while0b_v36 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v22_0 ![main_while0b_v36] ⟨S_, .i32⟩ main_while0b_v37 ((fun x i => Host.dynamicSlice S1 x (fun k => (i k (Shape.Idx.first h_S_)).toInt) sliceFits_S5000_S1) : (⟨S5000, .f32⟩ : BufTy).Contents (Elt F) → (Fin 1 → (⟨S_, .i32⟩ : BufTy).Contents (Elt F)) → (⟨S1, .f32⟩ : BufTy).Contents (Elt F)),
    StableHlo.reshape main_while0b_v37 main_while0b_v38 (rfl : (.f32 : EltTy) = .f32) shapeCasts_S1_S_,
    StableHlo.unary main_while0b_v38 main_while0b_v39 (broadcastInDim S5000 ![] bcast_S_S5000 : (⟨S_, .f32⟩ : BufTy).Contents (Elt F) → (⟨S5000, .f32⟩ : BufTy).Contents (Elt F)),
    StableHlo.binary main_while0b_v39 main_v22_0 main_while0b_v40 (maximumf : (⟨S5000, .f32⟩ : BufTy).Contents (Elt F) → (⟨S5000, .f32⟩ : BufTy).Contents (Elt F) → (⟨S5000, .f32⟩ : BufTy).Contents (Elt F)) ]

/-- These operations name buffers of the TensorCore only. -/
theorem leftOps_sub : (leftOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub ..⟩

/-- The lesser of the top edges. -/
abbrev topOps : List (HloOp τ sig (Elt F)) :=
  [ StableHlo.nullary main_while0b_c_14 (constantI S_ 32 0#32),
    StableHlo.binary main_while0b_v33 main_while0b_c_14 main_while0b_v41 (cmpi .slt : (⟨S_, .i32⟩ : BufTy).Contents (Elt F) → (⟨S_, .i32⟩ : BufTy).Contents (Elt F) → (⟨S_, .i1⟩ : BufTy).Contents (Elt F)),
    StableHlo.nullary main_while0b_c_15 (constantI S_ 32 5000#32),
    StableHlo.binary main_while0b_v33 main_while0b_c_15 main_while0b_v42 (addi : (⟨S_, .i32⟩ : BufTy).Contents (Elt F) → (⟨S_, .i32⟩ : BufTy).Contents (Elt F) → (⟨S_, .i32⟩ : BufTy).Contents (Elt F)),
    StableHlo.ternary main_while0b_v41 main_while0b_v42 main_while0b_v33 main_while0b_v43 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v22_1 ![main_while0b_v43] ⟨S_, .i32⟩ main_while0b_v44 ((fun x i => Host.dynamicSlice S1 x (fun k => (i k (Shape.Idx.first h_S_)).toInt) sliceFits_S5000_S1) : (⟨S5000, .f32⟩ : BufTy).Contents (Elt F) → (Fin 1 → (⟨S_, .i32⟩ : BufTy).Contents (Elt F)) → (⟨S1, .f32⟩ : BufTy).Contents (Elt F)),
    StableHlo.reshape main_while0b_v44 main_while0b_v45 (rfl : (.f32 : EltTy) = .f32) shapeCasts_S1_S_,
    StableHlo.unary main_while0b_v45 main_while0b_v46 (broadcastInDim S5000 ![] bcast_S_S5000 : (⟨S_, .f32⟩ : BufTy).Contents (Elt F) → (⟨S5000, .f32⟩ : BufTy).Contents (Elt F)),
    StableHlo.binary main_while0b_v46 main_v22_1 main_while0b_v47 (minimumf : (⟨S5000, .f32⟩ : BufTy).Contents (Elt F) → (⟨S5000, .f32⟩ : BufTy).Contents (Elt F) → (⟨S5000, .f32⟩ : BufTy).Contents (Elt F)) ]

/-- These operations name buffers of the TensorCore only. -/
theorem topOps_sub : (topOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub ..⟩

/-- The lesser of the right edges. -/
abbrev rightOps : List (HloOp τ sig (Elt F)) :=
  [ StableHlo.nullary main_while0b_c_16 (constantI S_ 32 0#32),
    StableHlo.binary main_while0b_v33 main_while0b_c_16 main_while0b_v48 (cmpi .slt : (⟨S_, .i32⟩ : BufTy).Contents (Elt F) → (⟨S_, .i32⟩ : BufTy).Contents (Elt F) → (⟨S_, .i1⟩ : BufTy).Contents (Elt F)),
    StableHlo.nullary main_while0b_c_17 (constantI S_ 32 5000#32),
    StableHlo.binary main_while0b_v33 main_while0b_c_17 main_while0b_v49 (addi : (⟨S_, .i32⟩ : BufTy).Contents (Elt F) → (⟨S_, .i32⟩ : BufTy).Contents (Elt F) → (⟨S_, .i32⟩ : BufTy).Contents (Elt F)),
    StableHlo.ternary main_while0b_v48 main_while0b_v49 main_while0b_v33 main_while0b_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v22_2 ![main_while0b_v50] ⟨S_, .i32⟩ main_while0b_v51 ((fun x i => Host.dynamicSlice S1 x (fun k => (i k (Shape.Idx.first h_S_)).toInt) sliceFits_S5000_S1) : (⟨S5000, .f32⟩ : BufTy).Contents (Elt F) → (Fin 1 → (⟨S_, .i32⟩ : BufTy).Contents (Elt F)) → (⟨S1, .f32⟩ : BufTy).Contents (Elt F)),
    StableHlo.reshape main_while0b_v51 main_while0b_v52 (rfl : (.f32 : EltTy) = .f32) shapeCasts_S1_S_,
    StableHlo.unary main_while0b_v52 main_while0b_v53 (broadcastInDim S5000 ![] bcast_S_S5000 : (⟨S_, .f32⟩ : BufTy).Contents (Elt F) → (⟨S5000, .f32⟩ : BufTy).Contents (Elt F)),
    StableHlo.binary main_while0b_v53 main_v22_2 main_while0b_v54 (minimumf : (⟨S5000, .f32⟩ : BufTy).Contents (Elt F) → (⟨S5000, .f32⟩ : BufTy).Contents (Elt F) → (⟨S5000, .f32⟩ : BufTy).Contents (Elt F)) ]

/-- These operations name buffers of the TensorCore only. -/
theorem rightOps_sub : (rightOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub ..⟩

/-- The greater of the bottom edges. -/
abbrev bottomOps : List (HloOp τ sig (Elt F)) :=
  [ StableHlo.nullary main_while0b_c_18 (constantI S_ 32 0#32),
    StableHlo.binary main_while0b_v33 main_while0b_c_18 main_while0b_v55 (cmpi .slt : (⟨S_, .i32⟩ : BufTy).Contents (Elt F) → (⟨S_, .i32⟩ : BufTy).Contents (Elt F) → (⟨S_, .i1⟩ : BufTy).Contents (Elt F)),
    StableHlo.nullary main_while0b_c_19 (constantI S_ 32 5000#32),
    StableHlo.binary main_while0b_v33 main_while0b_c_19 main_while0b_v56 (addi : (⟨S_, .i32⟩ : BufTy).Contents (Elt F) → (⟨S_, .i32⟩ : BufTy).Contents (Elt F) → (⟨S_, .i32⟩ : BufTy).Contents (Elt F)),
    StableHlo.ternary main_while0b_v55 main_while0b_v56 main_while0b_v33 main_while0b_v57 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v22_3 ![main_while0b_v57] ⟨S_, .i32⟩ main_while0b_v58 ((fun x i => Host.dynamicSlice S1 x (fun k => (i k (Shape.Idx.first h_S_)).toInt) sliceFits_S5000_S1) : (⟨S5000, .f32⟩ : BufTy).Contents (Elt F) → (Fin 1 → (⟨S_, .i32⟩ : BufTy).Contents (Elt F)) → (⟨S1, .f32⟩ : BufTy).Contents (Elt F)),
    StableHlo.reshape main_while0b_v58 main_while0b_v59 (rfl : (.f32 : EltTy) = .f32) shapeCasts_S1_S_,
    StableHlo.unary main_while0b_v59 main_while0b_v60 (broadcastInDim S5000 ![] bcast_S_S5000 : (⟨S_, .f32⟩ : BufTy).Contents (Elt F) → (⟨S5000, .f32⟩ : BufTy).Contents (Elt F)),
    StableHlo.binary main_while0b_v60 main_v22_3 main_while0b_v61 (maximumf : (⟨S5000, .f32⟩ : BufTy).Contents (Elt F) → (⟨S5000, .f32⟩ : BufTy).Contents (Elt F) → (⟨S5000, .f32⟩ : BufTy).Contents (Elt F)) ]

/-- These operations name buffers of the TensorCore only. -/
theorem bottomOps_sub : (bottomOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub ..⟩

/-- The area where they meet. -/
abbrev meetOps : List (HloOp τ sig (Elt F)) :=
  [ StableHlo.binary main_while0b_v54 main_while0b_v40 main_while0b_v62 (subf : (⟨S5000, .f32⟩ : BufTy).Contents (Elt F) → (⟨S5000, .f32⟩ : BufTy).Contents (Elt F) → (⟨S5000, .f32⟩ : BufTy).Contents (Elt F)),
    StableHlo.unary main_while0b_v62 main_while0b_v63 (Host.absf : (⟨S5000, .f32⟩ : BufTy).Contents (Elt F) → (⟨S5000, .f32⟩ : BufTy).Contents (Elt F)),
    StableHlo.binary main_while0b_v61 main_while0b_v47 main_while0b_v64 (subf : (⟨S5000, .f32⟩ : BufTy).Contents (Elt F) → (⟨S5000, .f32⟩ : BufTy).Contents (Elt F) → (⟨S5000, .f32⟩ : BufTy).Contents (Elt F)),
    StableHlo.unary main_while0b_v64 main_while0b_v65 (Host.absf : (⟨S5000, .f32⟩ : BufTy).Contents (Elt F) → (⟨S5000, .f32⟩ : BufTy).Contents (Elt F)),
    StableHlo.binary main_while0b_v63 main_while0b_v65 main_while0b_v66 (mulf : (⟨S5000, .f32⟩ : BufTy).Contents (Elt F) → (⟨S5000, .f32⟩ : BufTy).Contents (Elt F) → (⟨S5000, .f32⟩ : BufTy).Contents (Elt F)) ]

/-- These operations name buffers of the TensorCore only. -/
theorem meetOps_sub : (meetOps : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub ..⟩

/-- Does every position overlap the chosen one too much? -/
abbrev overOps : List (HloOp τ sig (Elt F)) :=
  [ StableHlo.nullary main_while0b_c_20 (constantI S_ 32 0#32),
    StableHlo.binary main_while0b_v33 main_while0b_c_20 main_while0b_v67 (cmpi .slt : (⟨S_, .i32⟩ : BufTy).Contents (Elt F) → (⟨S_, .i32⟩ : BufTy).Contents (Elt F) → (⟨S_, .i1⟩ : BufTy).Contents (Elt F)),
    StableHlo.nullary main_while0b_c_21 (constantI S_ 32 5000#32),
    StableHlo.binary main_while0b_v33 main_while0b_c_21 main_while0b_v68 (addi : (⟨S_, .i32⟩ : BufTy).Contents (Elt F) → (⟨S_, .i32⟩ : BufTy).Contents (Elt F) → (⟨S_, .i32⟩ : BufTy).Contents (Elt F)),
    StableHlo.ternary main_while0b_v67 main_while0b_v68 main_while0b_v33 main_while0b_v69 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v22_4 ![main_while0b_v69] ⟨S_, .i32⟩ main_while0b_v70 ((fun x i => Host.dynamicSlice S1 x (fun k => (i k (Shape.Idx.first h_S_)).toInt) sliceFits_S5000_S1) : (⟨S5000, .f32⟩ : BufTy).Contents (Elt F) → (Fin 1 → (⟨S_, .i32⟩ : BufTy).Contents (Elt F)) → (⟨S1, .f32⟩ : BufTy).Contents (Elt F)),
    StableHlo.reshape main_while0b_v70 main_while0b_v71 (rfl : (.f32 : EltTy) = .f32) shapeCasts_S1_S_,
    StableHlo.unary main_while0b_v71 main_while0b_v72 (broadcastInDim S5000 ![] bcast_S_S5000 : (⟨S_, .f32⟩ : BufTy).Contents (Elt F) → (⟨S5000, .f32⟩ : BufTy).Contents (Elt F)),
    StableHlo.binary main_while0b_v72 main_v22_4 main_while0b_v73 (addf : (⟨S5000, .f32⟩ : BufTy).Contents (Elt F) → (⟨S5000, .f32⟩ : BufTy).Contents (Elt F) → (⟨S5000, .f32⟩ : BufTy).Contents (Elt F)),
    StableHlo.binary main_while0b_v73 main_while0b_v66 main_while0b_v74 (subf : (⟨S5000, .f32⟩ : BufTy).Contents (Elt F) → (⟨S5000, .f32⟩ : BufTy).Contents (Elt F) → (⟨S5000, .f32⟩ : BufTy).Contents (Elt F)),
    StableHlo.binary main_while0b_v66 main_while0b_v74 main_while0b_v75 (Host.divf : (⟨S5000, .f32⟩ : BufTy).Contents (Elt F) → (⟨S5000, .f32⟩ : BufTy).Contents (Elt F) → (⟨S5000, .f32⟩ : BufTy).Contents (Elt F)),
    StableHlo.nullary main_while0b_cst (constant S_ .f32 0x3F000000#32),
    StableHlo.unary main_while0b_cst main_while0b_v76 (broadcastInDim S5000 ![] bcast_S_S5000 : (⟨S_, .f32⟩ : BufTy).Contents (Elt F) → (⟨S5000, .f32⟩ : BufTy).Contents (Elt F)),
    StableHlo.binary main_while0b_v75 main_while0b_v76 main_while0b_v77 (cmpf .ogt : (⟨S5000, .f32⟩ : BufTy).Contents (Elt F) → (⟨S5000, .f32⟩ : BufTy).Contents (Elt F) → (⟨S5000, .i1⟩ : BufTy).Contents (Elt F)),
    StableHlo.binary main_v22_5 main_while0b_v77 main_while0b_v78 (ori : (⟨S5000, .i1⟩ : BufTy).Contents (Elt F) → (⟨S5000, .i1⟩ : BufTy).Contents (Elt F) → (⟨S5000, .i1⟩ : BufTy).Contents (Elt F)),
    StableHlo.nullary main_while0b_c_22 (constantI S_ 32 0#32),
    StableHlo.binary main_while0b_v33 main_while0b_c_22 main_while0b_v79 (cmpi .slt : (⟨S_, .i32⟩ : BufTy).Contents (Elt F) → (⟨S_, .i32⟩ : BufTy).Contents (Elt F) → (⟨S_, .i1⟩ : BufTy).Contents (Elt F)) ]

/-- These operations name buffers of the TensorCore only. -/
theorem overOps_sub : (overOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub ..⟩

/-- The marks set at the chosen one, and the values carried on. -/
abbrev markOps : List (HloOp τ sig (Elt F)) :=
  [ StableHlo.nullary main_while0b_c_23 (constantI S_ 32 5000#32),
    StableHlo.binary main_while0b_v33 main_while0b_c_23 main_while0b_v80 (addi : (⟨S_, .i32⟩ : BufTy).Contents (Elt F) → (⟨S_, .i32⟩ : BufTy).Contents (Elt F) → (⟨S_, .i32⟩ : BufTy).Contents (Elt F)),
    StableHlo.ternary main_while0b_v79 main_while0b_v80 main_while0b_v33 main_while0b_v81 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v81 main_while0b_v82 (broadcastInDim S1 ![] bcast_S_S1 : (⟨S_, .i32⟩ : BufTy).Contents (Elt F) → (⟨S1, .i32⟩ : BufTy).Contents (Elt F)),
    StableHlo.nullary main_while0b_c_24 (constantI S_ 1 1#1),
    StableHlo.ternary main_while0b_v78 main_while0b_v82 main_while0b_c_24 main_while0b_v83 ((fun x i u => Host.scatter scatter_S5000_S1_S__n_0_0_0 (fun _ b => b) x i u) : (⟨S5000, .i1⟩ : BufTy).Contents (Elt F) → (⟨S1, .i32⟩ : BufTy).Contents (Elt F) → (⟨S_, .i1⟩ : BufTy).Contents (Elt F) → (⟨S5000, .i1⟩ : BufTy).Contents (Elt F)),
    StableHlo.nullary main_while0b_c_25 (constantI S_ 32 0#32),
    StableHlo.binary main_while0b_v33 main_while0b_c_25 main_while0b_v84 (cmpi .slt : (⟨S_, .i32⟩ : BufTy).Contents (Elt F) → (⟨S_, .i32⟩ : BufTy).Contents (Elt F) → (⟨S_, .i1⟩ : BufTy).Contents (Elt F)),
    StableHlo.nullary main_while0b_c_26 (constantI S_ 32 5000#32),
    StableHlo.binary main_while0b_v33 main_while0b_c_26 main_while0b_v85 (addi : (⟨S_, .i32⟩ : BufTy).Contents (Elt F) → (⟨S_, .i32⟩ : BufTy).Contents (Elt F) → (⟨S_, .i32⟩ : BufTy).Contents (Elt F)),
    StableHlo.ternary main_while0b_v84 main_while0b_v85 main_while0b_v33 main_while0b_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v86 main_while0b_v87 (broadcastInDim S1 ![] bcast_S_S1 : (⟨S_, .i32⟩ : BufTy).Contents (Elt F) → (⟨S1, .i32⟩ : BufTy).Contents (Elt F)),
    StableHlo.nullary main_while0b_c_27 (constantI S_ 1 1#1),
    StableHlo.ternary main_v22_6 main_while0b_v87 main_while0b_c_27 main_while0b_v88 ((fun x i u => Host.scatter scatter_S5000_S1_S__n_0_0_0 (fun _ b => b) x i u) : (⟨S5000, .i1⟩ : BufTy).Contents (Elt F) → (⟨S1, .i32⟩ : BufTy).Contents (Elt F) → (⟨S_, .i1⟩ : BufTy).Contents (Elt F) → (⟨S5000, .i1⟩ : BufTy).Contents (Elt F)),
    StableHlo.unary main_while0b_v83 main_v22_5 id,
    StableHlo.unary main_while0b_v88 main_v22_6 id ]

/-- These operations name buffers of the TensorCore only. -/
theorem markOps_sub : (markOps : List (HloOp τ sig (Elt F))).Forall fun op => op.bufs ⊆ StableHlo.tcRefs τ sig :=
  ⟨StableHlo.nullary_bufs_sub .., StableHlo.binary_bufs_sub .., StableHlo.ternary_bufs_sub .., StableHlo.unary_bufs_sub .., StableHlo.nullary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.unary_bufs_sub .., StableHlo.unary_bufs_sub ..⟩

/-- The marks sent back to the places of the boxes, and widened. -/
abbrev backOps : List (HloOp τ sig (Elt F)) :=
  [ StableHlo.nullary main_c_3 (constantI S_ 1 0#1),
    StableHlo.unary main_c_3 main_v23 (broadcastInDim S5000 ![] bcast_S_S5000 : (⟨S_, .i1⟩ : BufTy).Contents (Elt F) → (⟨S5000, .i1⟩ : BufTy).Contents (Elt F)),
    StableHlo.nullary main_c_4 (constantI S_ 32 0#32),
    StableHlo.unary main_c_4 main_v24 (broadcastInDim S5000 ![] bcast_S_S5000 : (⟨S_, .i32⟩ : BufTy).Contents (Elt F) → (⟨S5000, .i32⟩ : BufTy).Contents (Elt F)),
    StableHlo.binary main_v1 main_v24 main_v25 (cmpi .slt : (⟨S5000, .i32⟩ : BufTy).Contents (Elt F) → (⟨S5000, .i32⟩ : BufTy).Contents (Elt F) → (⟨S5000, .i1⟩ : BufTy).Contents (Elt F)),
    StableHlo.nullary main_c_5 (constantI S_ 32 5000#32),
    StableHlo.unary main_c_5 main_v26 (broadcastInDim S5000 ![] bcast_S_S5000 : (⟨S_, .i32⟩ : BufTy).Contents (Elt F) → (⟨S5000, .i32⟩ : BufTy).Contents (Elt F)),
    StableHlo.binary main_v1 main_v26 main_v27 (addi : (⟨S5000, .i32⟩ : BufTy).Contents (Elt F) → (⟨S5000, .i32⟩ : BufTy).Contents (Elt F) → (⟨S5000, .i32⟩ : BufTy).Contents (Elt F)),
    StableHlo.ternary main_v25 main_v27 main_v1 main_v28 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v28 main_v29 (broadcastInDim S5000x1 ![0] bcast_S5000_S5000x1_0 : (⟨S5000, .i32⟩ : BufTy).Contents (Elt F) → (⟨S5000x1, .i32⟩ : BufTy).Contents (Elt F)),
    StableHlo.ternary main_v23 main_v29 main_v22_6 main_v30 ((fun x i u => Host.scatter scatter_S5000_S5000x1_S5000_n_0_0_1 (fun _ b => b) x i u) : (⟨S5000, .i1⟩ : BufTy).Contents (Elt F) → (⟨S5000x1, .i32⟩ : BufTy).Contents (Elt F) → (⟨S5000, .i1⟩ : BufTy).Contents (Elt F) → (⟨S5000, .i1⟩ : BufTy).Contents (Elt F)),
    StableHlo.unary main_v30 main_v31 ((extui 32 · natLt_1_32) : (⟨S5000, .i1⟩ : BufTy).Contents (Elt F) → (⟨S5000, .i32⟩ : BufTy).Contents (Elt F)) ]

/-- These operations name buffers of the TensorCore only. -/
theorem backOps_sub : (backOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub ..⟩

/-- The stretches before the loop. -/
abbrev preI : List (List (HloOp τ sig (Elt F))) := [negOps, sortOps, colOps]
/-- The stretches of one trip. -/
abbrev bodyI : List (List (HloOp τ sig (Elt F))) := [notOps, pickOps, leftOps, topOps, rightOps, bottomOps, meetOps, overOps, markOps]
/-- The stretch after the loop. -/
abbrev postI : List (List (HloOp τ sig (Elt F))) := [backOps]

/-- No stretch before the loop allocates. -/
theorem preI_plain : StableHlo.Plain (preI (F := F)) := .cons negOps_sub (.cons sortOps_sub (.cons colOps_sub .nil))
/-- No stretch of a trip allocates. -/
theorem bodyI_plain : StableHlo.Plain (bodyI (F := F)) :=
  .cons notOps_sub (.cons pickOps_sub (.cons leftOps_sub (.cons topOps_sub (.cons rightOps_sub (.cons bottomOps_sub
    (.cons meetOps_sub (.cons overOps_sub (.cons markOps_sub .nil))))))))
/-- No stretch after the loop allocates. -/
theorem postI_plain : StableHlo.Plain (postI (F := F)) := .cons backOps_sub .nil

/-- The reference is its stretches, with the loop between them. -/
theorem main_chain (c : Dev nD) : main (F := F) c
    = Pipeline.chain ((preI.map fun ops => StableHlo.seq ops) ++ HostLoop.enter 0 :: postI.map fun ops => StableHlo.seq ops) := by
  show _ = Pipeline.chain [StableHlo.seq negOps, StableHlo.seq sortOps, StableHlo.seq colOps, HostLoop.enter 0, StableHlo.seq backOps]
  rewrite [StableHlo.chain_seq_cons, Pipeline.chain_cons, StableHlo.chain_seq_cons, Pipeline.chain_cons]
  chain_rfl

/-- One trip is its stretches in a row. -/
theorem body_chain : main_while0_body (F := F) = Pipeline.chain (bodyI.map fun ops => StableHlo.seq ops) := by
  show _ = Pipeline.chain [StableHlo.seq notOps, StableHlo.seq pickOps, StableHlo.seq leftOps, StableHlo.seq topOps,
    StableHlo.seq rightOps, StableHlo.seq bottomOps, StableHlo.seq meetOps, StableHlo.seq overOps, StableHlo.seq markOps]
  rewrite [StableHlo.chain_seq_cons, Pipeline.chain_cons, StableHlo.chain_seq_cons, StableHlo.chain_seq_cons,
    StableHlo.chain_seq_cons, StableHlo.chain_seq_cons, StableHlo.chain_seq_cons, StableHlo.chain_seq_cons, Pipeline.chain_cons]
  chain_rfl

end Cert.Proof.ReferenceIdeal
end
-- ==== Proof.Pick.lean ====
/-
  Choosing, testing and marking.

  The reference's trip chooses the first position whose bit is set, its test asks whether any bit is set, and a mark is
  set at one position. Here these three are read off their operations.
-/
module
public import proofs.«01_k».proof.Proof.Gen.ReferenceIdeal
public import Idealize.ShloMosaic.Lib.Routing.OpsOne
public import Idealize.ShloMosaic.Lib.DynamicIndex
@[expose] public section
noncomputable section
namespace Cert.Proof.Pick
open Idealize.ShloMosaic Idealize.ShloMosaic.ValueIdx Idealize.ShloMosaic.Routing
open Cert.ReferenceIdeal

theorem bit_cases : ∀ v : BitVec 1, v = 0#1 ∨ v = 1#1 := by decide

/-- A smaller number has the smaller word, read signed. -/
theorem slt_ofNat {a b : ℕ} (hb : b < 2 ^ 31) (h : a < b) : (BitVec.ofNat 32 a).slt (BitVec.ofNat 32 b) = true := by
  rw [BitVec.slt, decide_eq_true_iff, toInt_ofNat_of_lt (h.trans hb), toInt_ofNat_of_lt hb]
  exact_mod_cast h

theorem slt_self (w : BitVec 32) : w.slt w = false := by simp [BitVec.slt]

/-- Two clear bits: the smaller position stays. -/
theorem red_zero (n : ℕ) (hn : n < 2 ^ 31) : reducer_argmax_i1_i32 (0#1, 0#32) (0#1, BitVec.ofNat 32 n) = (0#1, 0#32) := by
  rcases Nat.eq_zero_or_pos n with rfl | h
  · rfl
  · have := slt_ofNat hn h
    simp only [reducer_argmax_i1_i32, IntOp.cmpi, Scalar.select, IntOp.andi, IntOp.ori, show (0#32).slt (BitVec.ofNat 32 n) = true from this]
    simp
/-- A set bit after a clear one is taken. -/
theorem red_take (u v : BitVec 32) : reducer_argmax_i1_i32 (0#1, u) (1#1, v) = (1#1, v) := by
  simp only [reducer_argmax_i1_i32, IntOp.cmpi, Scalar.select, IntOp.andi, IntOp.ori]
  simp
/-- A set bit stays before a clear one. -/
theorem red_stay (u v : BitVec 32) : reducer_argmax_i1_i32 (1#1, u) (0#1, v) = (1#1, u) := by
  simp only [reducer_argmax_i1_i32, IntOp.cmpi, Scalar.select, IntOp.andi, IntOp.ori]
  simp
/-- Of two set bits the smaller position stays. -/
theorem red_first {a b : ℕ} (hb : b < 2 ^ 31) (h : a < b) :
    reducer_argmax_i1_i32 (1#1, BitVec.ofNat 32 a) (1#1, BitVec.ofNat 32 b) = (1#1, BitVec.ofNat 32 a) := by
  simp only [reducer_argmax_i1_i32, IntOp.cmpi, Scalar.select, IntOp.andi, IntOp.ori, slt_ofNat hb h]
  simp

section Fold
variable {ι : Type} (x : ι → BitVec 1) (num : ι → ℕ)

theorem fold_zero : ∀ l : List ι, (∀ n ∈ l, x n = 0#1 ∧ num n < 2 ^ 31) →
    l.foldl (fun r n => reducer_argmax_i1_i32 r (x n, BitVec.ofNat 32 (num n))) (0#1, 0#32) = (0#1, 0#32)
  | [], _ => rfl
  | a :: l, h => by
    obtain ⟨h1, h2⟩ := h a List.mem_cons_self
    rw [List.foldl_cons, h1, red_zero _ h2]
    exact fold_zero l fun n hn => h n (List.mem_cons_of_mem _ hn)

theorem fold_stay (p : ℕ) : ∀ l : List ι, (∀ n ∈ l, p < num n ∧ num n < 2 ^ 31) →
    l.foldl (fun r n => reducer_argmax_i1_i32 r (x n, BitVec.ofNat 32 (num n))) (1#1, BitVec.ofNat 32 p) = (1#1, BitVec.ofNat 32 p)
  | [], _ => rfl
  | a :: l, h => by
    obtain ⟨h1, h2⟩ := h a List.mem_cons_self
    have e : reducer_argmax_i1_i32 (1#1, BitVec.ofNat 32 p) (x a, BitVec.ofNat 32 (num a)) = (1#1, BitVec.ofNat 32 p) := by
      rcases bit_cases (x a) with g | g <;> rw [g]
      · exact red_stay _ _
      · exact red_first h2 h1
    rw [List.foldl_cons, e]
    exact fold_stay p l fun n hn => h n (List.mem_cons_of_mem _ hn)
end Fold

/-- The chosen position is the first whose bit is set. -/
theorem argmax_eq (x : IVec S5000 1) (h : S5000.ReducesTo [0] S_) (hu : 0 < S_.numel) (p : Fin 5000) (hp : x (ix1 p) = 1#1)
    (hmin : ∀ q : Fin 5000, q < p → x (ix1 q) = 0#1) (j : S_.Idx) :
    (Host.reduce2 reducer_argmax_i1_i32 x (iotaInDim S5000 32 0) (constantI S_ 1 0#1) (constantI S_ 32 0#32) h hu j).2
      = BitVec.ofNat 32 p.val := by
  have hN := Routing.numel1 5000
  let P : Fin (S5000).numel := p.cast hN.symm
  obtain ⟨l₁, l₂, hl⟩ := List.append_of_mem (List.mem_finRange P)
  have hpw := List.pairwise_lt_finRange (S5000).numel
  rw [hl] at hpw
  obtain ⟨-, hpw2, hpw3⟩ := List.pairwise_append.1 hpw
  have hlt : ∀ n ∈ l₁, n < P := fun n hn => hpw3 n hn P List.mem_cons_self
  have hgt : ∀ n ∈ l₂, P < n := (List.pairwise_cons.1 hpw2).1
  have hsm : ∀ n : Fin (S5000).numel, n.val < 2 ^ 31 := fun n => by have := (n.cast hN).isLt; have e : (n.cast hN).val = n.val := rfl; omega
  let y : Fin (S5000).numel → BitVec 1 := fun n => x (ix1 (n.cast hN))
  have hf : Host.reduce2 reducer_argmax_i1_i32 x (iotaInDim S5000 32 0) (constantI S_ 1 0#1) (constantI S_ 32 0#32) h hu j
      = (List.finRange (S5000).numel).foldl (fun r n => reducer_argmax_i1_i32 r (y n, BitVec.ofNat 32 n.val)) (0#1, 0#32) := by
    unfold Host.reduce2
    rw [List.filter_eq_self.2 (fun n _ => decide_eq_true (funext fun a => a.elim0))]
    refine congrArg (fun f => List.foldl f _ _) (funext fun r => funext fun n => ?_)
    have e : (S5000.rowMajor.symm n) = ix1 (n.cast hN) := Routing.symm1 n
    rw [e]
    rfl
  rw [hf, hl, List.foldl_append, List.foldl_cons,
    fold_zero y (fun n => n.val) l₁ fun n hn => ⟨hmin _ (hlt n hn), hsm n⟩]
  have hy : y P = 1#1 := hp
  rw [hy, red_take, fold_stay y (fun n => n.val) P.val l₂ fun n hn => ⟨hgt n hn, hsm n⟩]
  rfl

theorem foldl_ori {ι : Type} (f : ι → BitVec 1) : ∀ (l : List ι) (r : BitVec 1),
    l.foldl (fun r n => IntOp.ori r (f n)) r = 1#1 ↔ r = 1#1 ∨ ∃ n ∈ l, f n = 1#1
  | [], r => by simp
  | a :: l, r => by
    have e : ∀ u v : BitVec 1, IntOp.ori u v = 1#1 ↔ u = 1#1 ∨ v = 1#1 := by decide
    rw [List.foldl_cons, foldl_ori f l, e]
    simp [or_assoc]

/-- The test over all bits is set when some bit is. -/
theorem any_iff (x : IVec S5000 1) (h : S5000.ReducesTo [0] S_) (hu : 0 < S_.numel) (j : S_.Idx) :
    Host.reduce IntOp.ori x (constantI S_ 1 0#1) h hu j = 1#1 ↔ ∃ p : Fin 5000, x (ix1 p) = 1#1 := by
  have hN := Routing.numel1 5000
  unfold Host.reduce
  rw [List.filter_eq_self.2 (fun n _ => decide_eq_true (funext fun a => a.elim0)), foldl_ori]
  constructor
  · rintro (h | ⟨n, -, hn⟩)
    · exact absurd h (by show ¬ (0#1 = 1#1); decide)
    · exact ⟨(n.cast hN), by rw [← Routing.symm1 n]; exact hn⟩
  · rintro ⟨p, hp⟩
    refine Or.inr ⟨p.cast hN.symm, List.mem_finRange _, ?_⟩
    have e : (S5000.rowMajor.symm (p.cast hN.symm)) = ix1 p := Routing.symm1 _
    rw [e]; exact hp

/-- A mark set at position `p` leaves the other positions as they were. -/
theorem mark_apply (x : IVec S5000 1) (idx : IVec S1 32) (u : IVec S_ 1) (p : Fin 5000)
    (hidx : (idx (ix1 0)).toInt = (p.val : Int)) (q : Fin 5000) :
    Host.scatter scatter_S5000_S1_S__n_0_0_0 (fun _ b => b) x idx u (ix1 q) = if q = p then u ix0 else x (ix1 q) := by
  have L := Routing.lands_one scatter_S5000_S1_S__n_0_0_0 rfl rfl idx p hidx q
  by_cases h : q = p
  · rw [if_pos h]
    exact Routing.scatter_set_hit _ x idx u _ _ (fun j _ => congrArg u (eq_ix0 j)) ix0 (L.2 h)
  · rw [if_neg h]
    exact Routing.scatter_set_miss _ x idx u _ fun j hj => h (L.1 (by rw [← eq_ix0 j]; exact hj))

end Cert.Proof.Pick
end
-- ==== Proof.RefTrip.lean ====
/-
  One trip of the reference's loop.

  The trip takes the first position not yet suppressed, compares every position with it, suppresses those that overlap it
  too much and the position itself, and keeps the position.
-/
module
public import proofs.«01_k».proof.Proof.RefOps
public import proofs.«01_k».proof.Proof.Pick
public import proofs.«01_k».proof.Proof.Order
public import Idealize.ShloMosaic.Lib.StableHlo.ReadAt
public import Idealize.ShloMosaic.Lib.KernelVsHost
@[expose] public section
noncomputable section
namespace Cert.Proof.ReferenceIdeal
open Cert.ReferenceIdeal Cert.ReferenceIdeal.Gen Cert.Proof.Rel
open Idealize.ShloMosaic
open Idealize.ShloMosaic.TcCoe Idealize.ShloMosaic.Tactic
open Idealize.SL Idealize.SL.Sem
open scoped Classical

/-- The buffers that no trip changes: the boxes' columns in sorted order, their areas, the order, the arguments. -/
abbrev fixed : List (Ref sig .tc) := [main_v22_0, main_v22_1, main_v22_2, main_v22_3, main_v22_4, main_v1, main_arg0, main_arg1]

/-- The entry of a row of 5000 numbers at a position. -/
abbrev entry (x : FVec Ideal S5000 .f32) (q : Fin 5000) : EReal := x (ix1 q)

variable (V : Valuation τ sig (Elt Ideal))

theorem condOps_keep (b : Ref sig .tc) (hb : b ∈ main_v22_5 :: main_v22_6 :: fixed) : StableHlo.after (condOps (F := Ideal)) V b = V b := by
  refine StableHlo.after_of_forall_not_mem _ _ fun op hop => ?_
  fin_cases hb <;> fin_cases hop <;> exact fun h => StableHlo.devRef_ne_of_ne (by decide) (Finset.mem_singleton.mp h)
theorem notOps_keep (b : Ref sig .tc) (hb : b ∈ main_v22_5 :: main_v22_6 :: fixed) : StableHlo.after (notOps (F := Ideal)) V b = V b := by
  refine StableHlo.after_of_forall_not_mem _ _ fun op hop => ?_
  fin_cases hb <;> fin_cases hop <;> exact fun h => StableHlo.devRef_ne_of_ne (by decide) (Finset.mem_singleton.mp h)
theorem pickOps_keep (b : Ref sig .tc) (hb : b ∈ main_v22_5 :: main_v22_6 :: fixed) : StableHlo.after (pickOps (F := Ideal)) V b = V b := by
  refine StableHlo.after_of_forall_not_mem _ _ fun op hop => ?_
  fin_cases hb <;> fin_cases hop <;> exact fun h => StableHlo.devRef_ne_of_ne (by decide) (Finset.mem_singleton.mp h)
theorem leftOps_keep (b : Ref sig .tc) (hb : b ∈ main_while0b_v33 :: main_v22_5 :: main_v22_6 :: fixed) : StableHlo.after (leftOps (F := Ideal)) V b = V b := by
  refine StableHlo.after_of_forall_not_mem _ _ fun op hop => ?_
  fin_cases hb <;> fin_cases hop <;> exact fun h => StableHlo.devRef_ne_of_ne (by decide) (Finset.mem_singleton.mp h)
theorem topOps_keep (b : Ref sig .tc) (hb : b ∈ main_while0b_v40 :: main_while0b_v33 :: main_v22_5 :: main_v22_6 :: fixed) : StableHlo.after (topOps (F := Ideal)) V b = V b := by
  refine StableHlo.after_of_forall_not_mem _ _ fun op hop => ?_
  fin_cases hb <;> fin_cases hop <;> exact fun h => StableHlo.devRef_ne_of_ne (by decide) (Finset.mem_singleton.mp h)
theorem rightOps_keep (b : Ref sig .tc) (hb : b ∈ main_while0b_v40 :: main_while0b_v47 :: main_while0b_v33 :: main_v22_5 :: main_v22_6 :: fixed) : StableHlo.after (rightOps (F := Ideal)) V b = V b := by
  refine StableHlo.after_of_forall_not_mem _ _ fun op hop => ?_
  fin_cases hb <;> fin_cases hop <;> exact fun h => StableHlo.devRef_ne_of_ne (by decide) (Finset.mem_singleton.mp h)
theorem bottomOps_keep (b : Ref sig .tc) (hb : b ∈ main_while0b_v40 :: main_while0b_v47 :: main_while0b_v54 :: main_while0b_v33 :: main_v22_5 :: main_v22_6 :: fixed) : StableHlo.after (bottomOps (F := Ideal)) V b = V b := by
  refine StableHlo.after_of_forall_not_mem _ _ fun op hop => ?_
  fin_cases hb <;> fin_cases hop <;> exact fun h => StableHlo.devRef_ne_of_ne (by decide) (Finset.mem_singleton.mp h)
theorem meetOps_keep (b : Ref sig .tc) (hb : b ∈ main_while0b_v33 :: main_v22_5 :: main_v22_6 :: fixed) : StableHlo.after (meetOps (F := Ideal)) V b = V b := by
  refine StableHlo.after_of_forall_not_mem _ _ fun op hop => ?_
  fin_cases hb <;> fin_cases hop <;> exact fun h => StableHlo.devRef_ne_of_ne (by decide) (Finset.mem_singleton.mp h)
theorem overOps_keep (b : Ref sig .tc) (hb : b ∈ main_while0b_v33 :: main_v22_6 :: fixed) : StableHlo.after (overOps (F := Ideal)) V b = V b := by
  refine StableHlo.after_of_forall_not_mem _ _ fun op hop => ?_
  fin_cases hb <;> fin_cases hop <;> exact fun h => StableHlo.devRef_ne_of_ne (by decide) (Finset.mem_singleton.mp h)
theorem markOps_keep (b : Ref sig .tc) (hb : b ∈ fixed) : StableHlo.after (markOps (F := Ideal)) V b = V b := by
  refine StableHlo.after_of_forall_not_mem _ _ fun op hop => ?_
  fin_cases hb <;> fin_cases hop <;> exact fun h => StableHlo.devRef_ne_of_ne (by decide) (Finset.mem_singleton.mp h)

/-- The condition's answer. -/
theorem cond_apply (j : S_.Idx) : (StableHlo.after (condOps (F := Ideal)) V main_while0c_v33 : IVec S_ 1) j = 1#1
    ↔ ∃ p : Fin 5000, (V main_v22_5 : IVec S5000 1) (ix1 p) ≠ 1#1 := by
  have e : StableHlo.after (condOps (F := Ideal)) V main_while0c_v33
      = Host.reduce IntOp.ori (noti (V main_v22_5 : IVec S5000 1)) (constantI S_ 1 0#1) reducesTo_S5000_S_d0 h_S_ := by
    after_results
  have n1 : ∀ v : BitVec 1, ~~~v = 1#1 ↔ v ≠ 1#1 := by decide
  rw [e, Pick.any_iff]
  simp only [ix1_eq_valueIdx]
  exact exists_congr fun p => n1 _

/-- The chosen position: the first not yet suppressed. -/
theorem pick_apply (p : Fin 5000) (hp : (V main_v22_5 : IVec S5000 1) (ix1 p) ≠ 1#1)
    (hmin : ∀ q : Fin 5000, q < p → (V main_v22_5 : IVec S5000 1) (ix1 q) = 1#1) :
    (StableHlo.after pickOps (StableHlo.after (notOps (F := Ideal)) V) main_while0b_v33 : IVec S_ 32) = fun _ => BitVec.ofNat 32 p.val := by
  have e : ∀ W : Valuation τ sig (Elt Ideal), (StableHlo.after (pickOps (F := Ideal)) W main_while0b_v33 : IVec S_ 32)
      = fun j => (Host.reduce2 reducer_argmax_i1_i32 (W main_while0b_v32 : IVec S5000 1) (iotaInDim S5000 32 0) (constantI S_ 1 0#1)
          (constantI S_ 32 0#32) reducesTo_S5000_S_d0 h_S_ j).2 := by
    intro W
    after_results
    simp only [StableHlo.TRef.ofBuf, StableHlo.TRef.toBuf, cast_cast, cast_eq]
  have e' : StableHlo.after (notOps (F := Ideal)) V main_while0b_v32 = noti (V main_v22_5 : IVec S5000 1) := by after_results
  have n1 : ∀ v : BitVec 1, v ≠ 1#1 → ~~~v = 1#1 := by decide
  have n0 : ∀ v : BitVec 1, v = 1#1 → ~~~v = 0#1 := by decide
  funext j
  rw [e, e']
  simp only [ix1_eq_valueIdx] at hp hmin
  exact Pick.argmax_eq _ _ _ p (n1 _ hp) (fun q hq => n0 _ (hmin q hq)) j

/-- A position is not negative, so it is its own index word. -/
theorem word_wrap (p : Fin 5000) (w : IVec S_ 32) (hp : w = fun _ => BitVec.ofNat 32 p.val) :
    select (cmpi .slt w (constantI S_ 32 0#32)) (addi w (constantI S_ 32 5000#32)) w = fun _ => BitVec.ofNat 32 p.val := by
  have e := toInt_ofNat_of_lt (show p.val < 2 ^ 31 by have := p.isLt; omega)
  funext j
  rw [select_slt_zero_of_nonneg w _ _ j (by rw [hp]; show 0 ≤ (BitVec.ofNat 32 p.val).toInt; omega), hp]

/-- A slice of one entry at a position starts there. -/
theorem start_eq (p : Fin 5000) (f : Fin 1 → ℤ) (w : BitVec 32) (h : w = BitVec.ofNat 32 p.val) (hr : S1.rank = S5000.rank)
    (hf : f 0 = w.toInt) : Host.clampedStart S5000 S1 hr f 0 = p.val := by
  have e := toInt_ofNat_of_lt (show p.val < 2 ^ 31 by have := p.isLt; omega)
  refine Host.clampedStart_of_le hr f 0 p.val (by rw [hf, h, e]) ?_
  show p.val + 1 ≤ 5000
  have := p.isLt; omega

/-- The chosen position as this stretch's index word. -/
theorem left_word (p : Fin 5000) (hp : (V main_while0b_v33 : IVec S_ 32) = fun _ => BitVec.ofNat 32 p.val) :
    (StableHlo.upto (leftOps (F := Ideal)) V 5 main_while0b_v36 : IVec S_ 32) = fun _ => BitVec.ofNat 32 p.val := by
  have e : (StableHlo.after ((leftOps (F := Ideal)).take 5) V main_while0b_v36 : IVec S_ 32)
      = select (cmpi .slt (V main_while0b_v33 : IVec S_ 32) (constantI S_ 32 0#32))
          (addi (V main_while0b_v33 : IVec S_ 32) (constantI S_ 32 5000#32)) (V main_while0b_v33) := by
    simp only [List.take_succ_cons, List.take_zero]
    after_results
  exact e.trans (word_wrap p _ hp)

/-- The greater left edge. -/
theorem left_apply (p : Fin 5000) (hp : (V main_while0b_v33 : IVec S_ 32) = fun _ => BitVec.ofNat 32 p.val) (q : Fin 5000) :
    entry (StableHlo.after (leftOps (F := Ideal)) V main_while0b_v40) q
      = max (entry (V main_v22_0) p) (entry (V main_v22_0) q) := by
  have h := left_word V p hp
  after_reads_at
  generalize StableHlo.upto leftOps V 5 = U at h ⊢
  refine congrArg₂ (max : EReal → EReal → EReal) (congrArg (entry (V main_v22_0)) (Fin.ext ?_)) rfl
  dsimp only
  exact start_eq p _ _ (congrFun h (Shape.Idx.first h_S_)) _ rfl

/-- The chosen position as this stretch's index word. -/
theorem top_word (p : Fin 5000) (hp : (V main_while0b_v33 : IVec S_ 32) = fun _ => BitVec.ofNat 32 p.val) :
    (StableHlo.upto (topOps (F := Ideal)) V 5 main_while0b_v43 : IVec S_ 32) = fun _ => BitVec.ofNat 32 p.val := by
  have e : (StableHlo.after ((topOps (F := Ideal)).take 5) V main_while0b_v43 : IVec S_ 32)
      = select (cmpi .slt (V main_while0b_v33 : IVec S_ 32) (constantI S_ 32 0#32))
          (addi (V main_while0b_v33 : IVec S_ 32) (constantI S_ 32 5000#32)) (V main_while0b_v33) := by
    simp only [List.take_succ_cons, List.take_zero]
    after_results
  exact e.trans (word_wrap p _ hp)

/-- The lesser top edge. -/
theorem top_apply (p : Fin 5000) (hp : (V main_while0b_v33 : IVec S_ 32) = fun _ => BitVec.ofNat 32 p.val) (q : Fin 5000) :
    entry (StableHlo.after (topOps (F := Ideal)) V main_while0b_v47) q
      = min (entry (V main_v22_1) p) (entry (V main_v22_1) q) := by
  have h := top_word V p hp
  after_reads_at
  generalize StableHlo.upto topOps V 5 = U at h ⊢
  refine congrArg₂ (min : EReal → EReal → EReal) (congrArg (entry (V main_v22_1)) (Fin.ext ?_)) rfl
  dsimp only
  exact start_eq p _ _ (congrFun h (Shape.Idx.first h_S_)) _ rfl

/-- The chosen position as this stretch's index word. -/
theorem right_word (p : Fin 5000) (hp : (V main_while0b_v33 : IVec S_ 32) = fun _ => BitVec.ofNat 32 p.val) :
    (StableHlo.upto (rightOps (F := Ideal)) V 5 main_while0b_v50 : IVec S_ 32) = fun _ => BitVec.ofNat 32 p.val := by
  have e : (StableHlo.after ((rightOps (F := Ideal)).take 5) V main_while0b_v50 : IVec S_ 32)
      = select (cmpi .slt (V main_while0b_v33 : IVec S_ 32) (constantI S_ 32 0#32))
          (addi (V main_while0b_v33 : IVec S_ 32) (constantI S_ 32 5000#32)) (V main_while0b_v33) := by
    simp only [List.take_succ_cons, List.take_zero]
    after_results
  exact e.trans (word_wrap p _ hp)

/-- The lesser right edge. -/
theorem right_apply (p : Fin 5000) (hp : (V main_while0b_v33 : IVec S_ 32) = fun _ => BitVec.ofNat 32 p.val) (q : Fin 5000) :
    entry (StableHlo.after (rightOps (F := Ideal)) V main_while0b_v54) q
      = min (entry (V main_v22_2) p) (entry (V main_v22_2) q) := by
  have h := right_word V p hp
  after_reads_at
  generalize StableHlo.upto rightOps V 5 = U at h ⊢
  refine congrArg₂ (min : EReal → EReal → EReal) (congrArg (entry (V main_v22_2)) (Fin.ext ?_)) rfl
  dsimp only
  exact start_eq p _ _ (congrFun h (Shape.Idx.first h_S_)) _ rfl

/-- The chosen position as this stretch's index word. -/
theorem bottom_word (p : Fin 5000) (hp : (V main_while0b_v33 : IVec S_ 32) = fun _ => BitVec.ofNat 32 p.val) :
    (StableHlo.upto (bottomOps (F := Ideal)) V 5 main_while0b_v57 : IVec S_ 32) = fun _ => BitVec.ofNat 32 p.val := by
  have e : (StableHlo.after ((bottomOps (F := Ideal)).take 5) V main_while0b_v57 : IVec S_ 32)
      = select (cmpi .slt (V main_while0b_v33 : IVec S_ 32) (constantI S_ 32 0#32))
          (addi (V main_while0b_v33 : IVec S_ 32) (constantI S_ 32 5000#32)) (V main_while0b_v33) := by
    simp only [List.take_succ_cons, List.take_zero]
    after_results
  exact e.trans (word_wrap p _ hp)

/-- The greater bottom edge. -/
theorem bottom_apply (p : Fin 5000) (hp : (V main_while0b_v33 : IVec S_ 32) = fun _ => BitVec.ofNat 32 p.val) (q : Fin 5000) :
    entry (StableHlo.after (bottomOps (F := Ideal)) V main_while0b_v61) q
      = max (entry (V main_v22_3) p) (entry (V main_v22_3) q) := by
  have h := bottom_word V p hp
  after_reads_at
  generalize StableHlo.upto bottomOps V 5 = U at h ⊢
  refine congrArg₂ (max : EReal → EReal → EReal) (congrArg (entry (V main_v22_3)) (Fin.ext ?_)) rfl
  dsimp only
  exact start_eq p _ _ (congrFun h (Shape.Idx.first h_S_)) _ rfl

/-- The chosen position as this stretch's index word. -/
theorem over_word (p : Fin 5000) (hp : (V main_while0b_v33 : IVec S_ 32) = fun _ => BitVec.ofNat 32 p.val) :
    (StableHlo.upto (overOps (F := Ideal)) V 5 main_while0b_v69 : IVec S_ 32) = fun _ => BitVec.ofNat 32 p.val := by
  have e : (StableHlo.after ((overOps (F := Ideal)).take 5) V main_while0b_v69 : IVec S_ 32)
      = select (cmpi .slt (V main_while0b_v33 : IVec S_ 32) (constantI S_ 32 0#32))
          (addi (V main_while0b_v33 : IVec S_ 32) (constantI S_ 32 5000#32)) (V main_while0b_v33) := by
    simp only [List.take_succ_cons, List.take_zero]
    after_results
  exact e.trans (word_wrap p _ hp)

/-- The area in which the position meets the chosen one. -/
theorem meet_apply (q : Fin 5000) :
    entry (StableHlo.after (meetOps (F := Ideal)) V main_while0b_v66) q
      = FloatOps.absf (F := Ideal) (φ := .f32) (entry (V main_while0b_v54) q
          - entry (V main_while0b_v40) q)
        * (show EReal from FloatOps.absf (F := Ideal) (φ := .f32) (entry (V main_while0b_v61) q
          - entry (V main_while0b_v47) q)) := by
  after_reads_at

/-- A position is suppressed afterwards if it was, or if it overlaps the chosen one by more than half. -/
theorem over_apply (p : Fin 5000) (hp : (V main_while0b_v33 : IVec S_ 32) = fun _ => BitVec.ofNat 32 p.val) (q : Fin 5000)
    (w a b : EReal) (hw : (V main_while0b_v66 : FVec Ideal S5000 .f32) (ix1 q) = w)
    (ha : (V main_v22_4 : FVec Ideal S5000 .f32) (ix1 p) = a) (hb : (V main_v22_4 : FVec Ideal S5000 .f32) (ix1 q) = b) :
    (StableHlo.after (overOps (F := Ideal)) V main_while0b_v78 : IVec S5000 1) (ix1 q) = 1#1
      ↔ (V main_v22_5 : IVec S5000 1) (ix1 q) = 1#1 ∨ Ideal.ofBits .f32 0x3F000000#32 < Ideal.div w (a + b - w) := by
  have h := over_word V p hp
  have n1 : ∀ u v : BitVec 1, u ||| v = 1#1 ↔ u = 1#1 ∨ v = 1#1 := by decide
  have key : ∀ c w' z b' : EReal, w' = w → z = a → b' = b →
      (BitVec.ofBool (decide (c < Ideal.div w' (z + b' - w'))) = 1#1 ↔ c < Ideal.div w (a + b - w)) := by
    rintro c w' z b' rfl rfl rfl
    by_cases hc : c < Ideal.div w' (z + b' - w') <;> simp [hc]
  after_reads_at
  generalize StableHlo.upto overOps V 5 = U at h ⊢
  refine (n1 _ _).trans (or_congr Iff.rfl (key _ _ _ _ hw (Eq.trans ?_ ha) hb))
  refine congrArg (V (Proc.devRef .tc main_v22_4)) (congrArg ix1 (Fin.ext ?_))
  dsimp only
  exact start_eq p _ _ (congrFun h (Shape.Idx.first h_S_)) _ rfl

/-- The sign of the chosen position: not negative. -/
theorem over_sign (p : Fin 5000) (hp : (V main_while0b_v33 : IVec S_ 32) = fun _ => BitVec.ofNat 32 p.val) :
    (StableHlo.after (overOps (F := Ideal)) V main_while0b_v79 : IVec S_ 1) = cmpi .slt (V main_while0b_v33 : IVec S_ 32) (constantI S_ 32 0#32) := by
  after_results

/-- The two marks after the trip. -/
theorem mark_apply (p : Fin 5000) (hp : (V main_while0b_v33 : IVec S_ 32) = fun _ => BitVec.ofNat 32 p.val)
    (hs : (V main_while0b_v79 : IVec S_ 1) = cmpi .slt (V main_while0b_v33 : IVec S_ 32) (constantI S_ 32 0#32)) (q : Fin 5000) :
    (StableHlo.after (markOps (F := Ideal)) V main_v22_5 : IVec S5000 1) (ix1 q)
        = (if q = p then 1#1 else (V main_while0b_v78 : IVec S5000 1) (ix1 q))
      ∧ (StableHlo.after (markOps (F := Ideal)) V main_v22_6 : IVec S5000 1) (ix1 q)
        = (if q = p then 1#1 else (V main_v22_6 : IVec S5000 1) (ix1 q)) := by
  have e5 : (StableHlo.after (markOps (F := Ideal)) V main_v22_5 : IVec S5000 1)
      = Host.scatter scatter_S5000_S1_S__n_0_0_0 (fun _ b => b) (V main_while0b_v78 : IVec S5000 1)
          (broadcastInDim S1 ![] bcast_S_S1 (select (V main_while0b_v79 : IVec S_ 1)
            (addi (V main_while0b_v33 : IVec S_ 32) (constantI S_ 32 5000#32)) (V main_while0b_v33))) (constantI S_ 1 1#1) := by
    after_results
    rfl
  have e6 : (StableHlo.after (markOps (F := Ideal)) V main_v22_6 : IVec S5000 1)
      = Host.scatter scatter_S5000_S1_S__n_0_0_0 (fun _ b => b) (V main_v22_6 : IVec S5000 1)
          (broadcastInDim S1 ![] bcast_S_S1 (select (cmpi .slt (V main_while0b_v33 : IVec S_ 32) (constantI S_ 32 0#32))
            (addi (V main_while0b_v33 : IVec S_ 32) (constantI S_ 32 5000#32)) (V main_while0b_v33))) (constantI S_ 1 1#1) := by
    after_results
    rfl
  rw [e5, e6, hs, word_wrap p _ hp]
  simp only [ix1_eq_valueIdx]
  have hi : ((broadcastInDim S1 ![] bcast_S_S1 (fun _ => BitVec.ofNat 32 p.val : IVec S_ 32)) (ValueIdx.ix1 0)).toInt = (p.val : ℤ) :=
    toInt_ofNat_of_lt (show p.val < 2 ^ 31 by have := p.isLt; omega)
  exact ⟨Pick.mark_apply _ _ _ p hi q, Pick.mark_apply _ _ _ p hi q⟩

end Cert.Proof.ReferenceIdeal
end
-- ==== Proof.RefStep.lean ====
/-
  The reference's loop, trip after trip.

  A trip suppresses the first position left, with all that overlap it too much, and keeps it.  So the loop is the scan of
  `Nms.lean` over the boxes in the order of their scores, and it ends when every position is suppressed.
-/
module
public import proofs.«01_k».proof.Proof.RefTrip
public import proofs.«01_k».proof.Proof.Nms
public import Idealize.ShloMosaic.Lib.StableHlo.RunLoop
@[expose] public section
noncomputable section
namespace Cert.Proof.ReferenceIdeal
open Cert.ReferenceIdeal Cert.ReferenceIdeal.Gen Cert.Proof.Rel
open Idealize.ShloMosaic
open Idealize.ShloMosaic.TcCoe Idealize.ShloMosaic.Tactic
open Idealize.SL Idealize.SL.Sem
open scoped Classical

/-- The buffers hold the boxes `X` in the order of the scores, column by column, and their areas. -/
structure Cols (V : Valuation τ sig (Elt Ideal)) (X : Fin 5000 → Fin 5 → EReal) : Prop where
  left : ∀ q, entry (V main_v22_0) q = X q 0
  top : ∀ q, entry (V main_v22_1) q = X q 1
  right : ∀ q, entry (V main_v22_2) q = X q 2
  bottom : ∀ q, entry (V main_v22_3) q = X q 3
  area : ∀ q, entry (V main_v22_4) q = area (X q)

/-- Position `q` is suppressed. -/
abbrev gone (V : Valuation τ sig (Elt Ideal)) (q : Fin 5000) : Prop := (V main_v22_5 : IVec S5000 1) (ix1 q) = 1#1
/-- Position `q` is marked as kept. -/
abbrev marked (V : Valuation τ sig (Elt Ideal)) (q : Fin 5000) : Prop := (V main_v22_6 : IVec S5000 1) (ix1 q) = 1#1

/-- One round: the condition's operations, then the trip's. -/
abbrev round (V : Valuation τ sig (Elt Ideal)) : Valuation τ sig (Elt Ideal) :=
  StableHlo.afterL (bodyI (F := Ideal)) (StableHlo.after (condOps (F := Ideal)) V)

/-- A round leaves the columns, the order and the arguments. -/
theorem round_keep (V : Valuation τ sig (Elt Ideal)) (b : Ref sig .tc) (hb : b ∈ fixed) : round V b = V b := by
  have h1 := List.mem_cons_of_mem main_v22_6 hb
  have h2 := List.mem_cons_of_mem main_v22_5 h1
  have h3 := List.mem_cons_of_mem main_while0b_v33 h2
  simp only [round, StableHlo.afterL_cons, StableHlo.afterL_nil]
  rw [markOps_keep _ _ hb, overOps_keep _ _ (List.mem_cons_of_mem _ h1), meetOps_keep _ _ h3,
    bottomOps_keep _ _ (List.mem_cons_of_mem _ (List.mem_cons_of_mem _ (List.mem_cons_of_mem _ h3))),
    rightOps_keep _ _ (List.mem_cons_of_mem _ (List.mem_cons_of_mem _ h3)), topOps_keep _ _ (List.mem_cons_of_mem _ h3),
    leftOps_keep _ _ h3, pickOps_keep _ _ h2, notOps_keep _ _ h2, condOps_keep _ _ h2]

/-- What a round does to the two marks, when `p` is the first position left. -/
theorem round_marks (V : Valuation τ sig (Elt Ideal)) (X : Fin 5000 → Fin 5 → EReal) (hc : Cols V X) (p : Fin 5000) (hp : ¬ gone V p)
    (hmin : ∀ q : Fin 5000, q < p → gone V q) (q : Fin 5000) :
    (gone (round V) q ↔ q = p ∨ gone V q ∨ over (X p) (X q)) ∧ (marked (round V) q ↔ q = p ∨ marked V q) := by
  obtain ⟨W0, e0⟩ : ∃ W, W = StableHlo.after (condOps (F := Ideal)) V := ⟨_, rfl⟩
  obtain ⟨W1, e1⟩ : ∃ W, W = StableHlo.after (pickOps (F := Ideal)) (StableHlo.after (notOps (F := Ideal)) W0) := ⟨_, rfl⟩
  obtain ⟨W2, e2⟩ : ∃ W, W = StableHlo.after (leftOps (F := Ideal)) W1 := ⟨_, rfl⟩
  obtain ⟨W3, e3⟩ : ∃ W, W = StableHlo.after (topOps (F := Ideal)) W2 := ⟨_, rfl⟩
  obtain ⟨W4, e4⟩ : ∃ W, W = StableHlo.after (rightOps (F := Ideal)) W3 := ⟨_, rfl⟩
  obtain ⟨W5, e5⟩ : ∃ W, W = StableHlo.after (bottomOps (F := Ideal)) W4 := ⟨_, rfl⟩
  obtain ⟨W6, e6⟩ : ∃ W, W = StableHlo.after (meetOps (F := Ideal)) W5 := ⟨_, rfl⟩
  obtain ⟨W7, e7⟩ : ∃ W, W = StableHlo.after (overOps (F := Ideal)) W6 := ⟨_, rfl⟩
  have er : round V = StableHlo.after (markOps (F := Ideal)) W7 := by
    simp only [round, StableHlo.afterL_cons, StableHlo.afterL_nil, e7, e6, e5, e4, e3, e2, e1, e0]
  -- what the stretches keep
  have k0 : ∀ b ∈ main_v22_5 :: main_v22_6 :: fixed, W0 b = V b := fun b hb => by rw [e0]; exact condOps_keep _ _ hb
  have k1 : ∀ b ∈ main_v22_5 :: main_v22_6 :: fixed, W1 b = V b := fun b hb => by
    rw [e1, pickOps_keep _ _ hb, notOps_keep _ _ hb]; exact k0 b hb
  have k2 : ∀ b ∈ main_while0b_v33 :: main_v22_5 :: main_v22_6 :: fixed, W2 b = W1 b := fun b hb => by
    rw [e2]; exact leftOps_keep _ _ hb
  have k3 : ∀ b ∈ main_while0b_v40 :: main_while0b_v33 :: main_v22_5 :: main_v22_6 :: fixed, W3 b = W2 b := fun b hb => by
    rw [e3]; exact topOps_keep _ _ hb
  have k4 : ∀ b ∈ main_while0b_v40 :: main_while0b_v47 :: main_while0b_v33 :: main_v22_5 :: main_v22_6 :: fixed, W4 b = W3 b :=
    fun b hb => by rw [e4]; exact rightOps_keep _ _ hb
  have k5 : ∀ b ∈ main_while0b_v40 :: main_while0b_v47 :: main_while0b_v54 :: main_while0b_v33 :: main_v22_5 :: main_v22_6 :: fixed,
      W5 b = W4 b := fun b hb => by rw [e5]; exact bottomOps_keep _ _ hb
  have k6 : ∀ b ∈ main_while0b_v33 :: main_v22_5 :: main_v22_6 :: fixed, W6 b = W5 b := fun b hb => by
    rw [e6]; exact meetOps_keep _ _ hb
  have k7 : ∀ b ∈ main_while0b_v33 :: main_v22_6 :: fixed, W7 b = W6 b := fun b hb => by
    rw [e7]; exact overOps_keep _ _ hb
  -- the chosen position
  have p1 : (W1 main_while0b_v33 : IVec S_ 32) = fun _ => BitVec.ofNat 32 p.val := by
    rw [e1]
    refine pick_apply W0 p ?_ fun q hq => ?_
    · rw [k0 main_v22_5 (by simp)]; exact hp
    · rw [k0 main_v22_5 (by simp)]; exact hmin q hq
  have p2 : (W2 main_while0b_v33 : IVec S_ 32) = fun _ => BitVec.ofNat 32 p.val := by rw [k2 _ (by simp)]; exact p1
  have p3 : (W3 main_while0b_v33 : IVec S_ 32) = fun _ => BitVec.ofNat 32 p.val := by rw [k3 _ (by simp)]; exact p2
  have p4 : (W4 main_while0b_v33 : IVec S_ 32) = fun _ => BitVec.ofNat 32 p.val := by rw [k4 _ (by simp)]; exact p3
  have p5 : (W5 main_while0b_v33 : IVec S_ 32) = fun _ => BitVec.ofNat 32 p.val := by rw [k5 _ (by simp)]; exact p4
  have p6 : (W6 main_while0b_v33 : IVec S_ 32) = fun _ => BitVec.ofNat 32 p.val := by rw [k6 _ (by simp)]; exact p5
  have p7 : (W7 main_while0b_v33 : IVec S_ 32) = fun _ => BitVec.ofNat 32 p.val := by rw [k7 _ (by simp)]; exact p6
  -- the corners of the meeting rectangle
  have cl : entry (W5 main_while0b_v40) q = max (X p 0) (X q 0) := by
    rw [k5 _ (by simp), k4 _ (by simp), k3 _ (by simp), e2, left_apply W1 p p1 q, k1 main_v22_0 (by simp), hc.left, hc.left]
  have ct : entry (W5 main_while0b_v47) q = min (X p 1) (X q 1) := by
    rw [k5 _ (by simp), k4 _ (by simp), e3, top_apply W2 p p2 q, k2 main_v22_1 (by simp), k1 main_v22_1 (by simp), hc.top, hc.top]
  have cr : entry (W5 main_while0b_v54) q = min (X p 2) (X q 2) := by
    rw [k5 _ (by simp), e4, right_apply W3 p p3 q, k3 main_v22_2 (by simp), k2 main_v22_2 (by simp), k1 main_v22_2 (by simp),
      hc.right, hc.right]
  have cb : entry (W5 main_while0b_v61) q = max (X p 3) (X q 3) := by
    rw [e5, bottom_apply W4 p p4 q, k4 main_v22_3 (by simp), k3 main_v22_3 (by simp), k2 main_v22_3 (by simp),
      k1 main_v22_3 (by simp), hc.bottom, hc.bottom]
  have cm : entry (W6 main_while0b_v66) q = inter (X p) (X q) := by
    rw [e6, meet_apply W5 q, cl, ct, cr, cb]; rfl
  have ka : ∀ b ∈ main_v22_5 :: main_v22_6 :: fixed, W6 b = V b := fun b hb => by
    have h3 := List.mem_cons_of_mem main_while0b_v33 hb
    rw [k6 _ h3, k5 _ (List.mem_cons_of_mem _ (List.mem_cons_of_mem _ (List.mem_cons_of_mem _ h3))),
      k4 _ (List.mem_cons_of_mem _ (List.mem_cons_of_mem _ h3)), k3 _ (List.mem_cons_of_mem _ h3), k2 _ h3, k1 _ hb]
  have co : (W7 main_while0b_v78 : IVec S5000 1) (ix1 q) = 1#1 ↔ gone V q ∨ over (X p) (X q) := by
    rw [e7, over_apply W6 p p6 q (inter (X p) (X q)) (area (X p)) (area (X q)) cm
      (by rw [ka main_v22_4 (by simp)]; exact hc.area p) (by rw [ka main_v22_4 (by simp)]; exact hc.area q), ka main_v22_5 (by simp)]
    rfl
  have hs : (W7 main_while0b_v79 : IVec S_ 1) = cmpi .slt (W7 main_while0b_v33 : IVec S_ 32) (constantI S_ 32 0#32) := by
    rw [k7 main_while0b_v33 (by simp), e7]; exact over_sign W6 p p6
  obtain ⟨m5, m6⟩ := mark_apply W7 p p7 hs q
  unfold gone marked
  rw [er, m5, m6, k7 main_v22_6 (by simp), ka main_v22_6 (by simp)]
  by_cases hqp : q = p
  · simp [hqp]
  · simp only [if_neg hqp, hqp, false_or]
    exact ⟨co, Iff.rfl⟩

/-! ## All the trips -/

variable (W₀ : Dev nD → Valuation τ sig (Elt Ideal)) (c : Dev nD)

/-- The buffers before the `k`-th run of the condition. -/
abbrev trip (k : ℕ) : Valuation τ sig (Elt Ideal) := StableHlo.atTrip (condOps (F := Ideal)) (bodyI (F := Ideal)) W₀ k c

/-- No trip changes the columns, the order or the arguments. -/
theorem trip_keep (b : Ref sig .tc) (hb : b ∈ fixed) : ∀ k, trip W₀ c k b = W₀ c b
  | 0 => rfl
  | k + 1 => (round_keep _ b hb).trans (trip_keep b hb k)

variable {X : Fin 5000 → Fin 5 → EReal}

/-- So the columns are in place before every trip. -/
theorem trip_cols (hc : Cols (W₀ c) X) (k : ℕ) : Cols (trip W₀ c k) X := by
  refine ⟨fun q => ?_, fun q => ?_, fun q => ?_, fun q => ?_, fun q => ?_⟩
  · rw [trip_keep W₀ c _ (by simp) k]; exact hc.left q
  · rw [trip_keep W₀ c _ (by simp) k]; exact hc.top q
  · rw [trip_keep W₀ c _ (by simp) k]; exact hc.right q
  · rw [trip_keep W₀ c _ (by simp) k]; exact hc.bottom q
  · rw [trip_keep W₀ c _ (by simp) k]; exact hc.area q

/-- Where a position is left there is a first one. -/
theorem first_left (V : Valuation τ sig (Elt Ideal)) (h : ∃ p, ¬ gone V p) : ∃ p, ¬ gone V p ∧ ∀ q : Fin 5000, q < p → gone V q := by
  obtain ⟨p, hp, hmin⟩ := WellFounded.has_min (wellFounded_lt (α := Fin 5000)) {p | ¬ gone V p} h
  exact ⟨p, hp, fun q hq => by by_contra hn; exact hmin q hn hq⟩

/-- The loop comes to a trip count at which every position is suppressed: each trip suppresses one more. -/
theorem exists_end (hc : Cols (W₀ c) X) : ∃ n, ∀ q, gone (trip W₀ c n) q := by
  by_contra hno
  have hno : ∀ k, ∃ q, ¬ gone (trip W₀ c k) q := fun k => by
    by_contra h; exact hno ⟨k, fun q => by by_contra hq; exact h ⟨q, hq⟩⟩
  have hcard : ∀ k, k ≤ (Finset.univ.filter fun q => gone (trip W₀ c k) q).card := by
    intro k
    induction k with
    | zero => exact Nat.zero_le _
    | succ k ih =>
      obtain ⟨p, hp, hmin⟩ := first_left _ (hno k)
      refine Nat.succ_le_of_lt (ih.trans_lt (Finset.card_lt_card ?_))
      refine Finset.ssubset_iff_of_subset (fun q hq => ?_) |>.mpr ⟨p, ?_, ?_⟩
      · rw [Finset.mem_filter] at hq ⊢
        exact ⟨hq.1, ((round_marks _ X (trip_cols W₀ c hc k) p hp hmin q).1).mpr (Or.inr (Or.inl hq.2))⟩
      · rw [Finset.mem_filter]
        exact ⟨Finset.mem_univ _, ((round_marks _ X (trip_cols W₀ c hc k) p hp hmin p).1).mpr (Or.inl rfl)⟩
      · rw [Finset.mem_filter]; exact fun h => hp h.2
  have h := (hcard 5001).trans (Finset.card_le_univ _)
  rw [Fintype.card_fin] at h
  omega

/-- Suppression among positions: the earlier one overlaps the later too much. -/
abbrev beats (X : Fin 5000 → Fin 5 → EReal) : Fin 5000 → Fin 5000 → Prop := fun a b => over (X a) (X b) ∧ a.val < b.val

/-- While positions are left the marks are those of the scan. -/
theorem trip_scan (hc : Cols (W₀ c) X) (h5 : ∀ q, ¬ gone (W₀ c) q) (h6 : ∀ q, ¬ marked (W₀ c) q) :
    ∀ k, (∀ j, j < k → ∃ p, ¬ gone (trip W₀ c j) p) → ∃ f, Nms.Scan (beats X) (gone (trip W₀ c k)) (marked (trip W₀ c k)) f
  | 0, _ => by
    refine ⟨0, ?_⟩
    have e5 : gone (trip W₀ c 0) = fun _ => False := funext fun q => eq_false (h5 q)
    have e6 : marked (trip W₀ c 0) = fun _ => False := funext fun q => eq_false (h6 q)
    rw [e5, e6]; exact Nms.Scan.start _
  | k + 1, hleft => by
    obtain ⟨f, hf⟩ := trip_scan hc h5 h6 k fun j hj => hleft j (by omega)
    obtain ⟨p, hp, hmin⟩ := first_left _ (hleft k (by omega))
    have hr := round_marks _ X (trip_cols W₀ c hc k) p hp hmin
    refine ⟨p.val + 1, Nms.Scan.visit (fun a b h => h.2) hf p hp (fun q hq => hmin q hq) (fun q _ h => ?_) (fun q hq => ?_)
      fun q => ((hr q).2).trans or_comm⟩
    · exact ((hr q).1).mpr (h.elim (fun h => Or.inr (Or.inl h)) Or.inl)
    · have hne : q ≠ p := fun e => by rw [e] at hq; exact lt_irrefl _ hq
      rw [show gone (trip W₀ c (k + 1)) q ↔ _ from (hr q).1]
      constructor
      · rintro (h | h | h)
        · exact absurd h hne
        · exact Or.inl h
        · exact Or.inr ⟨h, hq⟩
      · rintro (h | h)
        · exact Or.inr (Or.inl h)
        · exact Or.inr (Or.inr h.1)

/-- The loop makes some number `n` of trips — a position is left before each of them and none after —, and then exactly the
    positions that greedy suppression keeps are marked. -/
theorem trips (hc : Cols (W₀ c) X) (h5 : ∀ q, ¬ gone (W₀ c) q) (h6 : ∀ q, ¬ marked (W₀ c) q) :
    ∃ n, (∀ k, k ≤ n → ((∃ p, ¬ gone (trip W₀ c k) p) ↔ k < n))
      ∧ ∀ q, marked (trip W₀ c n) q ↔ Nms.keep (beats X) (fun q => q.val) q := by
  have hex := exists_end W₀ c hc
  refine ⟨Nat.find hex, fun k hk => ⟨fun ⟨p, hp⟩ => ?_, fun hlt => ?_⟩, fun q => ?_⟩
  · rcases Nat.lt_or_eq_of_le hk with h | h
    · exact h
    · exact absurd (Nat.find_spec hex p) (by rw [← h]; exact hp)
  · have := Nat.find_min hex hlt
    by_contra hn
    exact this fun q => by by_contra hq; exact hn ⟨q, hq⟩
  · obtain ⟨f, hf⟩ := trip_scan W₀ c hc h5 h6 (Nat.find hex) fun j hj => by
      have := Nat.find_min hex hj
      by_contra hn
      exact this fun q => by by_contra hq; exact hn ⟨q, hq⟩
    exact hf.done (fun a b h => h.2) (Nat.find_spec hex) q

end Cert.Proof.ReferenceIdeal
end
-- ==== Proof.Sorted.lean ====
/-
  The order in which the reference visits the boxes.

  The reference sorts the positions by the negated scores, and the sort is stable: of two equal scores the earlier box
  stays first. So the sorted order is by score downwards, then by position.
-/
module
public import proofs.«01_k».proof.Proof.Gen.ReferenceIdeal
public import Idealize.ShloMosaic.Lib.SortPrefix
public import Idealize.ShloMosaic.PureOps.Ideal.Laws
@[expose] public section
noncomputable section
namespace Cert.Proof.Sorted
open Idealize.ShloMosaic

/-- A comparison completed by the position where it decides nothing. -/
def withPos {n : ℕ} (R : Fin n → Fin n → Bool) : Fin n → Fin n → Bool := fun a b => R a b || (!R b a && decide (a < b))

/-- On a list whose positions ascend the stable sort is the sort by the completed comparison. -/
theorem stableSort_withPos {n : ℕ} (R : Fin n → Fin n → Bool) (l : List (Fin n)) (hl : l.Pairwise (· < ·)) :
    stableSort R l = stableSort (withPos R) l := by
  induction l with
  | nil => rfl
  | cons a l ih =>
    obtain ⟨ha, hl⟩ := List.pairwise_cons.1 hl
    unfold stableSort
    rw [ih hl]
    refine insertBefore_congr _ _ _ _ fun b hb => ?_
    have hab : a < b := ha b ((perm_stableSort _ l).mem_iff.1 hb)
    simp [withPos, not_lt.2 hab.le]

/-- Comparison of keys, completed by the position, is a strict total order. -/
theorem withPos_total {n : ℕ} (key : Fin n → EReal) (R : Fin n → Fin n → Bool) (hR : ∀ a b, R a b = true ↔ key a < key b) :
    StrictTotalBefore (withPos R) := by
  have e : ∀ a b, withPos R a b = true ↔ key a < key b ∨ (key a = key b ∧ a < b) := fun a b => by
    have hn : R b a = false ↔ ¬ key b < key a := by rw [← hR b a]; simp
    simp only [withPos, Bool.or_eq_true, Bool.and_eq_true, Bool.not_eq_true', decide_eq_true_eq, hR, hn]
    constructor
    · rintro (h | ⟨h, h'⟩)
      · exact Or.inl h
      · rcases lt_or_eq_of_le (not_lt.1 h) with g | g
        · exact Or.inl g
        · exact Or.inr ⟨g, h'⟩
    · rintro (h | ⟨h, h'⟩)
      · exact Or.inl h
      · exact Or.inr ⟨h ▸ lt_irrefl _, h'⟩
  refine ⟨fun a => ?_, fun a b c hab hbc => ?_, fun a b hne => ?_⟩
  · rw [← Bool.not_eq_true, e]; rintro (h | ⟨-, h⟩) <;> exact lt_irrefl _ h
  · rw [e] at *
    rcases hab with h | ⟨h, h'⟩ <;> rcases hbc with g | ⟨g, g'⟩
    · exact Or.inl (h.trans g)
    · exact Or.inl (g ▸ h)
    · exact Or.inl (h ▸ g)
    · exact Or.inr ⟨h.trans g, h'.trans g'⟩
  · rw [e, e]
    rcases lt_trichotomy (key a) (key b) with h | h | h
    · exact Or.inl (Or.inl h)
    · rcases lt_or_gt_of_ne hne with g | g
      · exact Or.inl (Or.inr ⟨h, g⟩)
      · exact Or.inr (Or.inr ⟨h.symm, g⟩)
    · exact Or.inr (Or.inl h)

/-- In the stable sort by a key an earlier place holds the smaller key, or the same key and the smaller position. -/
theorem sortedFrom_lt {n : ℕ} (key : Fin n → EReal) (R : Fin n → Fin n → Bool) (hR : ∀ a b, R a b = true ↔ key a < key b)
    {i j : Fin n} (hij : i < j) :
    key (sortedFrom R i) < key (sortedFrom R j)
      ∨ (key (sortedFrom R i) = key (sortedFrom R j) ∧ sortedFrom R i < sortedFrom R j) := by
  have hs : sortPositions n R = sortPositions n (withPos R) := stableSort_withPos R _ (List.pairwise_lt_finRange n)
  have hB := withPos_total key R hR
  have hp : (sortPositions n R).Pairwise fun a b => withPos R b a = false := hs ▸ hB.sorted_stableSort _
  have h1 : withPos R (sortedFrom R j) (sortedFrom R i) = false := by
    rw [List.pairwise_iff_getElem] at hp
    exact hp i.val j.val (by rw [length_sortPositions]; exact i.isLt) (by rw [length_sortPositions]; exact j.isLt) hij
  have hne : sortedFrom R i ≠ sortedFrom R j := fun h => hij.ne (sortedFrom_injective R h)
  have h2 : withPos R (sortedFrom R i) (sortedFrom R j) = true :=
    (hB.total _ _ hne).resolve_right (by rw [h1]; exact Bool.false_ne_true)
  have hn : R (sortedFrom R j) (sortedFrom R i) = false ↔ ¬ key (sortedFrom R j) < key (sortedFrom R i) := by
    rw [← hR]; simp
  simp only [withPos, Bool.or_eq_true, Bool.and_eq_true, Bool.not_eq_true', decide_eq_true_eq, hR, hn] at h2
  rcases h2 with h | ⟨h, h'⟩
  · exact Or.inl h
  · rcases lt_or_eq_of_le (not_lt.1 h) with g | g
    · exact Or.inl g
    · exact Or.inr ⟨g, h'⟩

/-- The reference's comparison of two keys with their positions is the comparison of the keys. -/
theorem comparator_iff (a b : Ideal .f32) (u v : BitVec 32) :
    Cert.ReferenceIdeal.comparator_f32_i32_d0 (a, u) (b, v) = 1#1 ↔ (a : EReal) < b := by
  have une : ∀ x : Ideal .f32, FloatOps.cmpf .une x x = 0#1 := fun x => by
    show BitVec.ofBool (decide ((x : EReal) ≠ x)) = 0#1
    simp
  have sel : ∀ x : Ideal .f32, Scalar.select (FloatOps.cmpf .oeq x (FloatOps.ofBits .f32 0x00000000#32))
      (FloatOps.ofBits .f32 0x00000000#32) x = x := fun x => by
    show (if BitVec.ofBool (decide ((x : EReal) = _)) = 1#1 then _ else _) = _
    by_cases h : (x : EReal) = (FloatOps.ofBits (F := Ideal) .f32 0x00000000#32 : EReal)
    · rw [if_pos (by simp [h])]; exact h.symm
    · rw [if_neg (by rw [decide_eq_false h]; decide)]
  unfold Cert.ReferenceIdeal.comparator_f32_i32_d0
  simp only [une, sel]
  show BitVec.ofBool (decide ((a : EReal) < b)) = 1#1 ↔ _
  by_cases h : (a : EReal) < b <;> simp [h]

end Cert.Proof.Sorted
end
-- ==== Proof.RefPre.lean ====
/-
  The reference before its loop.

  The positions 0, 1, … are sorted by the negated scores, and the boxes' columns are gathered in that order.
-/
module
public import proofs.«01_k».proof.Proof.RefStep
public import proofs.«01_k».proof.Proof.Sorted
public import Idealize.ShloMosaic.Lib.Routing.Ops
@[expose] public section
noncomputable section
namespace Cert.Proof.ReferenceIdeal
open Cert.ReferenceIdeal Cert.ReferenceIdeal.Gen Cert.Proof.Rel
open Idealize.ShloMosaic
open Idealize.ShloMosaic.TcCoe Idealize.ShloMosaic.Tactic
open Idealize.SL Idealize.SL.Sem
open scoped Classical

variable (V : Valuation τ sig (Elt Ideal))

theorem colOps_keep (b : Ref sig .tc) (hb : b ∈ [main_v1, main_arg0, main_arg1]) : StableHlo.after (colOps (F := Ideal)) V b = V b := by
  refine StableHlo.after_of_forall_not_mem _ _ fun op hop => ?_
  fin_cases hb <;> fin_cases hop <;> exact fun h => StableHlo.devRef_ne_of_ne (by decide) (Finset.mem_singleton.mp h)
theorem sortOps_keep (b : Ref sig .tc) (hb : b ∈ [main_arg0, main_arg1]) : StableHlo.after (sortOps (F := Ideal)) V b = V b := by
  refine StableHlo.after_of_forall_not_mem _ _ fun op hop => ?_
  fin_cases hb <;> fin_cases hop <;> exact fun h => StableHlo.devRef_ne_of_ne (by decide) (Finset.mem_singleton.mp h)
theorem negOps_keep (b : Ref sig .tc) (hb : b ∈ [main_arg0, main_arg1]) : StableHlo.after (negOps (F := Ideal)) V b = V b := by
  refine StableHlo.after_of_forall_not_mem _ _ fun op hop => ?_
  fin_cases hb <;> fin_cases hop <;> exact fun h => StableHlo.devRef_ne_of_ne (by decide) (Finset.mem_singleton.mp h)

/-- A row of 5000 numbers, entry by entry. -/
abbrev num (x : FVec Ideal S5000 .f32) (j : S5000.Idx) : EReal := x j

/-- The box at each position, in the order of the negated scores `x`. -/
def sigma (S : FVec Ideal S5000 .f32) : Fin 5000 → Fin 5000 :=
  sortedFrom fun k k' => comparator_f32_i32_d0 (F := Ideal) (-(S (ix1 k) : EReal), BitVec.ofNat 32 k.val)
    (-(S (ix1 k') : EReal), BitVec.ofNat 32 k'.val) == 1#1

/-- The second row of a sort of two rows, entry by entry. -/
theorem pair_sort_apply {n : Nat} {α β : Type} (cmp : α × β → α × β → BitVec 1) (x : (⟨1, ![n]⟩ : Shape).Idx → α) (y : (⟨1, ![n]⟩ : Shape).Idx → β)
    (j : (⟨1, ![n]⟩ : Shape).Idx) : (Host.sort2 ⟨1, ![n]⟩ 0 cmp x y).2 j
      = y (Shape.Idx.ofFin (sortedFrom (fun k k' => cmp (x (Shape.Idx.ofFin k), y (Shape.Idx.ofFin k)) (x (Shape.Idx.ofFin k'), y (Shape.Idx.ofFin k')) == 1#1) (j 0))) := by
  unfold Host.sort2
  simp

/-- Where the second row holds the positions: the position that the sort puts at `q`. -/
theorem pair_sort_pos {n : Nat} {α : Type} (cmp : α × BitVec 32 → α × BitVec 32 → BitVec 1) (x : (⟨1, ![n]⟩ : Shape).Idx → α) (q : Fin n) :
    (Host.sort2 ⟨1, ![n]⟩ 0 cmp x (iotaInDim ⟨1, ![n]⟩ 32 0)).2 (ix1 q)
      = BitVec.ofNat 32 (sortedFrom (fun k k' : Fin n => cmp (x (ix1 k), BitVec.ofNat 32 k.val) (x (ix1 k'), BitVec.ofNat 32 k'.val) == 1#1) q).val := by
  rw [pair_sort_apply]
  have hp : ∀ k : Fin n, (Shape.Idx.ofFin k : (⟨1, ![n]⟩ : Shape).Idx) = ix1 k := fun k => (Shape.Idx.eq_ofFin (ix1 k)).symm
  simp only [hp]
  rfl

/-- The sorted positions. -/
theorem sort_apply (q : Fin 5000) :
    (StableHlo.after (sortOps (F := Ideal)) (StableHlo.after (negOps (F := Ideal)) V) main_v1 : IVec S5000 32) (ix1 q)
      = BitVec.ofNat 32 (sigma (V main_arg1)  q).val := by
  have e0 : (StableHlo.after (negOps (F := Ideal)) V main_v0 : FVec Ideal S5000 .f32)
      = fun j => -(num (V main_arg1) j) := by
    after_results
    rfl
  generalize StableHlo.after (negOps (F := Ideal)) V = W at e0
  have e : (StableHlo.after (sortOps (F := Ideal)) W main_v1 : IVec S5000 32)
      = (Host.sort2 S5000 0 (comparator_f32_i32_d0 (F := Ideal)) (W main_v0 : FVec Ideal S5000 .f32) (iotaInDim S5000 32 0)).2 := by
    after_results
    simp only [StableHlo.TRef.ofBuf, StableHlo.TRef.toBuf, cast_cast, cast_eq]
    try rfl
  rw [e, e0]
  exact pair_sort_pos (n := 5000) _ _ q

/-- The sorted order runs through the boxes from the highest score down, ties by their places. -/
theorem sigma_lt (S : FVec Ideal S5000 .f32) {i j : Fin 5000} (h : i < j) :
    (S (ix1 (sigma S j)) : EReal) < S (ix1 (sigma S i))
      ∨ ((S (ix1 (sigma S i)) : EReal) = S (ix1 (sigma S j)) ∧ sigma S i < sigma S j) := by
  have hk := Sorted.sortedFrom_lt (fun k : Fin 5000 => -(S (ix1 k) : EReal))
    (fun k k' => comparator_f32_i32_d0 (F := Ideal) (-(S (ix1 k) : EReal), BitVec.ofNat 32 k.val)
      (-(S (ix1 k') : EReal), BitVec.ofNat 32 k'.val) == 1#1)
    (fun a b => by rw [beq_iff_eq]; exact Sorted.comparator_iff _ _ _ _) h
  rcases hk with hk | ⟨hk, h2⟩
  · exact Or.inl (EReal.neg_lt_neg_iff.mp hk)
  · exact Or.inr ⟨neg_injective hk, h2⟩

/-- Every box has a position. -/
theorem sigma_surjective (S : FVec Ideal S5000 .f32) : Function.Surjective (sigma S) := sortedFrom_surjective _

/-- Each box has one position. -/
theorem sigma_injective (S : FVec Ideal S5000 .f32) : Function.Injective (sigma S) := sortedFrom_injective _

/-- An index word that is not negative is left alone by the wrap of negative indices. -/
theorem words_wrap (w : IVec S5000 32) (q p : Fin 5000) (hp : w (ix1 q) = BitVec.ofNat 32 p.val) (z k : IVec S5000 32) (hz : ∀ j, z j = 0#32) :
    (select (cmpi .slt w z) (addi w k) w) (ix1 q) = BitVec.ofNat 32 p.val := by
  have e := toInt_ofNat_of_lt (show p.val < 2 ^ 31 by have := p.isLt; omega)
  have ez : z = constantI S5000 32 0#32 := funext hz
  rw [ez, select_slt_zero_of_nonneg w _ _ (ix1 q) (by rw [hp]; omega), hp]

/-- The gathered boxes. -/
theorem rows_apply (s : Fin 5000 → Fin 5000) (h1 : ∀ q, (V main_v1 : IVec S5000 32) (ix1 q) = BitVec.ofNat 32 (s q).val) (q : Fin 5000) (y : Fin 4) :
    (StableHlo.after (colOps (F := Ideal)) V main_v8 : FVec Ideal S5000x4 .f32) (ix2 q y) = (V main_arg0 : FVec Ideal S5000x4 .f32) (ix2 (s q) y) := by
  have e : (StableHlo.after (colOps (F := Ideal)) V main_v8 : FVec Ideal S5000x4 .f32)
      = Host.gather gather_S5000x4_S5000x1_S5000x4_1_0_n_n_0_1_14 (V main_arg0 : FVec Ideal S5000x4 .f32)
        (broadcastInDim S5000x1 ![0] bcast_S5000_S5000x1_0
          (select (cmpi .slt (V main_v1 : IVec S5000 32) (broadcastInDim S5000 ![] bcast_S_S5000 (constantI S_ 32 0#32)))
            (addi (V main_v1 : IVec S5000 32) (broadcastInDim S5000 ![] bcast_S_S5000 (constantI S_ 32 5000#32))) (V main_v1))) := by
    after_results
  simp only [ix2_eq_valueIdx]
  rw [e, Routing.gather_row (nb := 5000) (B := 4) (n := 5000) _ rfl rfl rfl rfl rfl _ _ q y (s q) ?_ (by norm_num)]
  refine (Routing.bcCol (n := 5000) _ _ q).trans ?_
  have h := words_wrap _ q (s q) (h1 q) (broadcastInDim S5000 ![] bcast_S_S5000 (constantI S_ 32 0#32))
    (broadcastInDim S5000 ![] bcast_S_S5000 (constantI S_ 32 5000#32)) fun _ => rfl
  rwa [ix1_eq_valueIdx] at h

/-- A column of a table of four columns, as a row. -/
theorem column_apply (x : FVec Ideal S5000x4 .f32) (k : Nat) (hk : k < 4) (h : S5000x4.Slices ![0, k] S5000x1) (hs : S5000x1.ShapeCasts S5000)
    (q : Fin 5000) : entry (shapeCast S5000 (extractStridedSlice S5000x1 ![0, k] x h) hs) q = x (ix2 q ⟨k, hk⟩) := by
  unfold entry
  rw [ix1_eq_valueIdx, ix2_eq_valueIdx]
  refine (shapeCast_apply _ hs _ (ValueIdx.ix2 q (0 : Fin 1)) ?_).trans (extractStridedSlice_apply _ x h _ _ fun a => ?_)
  · rw [Shape.rowMajor_val_two, Shape.rowMajor_val_one]
    show q.val * 1 + 0 = q.val
    omega
  · match a with
    | ⟨0, _⟩ => show q.val = 0 + q.val; omega
    | ⟨1, _⟩ => show k = k + 0; omega

/-- The columns, the areas and the carried marks at the loop's entry. -/
theorem cols_apply (s : Fin 5000 → Fin 5000) (h1 : ∀ q, (V main_v1 : IVec S5000 32) (ix1 q) = BitVec.ofNat 32 (s q).val)
    (X : Fin 5000 → Fin 5 → EReal) (hX : ∀ q, X q 0 = (V main_arg0 : FVec Ideal S5000x4 .f32) (ix2 (s q) 0)
      ∧ X q 1 = (V main_arg0 : FVec Ideal S5000x4 .f32) (ix2 (s q) 3) ∧ X q 2 = (V main_arg0 : FVec Ideal S5000x4 .f32) (ix2 (s q) 2)
      ∧ X q 3 = (V main_arg0 : FVec Ideal S5000x4 .f32) (ix2 (s q) 1)) :
    Cols (StableHlo.after (colOps (F := Ideal)) V) X := by
  have e0 : (StableHlo.after (colOps (F := Ideal)) V main_v22_0 : FVec Ideal S5000 .f32)
      = shapeCast S5000 (extractStridedSlice S5000x1 ![0, 0] (StableHlo.after (colOps (F := Ideal)) V main_v8 : FVec Ideal S5000x4 .f32)
          slices_S5000x4_S5000x1_0_0) shapeCasts_S5000x1_S5000 := by
    after_results
    rfl
  have e1 : (StableHlo.after (colOps (F := Ideal)) V main_v22_1 : FVec Ideal S5000 .f32)
      = shapeCast S5000 (extractStridedSlice S5000x1 ![0, 3] (StableHlo.after (colOps (F := Ideal)) V main_v8 : FVec Ideal S5000x4 .f32)
          slices_S5000x4_S5000x1_0_3) shapeCasts_S5000x1_S5000 := by
    after_results
    rfl
  have e2 : (StableHlo.after (colOps (F := Ideal)) V main_v22_2 : FVec Ideal S5000 .f32)
      = shapeCast S5000 (extractStridedSlice S5000x1 ![0, 2] (StableHlo.after (colOps (F := Ideal)) V main_v8 : FVec Ideal S5000x4 .f32)
          slices_S5000x4_S5000x1_0_2) shapeCasts_S5000x1_S5000 := by
    after_results
    rfl
  have e3 : (StableHlo.after (colOps (F := Ideal)) V main_v22_3 : FVec Ideal S5000 .f32)
      = shapeCast S5000 (extractStridedSlice S5000x1 ![0, 1] (StableHlo.after (colOps (F := Ideal)) V main_v8 : FVec Ideal S5000x4 .f32)
          slices_S5000x4_S5000x1_0_1) shapeCasts_S5000x1_S5000 := by
    after_results
    rfl
  have e4 : (StableHlo.after (colOps (F := Ideal)) V main_v22_4 : FVec Ideal S5000 .f32)
      = fun j => (num (StableHlo.after (colOps (F := Ideal)) V main_v22_2) j - num (StableHlo.after (colOps (F := Ideal)) V main_v22_0) j)
        * (num (StableHlo.after (colOps (F := Ideal)) V main_v22_3) j - num (StableHlo.after (colOps (F := Ideal)) V main_v22_1) j) := by
    after_results
    rfl
  have c0 : ∀ q, entry (StableHlo.after (colOps (F := Ideal)) V main_v22_0) q = X q 0 := fun q => by
    rw [e0, column_apply _ 0 (by norm_num), rows_apply V s h1]; exact (hX q).1.symm
  have c1 : ∀ q, entry (StableHlo.after (colOps (F := Ideal)) V main_v22_1) q = X q 1 := fun q => by
    rw [e1, column_apply _ 3 (by norm_num), rows_apply V s h1]; exact (hX q).2.1.symm
  have c2 : ∀ q, entry (StableHlo.after (colOps (F := Ideal)) V main_v22_2) q = X q 2 := fun q => by
    rw [e2, column_apply _ 2 (by norm_num), rows_apply V s h1]; exact (hX q).2.2.1.symm
  have c3 : ∀ q, entry (StableHlo.after (colOps (F := Ideal)) V main_v22_3) q = X q 3 := fun q => by
    rw [e3, column_apply _ 1 (by norm_num), rows_apply V s h1]; exact (hX q).2.2.2.symm
  refine ⟨c0, c1, c2, c3, fun q => ?_⟩
  have h := congrFun e4 (ix1 q)
  refine h.trans ?_
  show (entry (StableHlo.after (colOps (F := Ideal)) V main_v22_2) q - entry (StableHlo.after (colOps (F := Ideal)) V main_v22_0) q)
    * (entry (StableHlo.after (colOps (F := Ideal)) V main_v22_3) q - entry (StableHlo.after (colOps (F := Ideal)) V main_v22_1) q) = _
  rw [c0, c1, c2, c3]
  rfl

/-- At the loop's entry nothing is suppressed and nothing marked. -/
theorem marks_apply (q : Fin 5000) : ¬ gone (StableHlo.after (colOps (F := Ideal)) V) q ∧ ¬ marked (StableHlo.after (colOps (F := Ideal)) V) q := by
  have e5 : (StableHlo.after (colOps (F := Ideal)) V main_v22_5 : IVec S5000 1) = broadcastInDim S5000 ![] bcast_S_S5000 (constantI S_ 1 0#1) := by
    after_results
    try rfl
  have e6 : (StableHlo.after (colOps (F := Ideal)) V main_v22_6 : IVec S5000 1) = broadcastInDim S5000 ![] bcast_S_S5000 (constantI S_ 1 0#1) := by
    after_results
    try rfl
  unfold gone marked
  rw [e5, e6]
  exact ⟨fun h => by have h : (0#1 : BitVec 1) = 1#1 := h; exact absurd h (by decide), fun h => by have h : (0#1 : BitVec 1) = 1#1 := h; exact absurd h (by decide)⟩

end Cert.Proof.ReferenceIdeal
end
-- ==== Proof.RefPost.lean ====
/-
  The reference after its loop: the marks go back to the places of the boxes.
-/
module
public import proofs.«01_k».proof.Proof.RefPre
public import Idealize.ShloMosaic.Lib.Routing.OpsSet
@[expose] public section
noncomputable section
namespace Cert.Proof.ReferenceIdeal
open Cert.ReferenceIdeal Cert.ReferenceIdeal.Gen Cert.Proof.Rel
open Idealize.ShloMosaic
open Idealize.ShloMosaic.TcCoe Idealize.ShloMosaic.Tactic
open Idealize.SL Idealize.SL.Sem
open scoped Classical

variable (V : Valuation τ sig (Elt Ideal))

theorem backOps_keep (b : Ref sig .tc) (hb : b ∈ [main_arg0, main_arg1]) : StableHlo.after (backOps (F := Ideal)) V b = V b := by
  refine StableHlo.after_of_forall_not_mem _ _ fun op hop => ?_
  fin_cases hb <;> fin_cases hop <;> exact fun h => StableHlo.devRef_ne_of_ne (by decide) (Finset.mem_singleton.mp h)

/-- The result at the box of position `q`: the mark of position `q`, widened. -/
theorem back_apply (s : Fin 5000 → Fin 5000) (hs : Function.Injective s)
    (h1 : ∀ q, (V main_v1 : IVec S5000 32) (ix1 q) = BitVec.ofNat 32 (s q).val) (q : Fin 5000) :
    (StableHlo.after (backOps (F := Ideal)) V main_v31 : IVec S5000 32) (ix1 (s q)) = if marked V q then 1#32 else 0#32 := by
  obtain ⟨idx, hidx⟩ : ∃ idx : IVec S5000x1 32, idx = broadcastInDim S5000x1 ![0] bcast_S5000_S5000x1_0
          (select (cmpi .slt (V main_v1 : IVec S5000 32) (broadcastInDim S5000 ![] bcast_S_S5000 (constantI S_ 32 0#32)))
            (addi (V main_v1 : IVec S5000 32) (broadcastInDim S5000 ![] bcast_S_S5000 (constantI S_ 32 5000#32))) (V main_v1)) := ⟨_, rfl⟩
  have e : (StableHlo.after (backOps (F := Ideal)) V main_v31 : IVec S5000 32)
      = extui 32 (Host.scatter scatter_S5000_S5000x1_S5000_n_0_0_1 (fun _ b => b) (broadcastInDim S5000 ![] bcast_S_S5000 (constantI S_ 1 0#1))
          idx (V main_v22_6 : IVec S5000 1)) natLt_1_32 := by
    rw [hidx]
    after_results
  have hi : ∀ i : Fin 5000, (idx (ValueIdx.ix2 i (0 : Fin 1))).toInt = ((s i).val : Int) := fun i => by
    have h := words_wrap _ i (s i) (h1 i) (broadcastInDim S5000 ![] bcast_S_S5000 (constantI S_ 32 0#32))
      (broadcastInDim S5000 ![] bcast_S_S5000 (constantI S_ 32 5000#32)) fun _ => rfl
    rw [ix1_eq_valueIdx] at h
    rw [hidx, show ∀ w : IVec S5000 32, broadcastInDim S5000x1 ![0] bcast_S5000_S5000x1_0 w (ValueIdx.ix2 i (0 : Fin 1)) = w (ValueIdx.ix1 i)
      from fun w => Routing.bcCol (n := 5000) _ w i, h]
    exact toInt_ofNat_of_lt (by have := (s i).isLt; omega)
  have hw := (Routing.scatter_set_signed (N := 5000) scatter_S5000_S5000x1_S5000_n_0_0_1 rfl rfl rfl
    (broadcastInDim S5000 ![] bcast_S_S5000 (constantI S_ 1 0#1)) idx (V main_v22_6 : IVec S5000 1) (s q)
    ((V main_v22_6 : IVec S5000 1) (ValueIdx.ix1 q)) fun i h => by
      rw [hi i] at h
      rw [hs (Fin.ext (Int.ofNat_inj.mp h))]).1 ⟨q, hi q⟩
  have n1 : ∀ v : BitVec 1, BitVec.setWidth 32 v = if v = 1#1 then 1#32 else 0#32 := by decide
  rw [e]
  unfold marked
  rw [ix1_eq_valueIdx, ix1_eq_valueIdx]
  refine (congrArg (BitVec.setWidth 32) hw).trans ?_
  rw [n1]

end Cert.Proof.ReferenceIdeal
end
-- ==== Proof.Equation.lean ====
/-
  The two ways of keeping boxes agree.

  The kernel decides among 5120 boxes by rank, the reference among 5000 positions in sorted order.  A position stands for
  its box; the 120 boxes of the padding come after every real box and so suppress none.
-/
module
public import proofs.«01_k».proof.Proof.Inputs
public import proofs.«01_k».proof.Proof.Hits
public import proofs.«01_k».proof.Proof.RefPre
@[expose] public section
noncomputable section
namespace Cert.Proof.Equation
open Cert.Proof.Rel Cert.Proof.ReferenceIdeal
open Idealize.ShloMosaic
open Cert.Proof.KernelIdeal (boxes)
open Cert.ReferenceIdeal (S5000 S5000x4)
open scoped Classical

variable (A : FVec Ideal S5000x4 .f32) (S : FVec Ideal S5000 .f32)

/-- The boxes in the order of their scores. -/
abbrev sorted : Fin 5000 → Fin 5 → EReal := fun q => boxes A S (sigma S q)

/-- Whether box `b` is kept. -/
abbrev keeps (b : Fin 5120) : Prop :=
  Nms.keep (Cert.Proof.KernelIdeal.sup (boxes A S)) (rankOf (boxes A S) 5120) b

/-- The box at a position, among the 5120. -/
def place (q : Fin 5000) : Fin 5120 := Fin.castLE (by norm_num) (sigma S q)

theorem place_val (q : Fin 5000) : (place S q).val = (sigma S q).val := by
  unfold place
  exact Fin.val_castLE _ _

theorem boxes_score (b : Fin 5000) : boxes A S b 4 = S (ix1 b) := by
  unfold boxes
  rw [dif_pos b.isLt]
  rfl

theorem boxes_corners (b : Fin 5000) : boxes A S b 0 = A (ix2 b 0) ∧ boxes A S b 1 = A (ix2 b 3) ∧ boxes A S b 2 = A (ix2 b 2)
    ∧ boxes A S b 3 = A (ix2 b 1) := by
  unfold boxes
  rw [dif_pos b.isLt]
  exact ⟨rfl, rfl, rfl, rfl⟩

theorem boxes_pad (b : ℕ) (hb : 5000 ≤ b) : boxes A S b 4 = ⊥ := by
  unfold boxes
  rw [dif_neg (by omega)]
  rfl

/-- An earlier position's box comes before a later one's. -/
theorem before_of_lt {a b : Fin 5000} (h : a < b) : before (boxes A S) (sigma S a) (sigma S b) := by
  unfold before
  rw [boxes_score, boxes_score]
  exact (sigma_lt S h).imp id fun ⟨e, l⟩ => ⟨e, l⟩

/-- The order of the positions is that of their boxes. -/
theorem before_iff_lt (a b : Fin 5000) : before (boxes A S) (sigma S a) (sigma S b) ↔ a.val < b.val := by
  refine ⟨fun h => ?_, fun h => before_of_lt A S h⟩
  rcases lt_trichotomy a b with hl | he | hg
  · exact hl
  · rw [he] at h; exact absurd h (before_irrefl _ _)
  · exact absurd (before_trans _ h (before_of_lt A S hg)) (before_irrefl _ _)

/-- A box of the padding comes before no real box. -/
theorem pad_not_before (a : ℕ) (ha : 5000 ≤ a) (b : Fin 5000) : ¬ before (boxes A S) a b := by
  unfold before
  rw [boxes_pad A S a ha]
  rintro (h | ⟨-, h⟩)
  · exact not_lt_bot h
  · have := b.isLt; omega

/-- A position is kept by the scan exactly when its box is kept. -/
theorem keeps_iff (q : Fin 5000) :
    keeps A S (place S q) ↔ Nms.keep (beats (sorted A S)) (fun q => q.val) q := by
  have hS : ∀ a b : Fin 5120, KernelIdeal.sup (boxes A S) a b → rankOf (boxes A S) 5120 a < rankOf (boxes A S) 5120 b :=
    fun a b h => rankOf_mono (boxes A S) 5120 h.2
  have hT : ∀ a b : Fin 5000, beats (sorted A S) a b → a.val < b.val := fun a b h => h.2
  have hcl : ∀ (a : Fin 5120) (b : Fin 5000), KernelIdeal.sup (boxes A S) a (place S b) → ∃ a', place S a' = a := fun a b h => by
    have h2 : before (boxes A S) a (place S b) := h.2
    rw [place_val] at h2
    rcases Nat.lt_or_ge a.val 5000 with ha | ha
    · obtain ⟨a', e⟩ := sigma_surjective S ⟨a.val, ha⟩
      refine ⟨a', Fin.ext ?_⟩
      rw [place_val, e]
    · exact absurd h2 (pad_not_before A S a.val ha (sigma S b))
  have hf : ∀ a b : Fin 5000, beats (sorted A S) a b ↔ KernelIdeal.sup (boxes A S) (place S a) (place S b) := fun a b => by
    unfold KernelIdeal.sup suppresses beats sorted
    rw [place_val, place_val, before_iff_lt]
  exact Nms.keep_embed hS hT (place S) hcl hf q

end Cert.Proof.Equation
end
-- ==== Proof.RefRun.lean ====
/-
  The reference's run: the sort, the loop's trips, the marks sent back.
-/
module
public import proofs.«01_k».proof.Proof.RefPost
public import proofs.«01_k».proof.Proof.Equation
public import Idealize.ShloMosaic.Lib.Quiescent
public import Idealize.ShloMosaic.Lib.StableHlo.RunHlo
@[expose] public section
noncomputable section
namespace Cert.Proof.ReferenceIdeal
open Cert.ReferenceIdeal Cert.ReferenceIdeal.Gen Cert.Proof.Rel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held)
open Idealize.ShloMosaic.Pipeline (sub_ucRefs)
open scoped Classical

/-- The condition runs its three operations, and answers whether a position is left. -/
theorem cond_spec (W₀ : Dev nD → Valuation τ sig (Elt Ideal)) (n : ℕ)
    (hn : ∀ k, k ≤ n → ∀ c, (∃ p, ¬ gone (trip W₀ c k) p) ↔ k < n) :
    StableHlo.CondSpec (pcfgs (F := Ideal)) defs₀ loops main_while0_cond condOps bodyI W₀ n := by
  intro k hk c bd
  simp only [main_while0_cond, bind_pure]
  rw [wp_bind]
  iintro ⟨Hb, Hh⟩
  iapply (StableHlo.wp_hlo_within (Variants.lift Variants.none) (c : Thread nD τ) bd Set.univ (sub_ucRefs _ (StableHlo.unary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt
  rw [wp_ret]; imodintro
  isplitr
  · ipureintro
    have h := cond_apply (trip W₀ c k) HostLoop.idx0
    rw [StableHlo.after_cons, StableHlo.after_cons, StableHlo.after_cons, StableHlo.after_nil] at h
    exact h.trans (hn k hk c)
  isplitl [Hb]; · iexact Hb
  rw [StableHlo.after_cons, StableHlo.after_cons, StableHlo.after_cons, StableHlo.after_nil]; iexact Hh

variable (m : (ℓ : Loc nD τ sig) → Buf (Elt Ideal) ℓ)

/-- The first argument, the boxes. -/
abbrev argA (c : Dev nD) : FVec Ideal S5000x4 .f32 := m ((c.tc : Thread nD τ).loc main_arg0)
/-- The second argument, the scores. -/
abbrev argS (c : Dev nD) : FVec Ideal S5000 .f32 := m ((c.tc : Thread nD τ).loc main_arg1)
/-- The buffers at the loop's entry. -/
abbrev W₀ (c : Dev nD) : Valuation τ sig (Elt Ideal) := StableHlo.entryContents (preI (F := Ideal)) m c

/-- The arguments at the loop's entry. -/
theorem entry_args (c : Dev nD) (b : Ref sig .tc) (hb : b ∈ [main_arg0, main_arg1]) : W₀ m c b = m ((c.tc : Thread nD τ).loc b) := by
  simp only [W₀, StableHlo.entryContents, StableHlo.afterL_cons, StableHlo.afterL_nil]
  rw [colOps_keep _ b (List.mem_cons_of_mem _ hb), sortOps_keep _ b hb, negOps_keep _ b hb]

/-- The order at the loop's entry. -/
theorem entry_order (c : Dev nD) (q : Fin 5000) : (W₀ m c main_v1 : IVec S5000 32) (ix1 q) = BitVec.ofNat 32 (sigma (argS m c) q).val := by
  simp only [W₀, StableHlo.entryContents, StableHlo.afterL_cons, StableHlo.afterL_nil]
  rw [colOps_keep _ main_v1 (by simp)]
  exact sort_apply (StableHlo.launchContents m c) q

/-- The columns at the loop's entry. -/
theorem entry_cols (c : Dev nD) : Cols (W₀ m c) (Equation.sorted (argA m c) (argS m c)) := by
  simp only [W₀, StableHlo.entryContents, StableHlo.afterL_cons, StableHlo.afterL_nil]
  obtain ⟨V, hV⟩ : ∃ V, V = StableHlo.after (sortOps (F := Ideal)) (StableHlo.after (negOps (F := Ideal)) (StableHlo.launchContents m c)) := ⟨_, rfl⟩
  rw [← hV]
  refine cols_apply V (sigma (argS m c)) (fun q => by rw [hV]; exact sort_apply (StableHlo.launchContents m c) q) _ fun q => ?_
  have ha : (V main_arg0 : FVec Ideal S5000x4 .f32) = argA m c := by
    rw [hV, sortOps_keep _ main_arg0 (by simp), negOps_keep _ main_arg0 (by simp)]
  rw [ha]
  exact Equation.boxes_corners (argA m c) (argS m c) (sigma (argS m c) q)

/-- Nothing is suppressed or marked at the loop's entry. -/
theorem entry_marks (c : Dev nD) (q : Fin 5000) : ¬ gone (W₀ m c) q ∧ ¬ marked (W₀ m c) q := by
  simp only [W₀, StableHlo.entryContents, StableHlo.afterL_cons, StableHlo.afterL_nil]
  exact marks_apply _ q

/-- The reference's result: a one for each box that is kept. -/
def result (c : Dev nD) : IVec S5000 32 := fun j =>
  if Equation.keeps (argA m c) (argS m c) ⟨(j 0 : ℕ), lt_trans (j 0).isLt (by decide)⟩ then 1#32 else 0#32

/-- The reference runs, ends with the flags of the kept boxes, leaves its arguments, and has every counter at zero. -/
theorem run_main (ρ : Dev nD → PrngReg) :
    θ_run (defs (F := Ideal)) (onTc (τ := τ) (main (F := Ideal))) ⟨m, fun _ => 0, ρ⟩
      (fun r => (∀ c : Dev nD, r.2.mem ((c.tc : Thread nD τ).loc main_v31) = result m c
        ∧ r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) := by
  obtain ⟨n, hn, hk⟩ := trips (W₀ m) (0 : Dev nD) (entry_cols m 0) (fun q => (entry_marks m 0 q).1) (fun q => (entry_marks m 0 q).2)
  have hc0 : ∀ c : Dev nD, c = 0 := fun c => Subsingleton.elim c 0
  refine θ_run_mono (StableHlo.run_loop (pcfgs (F := Ideal)) defs₀ loops main 0 main_while0_cond main_while0_body rfl preI bodyI postI condOps
    preI_plain bodyI_plain postI_plain main_chain body_chain n m ρ
    (cond_spec (W₀ m) n fun k hkn c => by rw [hc0 c]; exact hn k hkn)) fun r hr => ⟨fun c => ?_, sem_eq_zero_of_no_sems (by decide) _⟩
  have keepArg : ∀ b ∈ [main_arg0, main_arg1], StableHlo.finalContents (condOps (F := Ideal)) preI bodyI postI n m c (Proc.devRef .tc b)
      = m ((c.tc : Thread nD τ).loc b) := fun b hb => by
    have hf : b ∈ fixed := by simp only [List.mem_cons, List.not_mem_nil, or_false] at hb ⊢; tauto
    show StableHlo.after (backOps (F := Ideal)) (StableHlo.after (condOps (F := Ideal)) (trip (W₀ m) c n)) b = _
    rw [backOps_keep _ b hb, condOps_keep _ b (List.mem_cons_of_mem _ (List.mem_cons_of_mem _ hf)), trip_keep _ _ b hf n]
    exact entry_args m c b hb
  refine ⟨(hr c main_v31 rfl).trans ?_, (hr c main_arg0 rfl).trans (keepArg _ (by simp)), (hr c main_arg1 rfl).trans (keepArg _ (by simp))⟩
  show (StableHlo.after (backOps (F := Ideal)) (StableHlo.after (condOps (F := Ideal)) (trip (W₀ m) c n)) main_v31 : IVec S5000 32) = result m c
  obtain ⟨V, hV⟩ : ∃ V, V = StableHlo.after (condOps (F := Ideal)) (trip (W₀ m) c n) := ⟨_, rfl⟩
  rw [← hV]
  have h1 : ∀ q, (V main_v1 : IVec S5000 32) (ix1 q) = BitVec.ofNat 32 (sigma (argS m c) q).val := fun q => by
    rw [hV, condOps_keep _ main_v1 (by simp), trip_keep _ _ main_v1 (by simp) n]
    exact entry_order m c q
  have h6 : ∀ q, marked V q ↔ Nms.keep (beats (Equation.sorted (argA m c) (argS m c))) (fun q => q.val) q := fun q => by
    unfold marked
    rw [hV, condOps_keep _ main_v22_6 (by simp), hc0 c]
    exact hk q
  funext j
  obtain ⟨q, hq⟩ := sigma_surjective (argS m c) (j 0)
  have hj : j = ix1 (sigma (argS m c) q) := by
    rw [hq]
    funext a
    match a with
    | ⟨0, _⟩ => rfl
  rw [hj, back_apply V _ (sigma_injective _) h1 q]
  exact if_congr ((h6 q).trans (Equation.keeps_iff (argA m c) (argS m c) q).symm) rfl rfl

end Cert.Proof.ReferenceIdeal
end
-- ==== Proof.lean ====
/-
  Greedy non-maximum suppression: the three claims, put together.

  The kernel's run (`Proof/Run.lean`) ends with a one for each box that greedy suppression keeps, decided among 5120 boxes
  by their scores' ranks.  The reference's run (`Proof/RefRun.lean`) ends with a one for each of the same boxes, scanned in
  the order of the scores (`Proof/Equation.lean`).
-/
module
public import proofs.«01_k».proof.Defs
public import proofs.«01_k».proof.Proof.Run
public import proofs.«01_k».proof.Proof.RefRun
public import Idealize.ShloMosaic.Lib.StableHlo.RunHlo
@[expose] public section
noncomputable section
namespace Cert.Proof
open Idealize.ShloMosaic Idealize.SL.Sem

/-- The kernel runs to its end, leaves its arguments, and has every semaphore counter at zero. -/
theorem kernel_frame : Cert.quiescent_KernelIdeal (hKernelIdeal := Cert.KernelIdeal.Gen.facts) :=
  fun m g _ => θ_run_mono (KernelIdeal.run_main m g) fun _ h => ⟨fun c => (h.1 c).2, h.2⟩

/-- The reference runs to its end, leaves its arguments, and has every semaphore counter at zero. -/
theorem reference_frame : Cert.quiescent_ReferenceIdeal (hReferenceIdeal := Cert.ReferenceIdeal.Gen.facts) :=
  fun m g _ => θ_run_mono (ReferenceIdeal.run_main m g) fun _ h => ⟨fun c => (h.1 c).2, h.2⟩

/-- From equal arguments the kernel and the reference keep the same boxes. -/
theorem same_boxes : Cert.algebraic_KernelIdeal_ReferenceIdeal (hKernelIdeal := Cert.KernelIdeal.Gen.facts)
    (hReferenceIdeal := Cert.ReferenceIdeal.Gen.facts) := by
  intro m g m' g' _ hargs
  refine ⟨fun c => KernelIdeal.result m c, θ_run_mono (KernelIdeal.run_main m g) fun _ h => h.1,
    θ_run_mono (ReferenceIdeal.run_main m' g') fun r h c => ⟨(h.1 c).1.trans ?_, (h.1 c).2⟩⟩
  obtain ⟨h0, h1⟩ := hargs c
  have ha : ReferenceIdeal.argA m' c = m ((c.tc : Thread Cert.KernelIdeal.nD Cert.KernelIdeal.τ).loc Cert.KernelIdeal.main_arg0) := h0
  have hs : ReferenceIdeal.argS m' c = m ((c.tc : Thread Cert.KernelIdeal.nD Cert.KernelIdeal.τ).loc Cert.KernelIdeal.main_arg1) := h1
  unfold ReferenceIdeal.result
  rw [ha, hs]
  rfl

/-- All the claims. -/
theorem claim : Cert.Claim :=
  ⟨Cert.KernelIdeal.Gen.facts, Cert.ReferenceIdeal.Gen.facts, kernel_frame, reference_frame, same_boxes⟩

end Cert.Proof
end
